-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
-- ==== Pre_finite_inputs.lean ====
abbrev S32x2048x1024 : Shape := ⟨3, ![32, 2048, 1024]⟩
abbrev S1x1024x9248 : Shape := ⟨3, ![1, 1024, 9248]⟩
abbrev S1x2048 : Shape := ⟨2, ![1, 2048]⟩
abbrev S1x4x4096 : Shape := ⟨3, ![1, 4, 4096]⟩
abbrev S1x4096 : Shape := ⟨2, ![1, 4096]⟩
abbrev S1x32 : Shape := ⟨2, ![1, 32]⟩
abbrev S1x2048x1024 : Shape := ⟨3, ![1, 2048, 1024]⟩
abbrev S1x4x256x256 : Shape := ⟨4, ![1, 4, 256, 256]⟩
abbrev S1x1024 : Shape := ⟨2, ![1, 1024]⟩
abbrev S1x1024x1024 : Shape := ⟨3, ![1, 1024, 1024]⟩
abbrev S_ : Shape := ⟨0, ![]⟩

class Facts : Prop where
  bcast_S_S32x2048x1024 : S_.BroadcastsInDim S32x2048x1024 (![] : Fin 0 → Fin S32x2048x1024.rank)
  bcast_S_S1x1024x9248 : S_.BroadcastsInDim S1x1024x9248 (![] : Fin 0 → Fin S1x1024x9248.rank)

variable [Facts]

def fn {F : FTy → Type} [FloatOps F] (main_arg0 : FVec F S32x2048x1024 .f32) (main_arg1 : FVec F S1x1024x9248 .f32) (main_arg2 : FVec F S1x2048 .f32) (main_arg3 : FVec F S1x4x4096 .f32) (main_arg4 : FVec F S1x4096 .f32) (main_arg5 : FVec F S1x32 .f32) (main_arg6 : FVec F S1x32 .f32) (main_arg7 : FVec F S1x32 .f32) (main_arg8 : FVec F S1x2048 .f32) (main_arg9 : FVec F S1x2048x1024 .f32) (main_arg10 : FVec F S1x4x256x256 .f32) (main_arg11 : FVec F S1x1024 .f32) (main_arg12 : FVec F S1x1024x1024 .f32) (main_arg13 : FVec F S1x1024 .f32) (main_arg14 : FVec F S1x1024 .f32) : IVec S32x2048x1024 1 × IVec S1x1024x9248 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S1x1024x9248 .f32 := Host.absf main_arg1
  let main_cst_0 : FVec F S_ .f32 := constant S_ .f32 0x7F800000#32
  let main_v4 : FVec F S1x1024x9248 .f32 := broadcastInDim S1x1024x9248 ![] bcast_S_S1x1024x9248 main_cst_0
  let main_v5 : IVec S1x1024x9248 1 := cmpf .olt main_v3 main_v4
  (main_v2, main_v5)
-- ==== Kernel.lean ====
abbrev S32x2048x1024 : Shape := ⟨3, ![32, 2048, 1024]⟩
abbrev S1x1024x9248 : Shape := ⟨3, ![1, 1024, 9248]⟩
abbrev S1x2048 : Shape := ⟨2, ![1, 2048]⟩
abbrev S1x4x4096 : Shape := ⟨3, ![1, 4, 4096]⟩
abbrev S1x4096 : Shape := ⟨2, ![1, 4096]⟩
abbrev S1x32 : Shape := ⟨2, ![1, 32]⟩
abbrev S1x2048x1024 : Shape := ⟨3, ![1, 2048, 1024]⟩
abbrev S1x4x256x256 : Shape := ⟨4, ![1, 4, 256, 256]⟩
abbrev S1x1024 : Shape := ⟨2, ![1, 1024]⟩
abbrev S1x1024x1024 : Shape := ⟨3, ![1, 1024, 1024]⟩
abbrev S1024x9248 : Shape := ⟨2, ![1024, 9248]⟩
abbrev S1024x1024 : Shape := ⟨2, ![1024, 1024]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S4x256x256 : Shape := ⟨3, ![4, 256, 256]⟩
abbrev S2048x1024 : Shape := ⟨2, ![2048, 1024]⟩
abbrev S2048 : Shape := ⟨1, ![2048]⟩
abbrev S4x4096 : Shape := ⟨2, ![4, 4096]⟩
abbrev S4096 : Shape := ⟨1, ![4096]⟩
abbrev S32 : Shape := ⟨1, ![32]⟩
abbrev S1x128 : Shape := ⟨2, ![1, 128]⟩
abbrev S32x64 : Shape := ⟨2, ![32, 64]⟩
abbrev S1024 : Shape := ⟨1, ![1024]⟩
abbrev S1x256x1024 : Shape := ⟨3, ![1, 256, 1024]⟩
abbrev S256x1024 : Shape := ⟨2, ![256, 1024]⟩
abbrev S272x1024 : Shape := ⟨2, ![272, 1024]⟩
abbrev S264x4096 : Shape := ⟨2, ![264, 4096]⟩
abbrev S256x4096 : Shape := ⟨2, ![256, 4096]⟩
abbrev S256x2048 : Shape := ⟨2, ![256, 2048]⟩
abbrev S8x128x256 : Shape := ⟨3, ![8, 128, 256]⟩
abbrev S16x1024 : Shape := ⟨2, ![16, 1024]⟩
abbrev S8x4096 : Shape := ⟨2, ![8, 4096]⟩
abbrev S256x1 : Shape := ⟨2, ![256, 1]⟩
abbrev S256x256 : Shape := ⟨2, ![256, 256]⟩
abbrev S1x256x256 : Shape := ⟨3, ![1, 256, 256]⟩
abbrev S1x256 : Shape := ⟨2, ![1, 256]⟩
abbrev S256x512 : Shape := ⟨2, ![256, 512]⟩
abbrev S1x512 : Shape := ⟨2, ![1, 512]⟩
abbrev S256x128 : Shape := ⟨2, ![256, 128]⟩
abbrev S128x256 : Shape := ⟨2, ![128, 256]⟩
abbrev S128x1 : Shape := ⟨2, ![128, 1]⟩
abbrev S1x128x256 : Shape := ⟨3, ![1, 128, 256]⟩
abbrev S1024x256 : Shape := ⟨2, ![1024, 256]⟩
abbrev S256 : Shape := ⟨1, ![256]⟩

abbrev nBuf : Space → Nat
  | .hbm => 63
  | .vmem => 29
  | .smem => 0
  | _ => 0

abbrev bufTy : (tb : Table) → Fin (tcTables nBuf tb) → BufTy
  | .hbm, ⟨0, _⟩ => ⟨S32x2048x1024, .f32⟩
  | .hbm, ⟨1, _⟩ => ⟨S1x1024x9248, .f32⟩
  | .hbm, ⟨2, _⟩ => ⟨S1x2048, .f32⟩
  | .hbm, ⟨3, _⟩ => ⟨S1x4x4096, .f32⟩
  | .hbm, ⟨4, _⟩ => ⟨S1x4096, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x2048, .f32⟩
  | .hbm, ⟨9, _⟩ => ⟨S1x2048x1024, .f32⟩
  | .hbm, ⟨10, _⟩ => ⟨S1x4x256x256, .f32⟩
  | .hbm, ⟨11, _⟩ => ⟨S1x1024, .f32⟩
  | .hbm, ⟨12, _⟩ => ⟨S1x1024x1024, .f32⟩
  | .hbm, ⟨13, _⟩ => ⟨S1x1024, .f32⟩
  | .hbm, ⟨14, _⟩ => ⟨S1x1024, .f32⟩
  | .hbm, ⟨15, _⟩ => ⟨S1024x9248, .f32⟩
  | .hbm, ⟨16, _⟩ => ⟨S1024x1024, .f32⟩
  | .hbm, ⟨17, _⟩ => ⟨S1024x1024, .bf16⟩
  | .hbm, ⟨18, _⟩ => ⟨S1024x2048, .f32⟩
  | .hbm, ⟨19, _⟩ => ⟨S1024x2048, .bf16⟩
  | .hbm, ⟨20, _⟩ => ⟨S1024x4096, .f32⟩
  | .hbm, ⟨21, _⟩ => ⟨S1024x4096, .bf16⟩
  | .hbm, ⟨22, _⟩ => ⟨S1024x32, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x128, .bf16⟩
  | .hbm, ⟨27, _⟩ => ⟨S1024x2048, .f32⟩
  | .hbm, ⟨28, _⟩ => ⟨S1024x2048, .bf16⟩
  | .hbm, ⟨29, _⟩ => ⟨S4x256x256, .f32⟩
  | .hbm, ⟨30, _⟩ => ⟨S4x256x256, .bf16⟩
  | .hbm, ⟨31, _⟩ => ⟨S2048x1024, .f32⟩
  | .hbm, ⟨32, _⟩ => ⟨S2048x1024, .bf16⟩
  | .hbm, ⟨33, _⟩ => ⟨S1024x1024, .f32⟩
  | .hbm, ⟨34, _⟩ => ⟨S1024x1024, .bf16⟩
  | .hbm, ⟨35, _⟩ => ⟨S2048, .f32⟩
  | .hbm, ⟨36, _⟩ => ⟨S1x2048, .f32⟩
  | .hbm, ⟨37, _⟩ => ⟨S4x4096, .f32⟩
  | .hbm, ⟨38, _⟩ => ⟨S4096, .f32⟩
  | .hbm, ⟨39, _⟩ => ⟨S1x4096, .f32⟩
  | .hbm, ⟨40, _⟩ => ⟨S32, .f32⟩
  | .hbm, ⟨41, _⟩ => ⟨S1x32, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S32, .f32⟩
  | .hbm, ⟨46, _⟩ => ⟨S1x32, .f32⟩
  | .hbm, ⟨47, _⟩ => ⟨S_, .i32⟩
  | .hbm, ⟨48, _⟩ => ⟨S_, .f32⟩
  | .hbm, ⟨49, _⟩ => ⟨S1x128, .f32⟩
  | .hbm, ⟨50, _⟩ => ⟨S32, .f32⟩
  | .hbm, ⟨51, _⟩ => ⟨S32x64, .f32⟩
  | .hbm, ⟨52, _⟩ => ⟨S2048, .f32⟩
  | .hbm, ⟨53, _⟩ => ⟨S1x2048, .f32⟩
  | .hbm, ⟨54, _⟩ => ⟨S2048, .f32⟩
  | .hbm, ⟨55, _⟩ => ⟨S1x2048, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x2048, .bf16⟩
  | .local _ .vmem, ⟨4, _⟩ => ⟨S1024x4096, .bf16⟩
  | .local _ .vmem, ⟨5, _⟩ => ⟨S1024x128, .bf16⟩
  | .local _ .vmem, ⟨6, _⟩ => ⟨S1024x2048, .bf16⟩
  | .local _ .vmem, ⟨7, _⟩ => ⟨S4x256x256, .bf16⟩
  | .local _ .vmem, ⟨8, _⟩ => ⟨S2048x1024, .bf16⟩
  | .local _ .vmem, ⟨9, _⟩ => ⟨S1024x1024, .bf16⟩
  | .local _ .vmem, ⟨10, _⟩ => ⟨S1x2048, .f32⟩
  | .local _ .vmem, ⟨11, _⟩ => ⟨S4x4096, .f32⟩
  | .local _ .vmem, ⟨12, _⟩ => ⟨S1x4096, .f32⟩
  | .local _ .vmem, ⟨13, _⟩ => ⟨S1x128, .f32⟩
  | .local _ .vmem, ⟨14, _⟩ => ⟨S1x128, .f32⟩
  | .local _ .vmem, ⟨15, _⟩ => ⟨S1x2048, .f32⟩
  | .local _ .vmem, ⟨16, _⟩ => ⟨S1x2048, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | .local _ .vmem, ⟨22, _⟩ => ⟨S256x1024, .bf16⟩
  | .local _ .vmem, ⟨23, _⟩ => ⟨S272x1024, .f32⟩
  | .local _ .vmem, ⟨24, _⟩ => ⟨S264x4096, .f32⟩
  | .local _ .vmem, ⟨25, _⟩ => ⟨S256x4096, .f32⟩
  | .local _ .vmem, ⟨26, _⟩ => ⟨S256x1024, .f32⟩
  | .local _ .vmem, ⟨27, _⟩ => ⟨S256x2048, .bf16⟩
  | .local _ .vmem, ⟨28, _⟩ => ⟨S8x128x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_0 : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_1 : Ref sig .tc := ⟨.hbm, 47, rfl⟩
abbrev main_call2_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S32x2048x1024 : Shape := ⟨3, ![32, 2048, 1024]⟩
abbrev S1x1024x9248 : Shape := ⟨3, ![1, 1024, 9248]⟩
abbrev S1x2048 : Shape := ⟨2, ![1, 2048]⟩
abbrev S1x4x4096 : Shape := ⟨3, ![1, 4, 4096]⟩
abbrev S1x4096 : Shape := ⟨2, ![1, 4096]⟩
abbrev S1x32 : Shape := ⟨2, ![1, 32]⟩
abbrev S1x2048x1024 : Shape := ⟨3, ![1, 2048, 1024]⟩
abbrev S1x4x256x256 : Shape := ⟨4, ![1, 4, 256, 256]⟩
abbrev S1x1024 : Shape := ⟨2, ![1, 1024]⟩
abbrev S1x1024x1024 : Shape := ⟨3, ![1, 1024, 1024]⟩
abbrev S1024x9248 : Shape := ⟨2, ![1024, 9248]⟩
abbrev S2048 : Shape := ⟨1, ![2048]⟩
abbrev S4x4096 : Shape := ⟨2, ![4, 4096]⟩
abbrev S4096 : Shape := ⟨1, ![4096]⟩
abbrev S32 : Shape := ⟨1, ![32]⟩
abbrev S2048x1024 : Shape := ⟨2, ![2048, 1024]⟩
abbrev S4x256x256 : Shape := ⟨3, ![4, 256, 256]⟩
abbrev S1024 : Shape := ⟨1, ![1024]⟩
abbrev S1024x1024 : Shape := ⟨2, ![1024, 1024]⟩
abbrev S32x2048x9248 : Shape := ⟨3, ![32, 2048, 9248]⟩
abbrev S32x2048x2048 : Shape := ⟨3, ![32, 2048, 2048]⟩
abbrev S32x2048x4096 : Shape := ⟨3, ![32, 2048, 4096]⟩
abbrev S32x2048x32 : Shape := ⟨3, ![32, 2048, 32]⟩
abbrev S1x1x2048 : Shape := ⟨3, ![1, 1, 2048]⟩
abbrev S_ : Shape := ⟨0, ![]⟩
abbrev S32x2048x2x1024 : Shape := ⟨4, ![32, 2048, 2, 1024]⟩
abbrev S32x2048x4x256 : Shape := ⟨4, ![32, 2048, 4, 256]⟩
abbrev S32x2048x1x256 : Shape := ⟨4, ![32, 2048, 1, 256]⟩
abbrev S32x2048x256 : Shape := ⟨3, ![32, 2048, 256]⟩
abbrev S32x2050x256 : Shape := ⟨3, ![32, 2050, 256]⟩
abbrev S1x2048x1 : Shape := ⟨3, ![1, 2048, 1]⟩
abbrev S32x2052x256 : Shape := ⟨3, ![32, 2052, 256]⟩
abbrev S32x2056x256 : Shape := ⟨3, ![32, 2056, 256]⟩
abbrev S32x2064x256 : Shape := ⟨3, ![32, 2064, 256]⟩
abbrev S4x256x32x2048 : Shape := ⟨4, ![4, 256, 32, 2048]⟩
abbrev S1x1x1024 : Shape := ⟨3, ![1, 1, 1024]⟩
abbrev S32x2051x4096 : Shape := ⟨3, ![32, 2051, 4096]⟩
abbrev S1x1x4096 : Shape := ⟨3, ![1, 1, 4096]⟩
abbrev S32x2048x8x4x64 : Shape := ⟨5, ![32, 2048, 8, 4, 64]⟩
abbrev S32x2048x8x128 : Shape := ⟨4, ![32, 2048, 8, 128]⟩
abbrev S1x1x32 : Shape := ⟨3, ![1, 1, 32]⟩
abbrev S32x2048x8x4 : Shape := ⟨4, ![32, 2048, 8, 4]⟩
abbrev S8x4 : Shape := ⟨2, ![8, 4]⟩
abbrev S32x2048x8x4x1 : Shape := ⟨5, ![32, 2048, 8, 4, 1]⟩
abbrev S1x1x8x4 : Shape := ⟨4, ![1, 1, 8, 4]⟩
abbrev S32x8x256x8x4x64 : Shape := ⟨6, ![32, 8, 256, 8, 4, 64]⟩
abbrev S32x8x256x8x4 : Shape := ⟨5, ![32, 8, 256, 8, 4]⟩
abbrev S32x8x256x8x128 : Shape := ⟨5, ![32, 8, 256, 8, 128]⟩
abbrev S32x8x8x4x256 : Shape := ⟨5, ![32, 8, 8, 4, 256]⟩
abbrev S32x8x8x4x256x1 : Shape := ⟨6, ![32, 8, 8, 4, 256, 1]⟩
abbrev S32x8x8x4x1x256 : Shape := ⟨6, ![32, 8, 8, 4, 1, 256]⟩
abbrev S32x8x8x4x256x256 : Shape := ⟨6, ![32, 8, 8, 4, 256, 256]⟩
abbrev S256x256 : Shape := ⟨2, ![256, 256]⟩
abbrev S32x8x8x256x256 : Shape := ⟨5, ![32, 8, 8, 256, 256]⟩
abbrev S32x8x8x1x256x256 : Shape := ⟨6, ![32, 8, 8, 1, 256, 256]⟩
abbrev S32x8x8x4x64x256 : Shape := ⟨6, ![32, 8, 8, 4, 64, 256]⟩
abbrev S32x8x1x8x4 : Shape := ⟨5, ![32, 8, 1, 8, 4]⟩
abbrev S32x8x256x8x4x1 : Shape := ⟨6, ![32, 8, 256, 8, 4, 1]⟩
abbrev S32x8x8x4x64x128 : Shape := ⟨6, ![32, 8, 8, 4, 64, 128]⟩
abbrev S32x8x8x4 : Shape := ⟨4, ![32, 8, 8, 4]⟩
abbrev S32x1x8x4x64x128 : Shape := ⟨6, ![32, 1, 8, 4, 64, 128]⟩
abbrev S32x8x4x64x128 : Shape := ⟨5, ![32, 8, 4, 64, 128]⟩
abbrev S32x1x8x4 : Shape := ⟨4, ![32, 1, 8, 4]⟩
abbrev S32x8x4 : Shape := ⟨3, ![32, 8, 4]⟩
abbrev S32x8x4x1x1 : Shape := ⟨5, ![32, 8, 4, 1, 1]⟩
abbrev S8x4x1 : Shape := ⟨3, ![8, 4, 1]⟩
abbrev S1x1x8x4x1 : Shape := ⟨5, ![1, 1, 8, 4, 1]⟩
abbrev S32x2048x8x256 : Shape := ⟨4, ![32, 2048, 8, 256]⟩
abbrev S32x2048x8 : Shape := ⟨3, ![32, 2048, 8]⟩
abbrev S32x2048x8x1 : Shape := ⟨4, ![32, 2048, 8, 1]⟩
abbrev S32x2048x1x1024 : Shape := ⟨4, ![32, 2048, 1, 1024]⟩
abbrev S32x2048 : Shape := ⟨2, ![32, 2048]⟩
abbrev S32x2048x1 : Shape := ⟨3, ![32, 2048, 1]⟩

abbrev nBuf : Space → Nat
  | .hbm => 418
  | .vmem => 0
  | .smem => 0
  | _ => 0

abbrev hbmTy0_0 (i : Nat) : BufTy := match i % 128 with
  | 0 => ⟨S32x2048x1024, .f32⟩
  | 1 => ⟨S1x1024x9248, .f32⟩
  | 2 => ⟨S1x2048, .f32⟩
  | 3 => ⟨S1x4x4096, .f32⟩
  | 4 => ⟨S1x4096, .f32⟩
  | 5 => ⟨S1x32, .f32⟩
  | 6 => ⟨S1x32, .f32⟩
  | 7 => ⟨S1x32, .f32⟩
  | 8 => ⟨S1x2048, .f32⟩
  | 9 => ⟨S1x2048x1024, .f32⟩
  | 10 => ⟨S1x4x256x256, .f32⟩
  | 11 => ⟨S1x1024, .f32⟩
  | 12 => ⟨S1x1024x1024, .f32⟩
  | 13 => ⟨S1x1024, .f32⟩
  | 14 => ⟨S1x1024, .f32⟩
  | 15 => ⟨S1024x9248, .f32⟩
  | 16 => ⟨S2048, .f32⟩
  | 17 => ⟨S4x4096, .f32⟩
  | 18 => ⟨S4096, .f32⟩
  | 19 => ⟨S32, .f32⟩
  | 20 => ⟨S32, .f32⟩
  | 21 => ⟨S32, .f32⟩
  | 22 => ⟨S2048, .f32⟩
  | 23 => ⟨S2048x1024, .f32⟩
  | 24 => ⟨S4x256x256, .f32⟩
  | 25 => ⟨S1024, .f32⟩
  | 26 => ⟨S1024x1024, .f32⟩
  | 27 => ⟨S1024, .f32⟩
  | 28 => ⟨S1024, .f32⟩
  | 29 => ⟨S32x2048x9248, .f32⟩
  | 30 => ⟨S32x2048x1024, .f32⟩
  | 31 => ⟨S32x2048x2048, .f32⟩
  | 32 => ⟨S32x2048x4096, .f32⟩
  | 33 => ⟨S32x2048x32, .f32⟩
  | 34 => ⟨S32x2048x2048, .f32⟩
  | 35 => ⟨S1x1x2048, .f32⟩
  | 36 => ⟨S32x2048x2048, .f32⟩
  | 37 => ⟨S32x2048x2048, .f32⟩
  | 38 => ⟨S32x2048x2048, .f32⟩
  | 39 => ⟨S32x2048x2048, .f32⟩
  | 40 => ⟨S_, .f32⟩
  | 41 => ⟨S32x2048x2048, .f32⟩
  | 42 => ⟨S32x2048x2048, .f32⟩
  | 43 => ⟨S_, .f32⟩
  | 44 => ⟨S32x2048x2048, .f32⟩
  | 45 => ⟨S32x2048x2048, .f32⟩
  | 46 => ⟨S32x2048x2x1024, .f32⟩
  | 47 => ⟨S32x2048x4x256, .f32⟩
  | 48 => ⟨S_, .f32⟩
  | 49 => ⟨S_, .f32⟩
  | 50 => ⟨S32x2048x4x256, .f32⟩
  | 51 => ⟨S2048, .f32⟩
  | 52 => ⟨S_, .f32⟩
  | 53 => ⟨S2048, .f32⟩
  | 54 => ⟨S2048, .f32⟩
  | 55 => ⟨S32x2048x1x256, .f32⟩
  | 56 => ⟨S32x2048x256, .f32⟩
  | 57 => ⟨S_, .i32⟩
  | 58 => ⟨S_, .f32⟩
  | 59 => ⟨S32x2050x256, .f32⟩
  | 60 => ⟨S32x2048x256, .f32⟩
  | 61 => ⟨S_, .f32⟩
  | 62 => ⟨S2048, .f32⟩
  | 63 => ⟨S2048, .f32⟩
  | 64 => ⟨S1x2048x1, .f32⟩
  | 65 => ⟨S32x2048x256, .f32⟩
  | 66 => ⟨S32x2048x256, .f32⟩
  | 67 => ⟨S32x2048x256, .f32⟩
  | 68 => ⟨S32x2048x1x256, .f32⟩
  | 69 => ⟨S32x2048x256, .f32⟩
  | 70 => ⟨S_, .i32⟩
  | 71 => ⟨S_, .f32⟩
  | 72 => ⟨S32x2052x256, .f32⟩
  | 73 => ⟨S32x2048x256, .f32⟩
  | 74 => ⟨S_, .f32⟩
  | 75 => ⟨S2048, .f32⟩
  | 76 => ⟨S2048, .f32⟩
  | 77 => ⟨S1x2048x1, .f32⟩
  | 78 => ⟨S32x2048x256, .f32⟩
  | 79 => ⟨S32x2048x256, .f32⟩
  | 80 => ⟨S32x2048x256, .f32⟩
  | 81 => ⟨S32x2048x1x256, .f32⟩
  | 82 => ⟨S32x2048x256, .f32⟩
  | 83 => ⟨S_, .i32⟩
  | 84 => ⟨S_, .f32⟩
  | 85 => ⟨S32x2056x256, .f32⟩
  | 86 => ⟨S32x2048x256, .f32⟩
  | 87 => ⟨S_, .f32⟩
  | 88 => ⟨S2048, .f32⟩
  | 89 => ⟨S2048, .f32⟩
  | 90 => ⟨S1x2048x1, .f32⟩
  | 91 => ⟨S32x2048x256, .f32⟩
  | 92 => ⟨S32x2048x256, .f32⟩
  | 93 => ⟨S32x2048x256, .f32⟩
  | 94 => ⟨S32x2048x1x256, .f32⟩
  | 95 => ⟨S32x2048x256, .f32⟩
  | 96 => ⟨S_, .i32⟩
  | 97 => ⟨S_, .f32⟩
  | 98 => ⟨S32x2064x256, .f32⟩
  | 99 => ⟨S32x2048x256, .f32⟩
  | 100 => ⟨S_, .f32⟩
  | 101 => ⟨S2048, .f32⟩
  | 102 => ⟨S2048, .f32⟩
  | 103 => ⟨S1x2048x1, .f32⟩
  | 104 => ⟨S32x2048x256, .f32⟩
  | 105 => ⟨S32x2048x256, .f32⟩
  | 106 => ⟨S32x2048x256, .f32⟩
  | 107 => ⟨S32x2048x1x256, .f32⟩
  | 108 => ⟨S32x2048x1x256, .f32⟩
  | 109 => ⟨S32x2048x1x256, .f32⟩
  | 110 => ⟨S32x2048x1x256, .f32⟩
  | 111 => ⟨S32x2048x4x256, .f32⟩
  | 112 => ⟨S32x2048x4x256, .f32⟩
  | 113 => ⟨S4x256x32x2048, .f32⟩
  | 114 => ⟨S32x2048x4x256, .f32⟩
  | 115 => ⟨S32x2048x1024, .f32⟩
  | 116 => ⟨S1x1x1024, .f32⟩
  | 117 => ⟨S32x2048x1024, .f32⟩
  | 118 => ⟨S32x2048x1024, .f32⟩
  | 119 => ⟨S_, .i32⟩
  | 120 => ⟨S_, .f32⟩
  | 121 => ⟨S32x2051x4096, .f32⟩
  | 122 => ⟨S32x2048x4096, .f32⟩
  | 123 => ⟨S1x4096, .f32⟩
  | 124 => ⟨S4096, .f32⟩
  | 125 => ⟨S1x1x4096, .f32⟩
  | 126 => ⟨S32x2048x4096, .f32⟩
  | 127 => ⟨S32x2048x4096, .f32⟩
  | _ => ⟨S32x2048x1024, .f32⟩

abbrev hbmTy0_1 (i : Nat) : BufTy := match i % 128 with
  | 0 => ⟨S32x2048x4096, .f32⟩
  | 1 => ⟨S1x4096, .f32⟩
  | 2 => ⟨S4096, .f32⟩
  | 3 => ⟨S1x1x4096, .f32⟩
  | 4 => ⟨S32x2048x4096, .f32⟩
  | 5 => ⟨S32x2048x4096, .f32⟩
  | 6 => ⟨S32x2048x4096, .f32⟩
  | 7 => ⟨S32x2048x4096, .f32⟩
  | 8 => ⟨S1x4096, .f32⟩
  | 9 => ⟨S4096, .f32⟩
  | 10 => ⟨S1x1x4096, .f32⟩
  | 11 => ⟨S32x2048x4096, .f32⟩
  | 12 => ⟨S32x2048x4096, .f32⟩
  | 13 => ⟨S32x2048x4096, .f32⟩
  | 14 => ⟨S32x2048x4096, .f32⟩
  | 15 => ⟨S1x4096, .f32⟩
  | 16 => ⟨S4096, .f32⟩
  | 17 => ⟨S1x1x4096, .f32⟩
  | 18 => ⟨S32x2048x4096, .f32⟩
  | 19 => ⟨S32x2048x4096, .f32⟩
  | 20 => ⟨S32x2048x4096, .f32⟩
  | 21 => ⟨S1x1x4096, .f32⟩
  | 22 => ⟨S32x2048x4096, .f32⟩
  | 23 => ⟨S32x2048x4096, .f32⟩
  | 24 => ⟨S32x2048x4096, .f32⟩
  | 25 => ⟨S32x2048x4096, .f32⟩
  | 26 => ⟨S_, .f32⟩
  | 27 => ⟨S32x2048x4096, .f32⟩
  | 28 => ⟨S32x2048x4096, .f32⟩
  | 29 => ⟨S_, .f32⟩
  | 30 => ⟨S32x2048x4096, .f32⟩
  | 31 => ⟨S32x2048x4096, .f32⟩
  | 32 => ⟨S32x2048x4096, .f32⟩
  | 33 => ⟨S32x2048x2048, .f32⟩
  | 34 => ⟨S32x2048x1024, .f32⟩
  | 35 => ⟨S32x2048x1024, .f32⟩
  | 36 => ⟨S32x2048x8x4x64, .f32⟩
  | 37 => ⟨S32x2048x8x128, .f32⟩
  | 38 => ⟨S32x2048x8x128, .f32⟩
  | 39 => ⟨S1x1x32, .f32⟩
  | 40 => ⟨S32x2048x32, .f32⟩
  | 41 => ⟨S32x2048x32, .f32⟩
  | 42 => ⟨S_, .f32⟩
  | 43 => ⟨S32x2048x32, .f32⟩
  | 44 => ⟨S32x2048x32, .f32⟩
  | 45 => ⟨S32x2048x32, .f32⟩
  | 46 => ⟨S32x2048x32, .f32⟩
  | 47 => ⟨S32x2048x32, .i1⟩
  | 48 => ⟨S32x2048x32, .f32⟩
  | 49 => ⟨S32x2048x32, .f32⟩
  | 50 => ⟨S32x2048x32, .f32⟩
  | 51 => ⟨S32x2048x32, .f32⟩
  | 52 => ⟨S32x2048x32, .f32⟩
  | 53 => ⟨S32x2048x32, .f32⟩
  | 54 => ⟨S32x2048x32, .f32⟩
  | 55 => ⟨S32x2048x32, .f32⟩
  | 56 => ⟨S32x2048x8x4, .f32⟩
  | 57 => ⟨S32, .f32⟩
  | 58 => ⟨S8x4, .f32⟩
  | 59 => ⟨S8x4, .f32⟩
  | 60 => ⟨S8x4, .f32⟩
  | 61 => ⟨S32x2048x8x4x1, .f32⟩
  | 62 => ⟨S32x2048x8x4x64, .f32⟩
  | 63 => ⟨S32x2048x8x4x64, .f32⟩
  | 64 => ⟨S1x1x8x4, .f32⟩
  | 65 => ⟨S32x2048x8x4, .f32⟩
  | 66 => ⟨S32x2048x8x4, .f32⟩
  | 67 => ⟨S_, .i32⟩
  | 68 => ⟨S_, .f32⟩
  | 69 => ⟨S32x2048x8x4x64, .f32⟩
  | 70 => ⟨S32x8x256x8x4x64, .f32⟩
  | 71 => ⟨S_, .i32⟩
  | 72 => ⟨S_, .f32⟩
  | 73 => ⟨S32x2048x8x4, .f32⟩
  | 74 => ⟨S32x8x256x8x4, .f32⟩
  | 75 => ⟨S_, .i32⟩
  | 76 => ⟨S_, .f32⟩
  | 77 => ⟨S32x2048x8x128, .f32⟩
  | 78 => ⟨S32x8x256x8x128, .f32⟩
  | 79 => ⟨S_, .i32⟩
  | 80 => ⟨S_, .f32⟩
  | 81 => ⟨S32x2048x8x128, .f32⟩
  | 82 => ⟨S32x8x256x8x128, .f32⟩
  | 83 => ⟨S_, .f32⟩
  | 84 => ⟨S_, .f32⟩
  | 85 => ⟨S32x8x256x8x4, .f32⟩
  | 86 => ⟨S32x8x8x4x256, .f32⟩
  | 87 => ⟨S_, .f32⟩
  | 88 => ⟨S_, .f32⟩
  | 89 => ⟨S32x8x8x4x256, .f32⟩
  | 90 => ⟨S32x8x8x4x256x1, .f32⟩
  | 91 => ⟨S32x8x8x4x1x256, .f32⟩
  | 92 => ⟨S32x8x8x4x256x256, .f32⟩
  | 93 => ⟨S32x8x8x4x256x256, .f32⟩
  | 94 => ⟨S32x8x8x4x256x256, .f32⟩
  | 95 => ⟨S_, .i1⟩
  | 96 => ⟨S256x256, .i1⟩
  | 97 => ⟨S256x256, .i32⟩
  | 98 => ⟨S_, .i32⟩
  | 99 => ⟨S256x256, .i32⟩
  | 100 => ⟨S256x256, .i32⟩
  | 101 => ⟨S256x256, .i32⟩
  | 102 => ⟨S256x256, .i1⟩
  | 103 => ⟨S_, .i1⟩
  | 104 => ⟨S256x256, .i1⟩
  | 105 => ⟨S256x256, .i1⟩
  | 106 => ⟨S_, .f32⟩
  | 107 => ⟨S_, .f32⟩
  | 108 => ⟨S32x8x8x4x256x256, .i1⟩
  | 109 => ⟨S32x8x8x4x256x256, .f32⟩
  | 110 => ⟨S32x8x8x4x256x256, .f32⟩
  | 111 => ⟨S32x8x8x4x256x256, .f32⟩
  | 112 => ⟨S32x8x8x256x256, .f32⟩
  | 113 => ⟨S32x8x8x1x256x256, .f32⟩
  | 114 => ⟨S32x8x8x4x256x256, .f32⟩
  | 115 => ⟨S32x8x8x4x256x256, .f32⟩
  | 116 => ⟨S32x8x8x4x64x256, .f32⟩
  | 117 => ⟨S32x8x256x8x4x64, .f32⟩
  | 118 => ⟨S32x8x1x8x4, .f32⟩
  | 119 => ⟨S32x8x256x8x4, .f32⟩
  | 120 => ⟨S32x8x256x8x4, .f32⟩
  | 121 => ⟨S32x8x256x8x4, .f32⟩
  | 122 => ⟨S32x8x256x8x4x1, .f32⟩
  | 123 => ⟨S32x8x256x8x4x64, .f32⟩
  | 124 => ⟨S32x8x256x8x4x64, .f32⟩
  | 125 => ⟨S32x8x8x4x64x128, .f32⟩
  | 126 => ⟨S32x8x1x8x4, .f32⟩
  | 127 => ⟨S32x8x8x4, .f32⟩
  | _ => ⟨S32x2048x1024, .f32⟩

abbrev hbmTy0_2 (i : Nat) : BufTy := match i % 128 with
  | 0 => ⟨S32x8x8x4, .f32⟩
  | 1 => ⟨S32x1x8x4x64x128, .f32⟩
  | 2 => ⟨S32x8x4x64x128, .f32⟩
  | 3 => ⟨S_, .f32⟩
  | 4 => ⟨S32x8x4x64x128, .f32⟩
  | 5 => ⟨S32x1x8x4, .f32⟩
  | 6 => ⟨S32x8x4, .f32⟩
  | 7 => ⟨S32x8x4x1x1, .f32⟩
  | 8 => ⟨S32x8x4x64x128, .f32⟩
  | 9 => ⟨S32x8x4x64x128, .f32⟩
  | 10 => ⟨S32x1x8x4x64x128, .f32⟩
  | 11 => ⟨S32x8x4x64x128, .f32⟩
  | 12 => ⟨S32x8x4x64x128, .f32⟩
  | 13 => ⟨S32x1x8x4, .f32⟩
  | 14 => ⟨S32x8x4, .f32⟩
  | 15 => ⟨S32x8x4x1x1, .f32⟩
  | 16 => ⟨S32x8x4x64x128, .f32⟩
  | 17 => ⟨S32x8x4x64x128, .f32⟩
  | 18 => ⟨S32x1x8x4x64x128, .f32⟩
  | 19 => ⟨S32x8x4x64x128, .f32⟩
  | 20 => ⟨S32x8x4x64x128, .f32⟩
  | 21 => ⟨S32x1x8x4, .f32⟩
  | 22 => ⟨S32x8x4, .f32⟩
  | 23 => ⟨S32x8x4x1x1, .f32⟩
  | 24 => ⟨S32x8x4x64x128, .f32⟩
  | 25 => ⟨S32x8x4x64x128, .f32⟩
  | 26 => ⟨S32x1x8x4x64x128, .f32⟩
  | 27 => ⟨S32x8x4x64x128, .f32⟩
  | 28 => ⟨S32x8x4x64x128, .f32⟩
  | 29 => ⟨S32x1x8x4, .f32⟩
  | 30 => ⟨S32x8x4, .f32⟩
  | 31 => ⟨S32x8x4x1x1, .f32⟩
  | 32 => ⟨S32x8x4x64x128, .f32⟩
  | 33 => ⟨S32x8x4x64x128, .f32⟩
  | 34 => ⟨S32x1x8x4x64x128, .f32⟩
  | 35 => ⟨S32x8x4x64x128, .f32⟩
  | 36 => ⟨S32x8x4x64x128, .f32⟩
  | 37 => ⟨S32x1x8x4, .f32⟩
  | 38 => ⟨S32x8x4, .f32⟩
  | 39 => ⟨S32x8x4x1x1, .f32⟩
  | 40 => ⟨S32x8x4x64x128, .f32⟩
  | 41 => ⟨S32x8x4x64x128, .f32⟩
  | 42 => ⟨S32x1x8x4x64x128, .f32⟩
  | 43 => ⟨S32x8x4x64x128, .f32⟩
  | 44 => ⟨S32x8x4x64x128, .f32⟩
  | 45 => ⟨S32x1x8x4, .f32⟩
  | 46 => ⟨S32x8x4, .f32⟩
  | 47 => ⟨S32x8x4x1x1, .f32⟩
  | 48 => ⟨S32x8x4x64x128, .f32⟩
  | 49 => ⟨S32x8x4x64x128, .f32⟩
  | 50 => ⟨S32x1x8x4x64x128, .f32⟩
  | 51 => ⟨S32x8x4x64x128, .f32⟩
  | 52 => ⟨S32x8x4x64x128, .f32⟩
  | 53 => ⟨S32x1x8x4, .f32⟩
  | 54 => ⟨S32x8x4, .f32⟩
  | 55 => ⟨S32x8x4x1x1, .f32⟩
  | 56 => ⟨S32x8x4x64x128, .f32⟩
  | 57 => ⟨S32x8x4x64x128, .f32⟩
  | 58 => ⟨S32x1x8x4x64x128, .f32⟩
  | 59 => ⟨S32x8x4x64x128, .f32⟩
  | 60 => ⟨S32x8x4x64x128, .f32⟩
  | 61 => ⟨S32x1x8x4, .f32⟩
  | 62 => ⟨S32x8x4, .f32⟩
  | 63 => ⟨S32x8x4x1x1, .f32⟩
  | 64 => ⟨S32x8x4x64x128, .f32⟩
  | 65 => ⟨S32x8x4x64x128, .f32⟩
  | 66 => ⟨S32x1x8x4x64x128, .f32⟩
  | 67 => ⟨S32x8x4x64x128, .f32⟩
  | 68 => ⟨S32x8x4x64x128, .f32⟩
  | 69 => ⟨S32x1x8x4x64x128, .f32⟩
  | 70 => ⟨S32x1x8x4x64x128, .f32⟩
  | 71 => ⟨S32x1x8x4x64x128, .f32⟩
  | 72 => ⟨S32x1x8x4x64x128, .f32⟩
  | 73 => ⟨S32x1x8x4x64x128, .f32⟩
  | 74 => ⟨S32x1x8x4x64x128, .f32⟩
  | 75 => ⟨S32x1x8x4x64x128, .f32⟩
  | 76 => ⟨S32x1x8x4x64x128, .f32⟩
  | 77 => ⟨S32x8x8x4x64x128, .f32⟩
  | 78 => ⟨S32x8x8x4x64x256, .f32⟩
  | 79 => ⟨S32x8x256x8x4x64, .f32⟩
  | 80 => ⟨S32x8x256x8x4, .f32⟩
  | 81 => ⟨S32x8x256x8x4x1, .f32⟩
  | 82 => ⟨S32x8x256x8x4x64, .f32⟩
  | 83 => ⟨S32x8x256x8x4x64, .f32⟩
  | 84 => ⟨S32x8x256x8x4x64, .f32⟩
  | 85 => ⟨S32x2048x8x4x64, .f32⟩
  | 86 => ⟨S8x4x1, .f32⟩
  | 87 => ⟨S1x1x8x4x1, .f32⟩
  | 88 => ⟨S32x2048x8x4x64, .f32⟩
  | 89 => ⟨S32x2048x8x4x64, .f32⟩
  | 90 => ⟨S32x2048x8x4x64, .f32⟩
  | 91 => ⟨S32x2048x2048, .f32⟩
  | 92 => ⟨S32x2048x2048, .f32⟩
  | 93 => ⟨S32x2048x2048, .f32⟩
  | 94 => ⟨S_, .f32⟩
  | 95 => ⟨S32x2048x2048, .f32⟩
  | 96 => ⟨S32x2048x2048, .f32⟩
  | 97 => ⟨S_, .f32⟩
  | 98 => ⟨S32x2048x2048, .f32⟩
  | 99 => ⟨S32x2048x2048, .f32⟩
  | 100 => ⟨S32x2048x2048, .f32⟩
  | 101 => ⟨S32x2048x2048, .f32⟩
  | 102 => ⟨S32x2048x8x256, .f32⟩
  | 103 => ⟨S32x2048x8x256, .f32⟩
  | 104 => ⟨S_, .f32⟩
  | 105 => ⟨S32x2048x8, .f32⟩
  | 106 => ⟨S32x2048x8x1, .f32⟩
  | 107 => ⟨S_, .f32⟩
  | 108 => ⟨S32x2048x8x1, .f32⟩
  | 109 => ⟨S32x2048x8x1, .f32⟩
  | 110 => ⟨S_, .f32⟩
  | 111 => ⟨S32x2048x8x1, .f32⟩
  | 112 => ⟨S32x2048x8x1, .f32⟩
  | 113 => ⟨S32x2048x8x1, .f32⟩
  | 114 => ⟨S32x2048x8x256, .f32⟩
  | 115 => ⟨S32x2048x8x256, .f32⟩
  | 116 => ⟨S32x2048x2048, .f32⟩
  | 117 => ⟨S1x1x2048, .f32⟩
  | 118 => ⟨S32x2048x2048, .f32⟩
  | 119 => ⟨S32x2048x2048, .f32⟩
  | 120 => ⟨S32x2048x1024, .f32⟩
  | 121 => ⟨S32x2048x1x1024, .f32⟩
  | 122 => ⟨S32x2048x1024, .f32⟩
  | 123 => ⟨S32x2048x1024, .f32⟩
  | 124 => ⟨S32x2048x1x1024, .f32⟩
  | 125 => ⟨S32x2048x1024, .f32⟩
  | 126 => ⟨S32x2048x1024, .f32⟩
  | 127 => ⟨S32x2048x1024, .f32⟩
  | _ => ⟨S32x2048x1024, .f32⟩

abbrev hbmTy0_3 (i : Nat) : BufTy := match i % 128 with
  | 0 => ⟨S32x2048x1024, .f32⟩
  | 1 => ⟨S_, .f32⟩
  | 2 => ⟨S32x2048x1024, .f32⟩
  | 3 => ⟨S32x2048x1024, .f32⟩
  | 4 => ⟨S32x2048x1024, .f32⟩
  | 5 => ⟨S_, .f32⟩
  | 6 => ⟨S32x2048, .f32⟩
  | 7 => ⟨S32x2048x1, .f32⟩
  | 8 => ⟨S_, .f32⟩
  | 9 => ⟨S32x2048x1, .f32⟩
  | 10 => ⟨S32x2048x1, .f32⟩
  | 11 => ⟨S32x2048x1024, .f32⟩
  | 12 => ⟨S32x2048x1024, .f32⟩
  | 13 => ⟨S32x2048x1024, .f32⟩
  | 14 => ⟨S_, .f32⟩
  | 15 => ⟨S32x2048, .f32⟩
  | 16 => ⟨S32x2048x1, .f32⟩
  | 17 => ⟨S_, .f32⟩
  | 18 => ⟨S32x2048x1, .f32⟩
  | 19 => ⟨S32x2048x1, .f32⟩
  | 20 => ⟨S32x2048x1024, .f32⟩
  | 21 => ⟨S32x2048x1024, .f32⟩
  | 22 => ⟨S_, .f32⟩
  | 23 => ⟨S32x2048x1, .f32⟩
  | 24 => ⟨S32x2048x1, .f32⟩
  | 25 => ⟨S32x2048x1, .f32⟩
  | 26 => ⟨S32x2048x1024, .f32⟩
  | 27 => ⟨S32x2048x1024, .f32⟩
  | 28 => ⟨S1x1x1024, .f32⟩
  | 29 => ⟨S32x2048x1024, .f32⟩
  | 30 => ⟨S32x2048x1024, .f32⟩
  | 31 => ⟨S1x1x1024, .f32⟩
  | 32 => ⟨S32x2048x1024, .f32⟩
  | 33 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_call0_cst : Ref sig .tc := ⟨.hbm, 48, rfl⟩
abbrev main_call0_call0_v0 : Ref sig .tc := ⟨.hbm, 49, rfl⟩
abbrev main_v31 : Ref sig .tc := ⟨.hbm, 50, rfl⟩
abbrev main_v32 : Ref sig .tc := ⟨.hbm, 51, rfl⟩
abbrev main_cst_1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_3 : Ref sig .tc := ⟨.hbm, 70, rfl⟩
abbrev main_call2_v0 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_5 : Ref sig .tc := ⟨.hbm, 83, rfl⟩
abbrev main_call3_v0 : Ref sig .tc := ⟨.hbm, 84, rfl⟩
abbrev main_v57 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_7 : Ref sig .tc := ⟨.hbm, 96, rfl⟩
abbrev main_call4_v0 : Ref sig .tc := ⟨.hbm, 97, rfl⟩
abbrev main_v67 : Ref sig .tc := ⟨.hbm, 98, rfl⟩
abbrev main_v68 : Ref sig .tc := ⟨.hbm, 99, rfl⟩
abbrev main_cst_8 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_9 : Ref sig .tc := ⟨.hbm, 119, rfl⟩
abbrev main_call5_v0 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_call6_v0 : Ref sig .tc := ⟨.hbm, 152, rfl⟩
abbrev main_call6_v1 : Ref sig .tc := ⟨.hbm, 153, rfl⟩
abbrev main_call6_cst : Ref sig .tc := ⟨.hbm, 154, rfl⟩
abbrev main_call6_v2 : Ref sig .tc := ⟨.hbm, 155, rfl⟩
abbrev main_call6_v3 : Ref sig .tc := ⟨.hbm, 156, rfl⟩
abbrev main_call6_cst_0 : Ref sig .tc := ⟨.hbm, 157, rfl⟩
abbrev main_call6_v4 : Ref sig .tc := ⟨.hbm, 158, rfl⟩
abbrev main_call6_v5 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_call7_cst : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_call7_v5 : Ref sig .tc := ⟨.hbm, 176, rfl⟩
abbrev main_call7_v6 : Ref sig .tc := ⟨.hbm, 177, rfl⟩
abbrev main_call7_v7 : Ref sig .tc := ⟨.hbm, 178, rfl⟩
abbrev main_call7_v8 : Ref sig .tc := ⟨.hbm, 179, rfl⟩
abbrev main_call7_v9 : Ref sig .tc := ⟨.hbm, 180, rfl⟩
abbrev main_call7_v10 : Ref sig .tc := ⟨.hbm, 181, rfl⟩
abbrev main_call7_v11 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_c_10 : Ref sig .tc := ⟨.hbm, 195, rfl⟩
abbrev main_call8_v0 : Ref sig .tc := ⟨.hbm, 196, rfl⟩
abbrev main_v140 : Ref sig .tc := ⟨.hbm, 197, rfl⟩
abbrev main_v141 : Ref sig .tc := ⟨.hbm, 198, rfl⟩
abbrev main_c_11 : Ref sig .tc := ⟨.hbm, 199, rfl⟩
abbrev main_call9_v0 : Ref sig .tc := ⟨.hbm, 200, rfl⟩
abbrev main_v142 : Ref sig .tc := ⟨.hbm, 201, rfl⟩
abbrev main_v143 : Ref sig .tc := ⟨.hbm, 202, rfl⟩
abbrev main_c_12 : Ref sig .tc := ⟨.hbm, 203, rfl⟩
abbrev main_call10_v0 : Ref sig .tc := ⟨.hbm, 204, rfl⟩
abbrev main_v144 : Ref sig .tc := ⟨.hbm, 205, rfl⟩
abbrev main_v145 : Ref sig .tc := ⟨.hbm, 206, rfl⟩
abbrev main_c_13 : Ref sig .tc := ⟨.hbm, 207, rfl⟩
abbrev main_call11_v0 : Ref sig .tc := ⟨.hbm, 208, rfl⟩
abbrev main_v146 : Ref sig .tc := ⟨.hbm, 209, rfl⟩
abbrev main_v147 : Ref sig .tc := ⟨.hbm, 210, rfl⟩
abbrev main_call12_call0_cst : Ref sig .tc := ⟨.hbm, 211, rfl⟩
abbrev main_call12_call0_v0 : Ref sig .tc := ⟨.hbm, 212, rfl⟩
abbrev main_v148 : Ref sig .tc := ⟨.hbm, 213, rfl⟩
abbrev main_v149 : Ref sig .tc := ⟨.hbm, 214, rfl⟩
abbrev main_call13_call0_cst : Ref sig .tc := ⟨.hbm, 215, rfl⟩
abbrev main_call13_call0_v0 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_14 : Ref sig .tc := ⟨.hbm, 223, rfl⟩
abbrev main_v156 : Ref sig .tc := ⟨.hbm, 224, rfl⟩
abbrev main_call14_v0 : Ref sig .tc := ⟨.hbm, 225, rfl⟩
abbrev main_call14_c : Ref sig .tc := ⟨.hbm, 226, rfl⟩
abbrev main_call14_v1 : Ref sig .tc := ⟨.hbm, 227, rfl⟩
abbrev main_call14_v2 : Ref sig .tc := ⟨.hbm, 228, rfl⟩
abbrev main_call14_v3 : Ref sig .tc := ⟨.hbm, 229, rfl⟩
abbrev main_call14_v4 : Ref sig .tc := ⟨.hbm, 230, rfl⟩
abbrev main_call14_c_0 : Ref sig .tc := ⟨.hbm, 231, rfl⟩
abbrev main_call14_v5 : Ref sig .tc := ⟨.hbm, 232, rfl⟩
abbrev main_v157 : Ref sig .tc := ⟨.hbm, 233, rfl⟩
abbrev main_cst_15 : Ref sig .tc := ⟨.hbm, 234, rfl⟩
abbrev main_call15_v0 : Ref sig .tc := ⟨.hbm, 235, rfl⟩
abbrev main_call15_v1 : Ref sig .tc := ⟨.hbm, 236, rfl⟩
abbrev main_call15_v2 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_cst_16 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_call16_v0 : Ref sig .tc := ⟨.hbm, 348, rfl⟩
abbrev main_call16_v1 : Ref sig .tc := ⟨.hbm, 349, rfl⟩
abbrev main_call16_cst : Ref sig .tc := ⟨.hbm, 350, rfl⟩
abbrev main_call16_v2 : Ref sig .tc := ⟨.hbm, 351, rfl⟩
abbrev main_call16_v3 : Ref sig .tc := ⟨.hbm, 352, rfl⟩
abbrev main_call16_cst_0 : Ref sig .tc := ⟨.hbm, 353, rfl⟩
abbrev main_call16_v4 : Ref sig .tc := ⟨.hbm, 354, rfl⟩
abbrev main_call16_v5 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_cst_17 : Ref sig .tc := ⟨.hbm, 360, rfl⟩
abbrev main_v271 : Ref sig .tc := ⟨.hbm, 361, rfl⟩
abbrev main_v272 : Ref sig .tc := ⟨.hbm, 362, rfl⟩
abbrev main_cst_18 : Ref sig .tc := ⟨.hbm, 363, rfl⟩
abbrev main_v273 : Ref sig .tc := ⟨.hbm, 364, rfl⟩
abbrev main_v274 : Ref sig .tc := ⟨.hbm, 365, rfl⟩
abbrev main_cst_19 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_cst_20 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_cst_21 : Ref sig .tc := ⟨.hbm, 389, rfl⟩
abbrev main_v296 : Ref sig .tc := ⟨.hbm, 390, rfl⟩
abbrev main_v297 : Ref sig .tc := ⟨.hbm, 391, rfl⟩
abbrev main_cst_22 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_v301 : Ref sig .tc := ⟨.hbm, 396, rfl⟩
abbrev main_v302 : Ref sig .tc := ⟨.hbm, 397, rfl⟩
abbrev main_cst_23 : Ref sig .tc := ⟨.hbm, 398, rfl⟩
abbrev main_v303 : Ref sig .tc := ⟨.hbm, 399, rfl⟩
abbrev main_v304 : Ref sig .tc := ⟨.hbm, 400, rfl⟩
abbrev main_cst_24 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_cst_25 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩
abbrev main_v317 : Ref sig .tc := ⟨.hbm, 415, rfl⟩
abbrev main_v318 : Ref sig .tc := ⟨.hbm, 416, rfl⟩
abbrev main_v319 : Ref sig .tc := ⟨.hbm, 417, rfl⟩

abbrev nD : Nat := 1
abbrev τ : Topo := Topo.v7x

variable {F : FTy → Type} [FloatOps F]
-- ==== Kernel2.lean ====
abbrev S32x2048x1024 : Shape := ⟨3, ![32, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S65536x1024 : Shape := ⟨2, ![65536, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S65536x1024, .f32⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32x2048x1024 : Shape := ⟨3, ![32, 2048, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S32x2048x4096 : Shape := ⟨3, ![32, 2048, 4096]⟩
abbrev S_ : Shape := ⟨0, ![]⟩
abbrev S4096x1024 : Shape := ⟨2, ![4096, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1024x4096, .f32⟩
  | .hbm, ⟨6, _⟩ => ⟨S32x2048x4096, .f32⟩
  | .hbm, ⟨7, _⟩ => ⟨S_, .f32⟩
  | .hbm, ⟨8, _⟩ => ⟨S32x2048x4096, .f32⟩
  | .hbm, ⟨9, _⟩ => ⟨S32x2048x4096, .f32⟩
  | .hbm, ⟨10, _⟩ => ⟨S32x2048x4096, .f32⟩
  | .hbm, ⟨11, _⟩ => ⟨S4096x1024, .f32⟩
  | .hbm, ⟨12, _⟩ => ⟨S32x2048x1024, .f32⟩
  | .hbm, ⟨13, _⟩ => ⟨S_, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S32x2048, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x1024, .f32⟩
  | .hbm, ⟨41, _⟩ => ⟨S32x2048x1024, .f32⟩
  | .hbm, ⟨42, _⟩ => ⟨S1x1x1024, .f32⟩
  | .hbm, ⟨43, _⟩ => ⟨S32x2048x1024, .f32⟩
  | .hbm, ⟨44, _⟩ => ⟨S32x2048x1024, .f32⟩
  | .hbm, ⟨45, _⟩ => ⟨S1x1x1024, .f32⟩
  | .hbm, ⟨46, _⟩ => ⟨S32x2048x1024, .f32⟩
  | .hbm, ⟨47, _⟩ => ⟨S32x2048x1024, .f32⟩
  | .hbm, ⟨48, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.MlpTile.lean ====
/- The channel mixer's body on one tile of 512 rows, read at an entry: each row of the tile is sent by `mlpRow`,
   a function of that row of the residual stream, the two weight matrices and the normalisation's gain and offset. -/
module

public import proofs.«01_k».proof.Proof.Gen.Kernel2Ideal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Mlp

/-- One hidden unit of the feed-forward map: the rectified inner product of the row with a column of the up matrix. -/
def act (X : Fin 1024 → EReal) (W : Fin 1024 → Fin 4096 → EReal) (k : Fin 4096) : EReal := max (∑ d : Fin 1024, X d * W d k) 0

/-- The residual sum of one row: the scaled row plus the feed-forward map's output. -/
def resid (X : Fin 1024 → EReal) (W : Fin 1024 → Fin 4096 → EReal) (D : Fin 4096 → Fin 1024 → EReal) (j : Fin 1024) : EReal :=
  Ideal.ofBits .f32 0x3F9837F0#32 * X j + ∑ k : Fin 4096, act X W k * act X W k * D k j

/-- The mean of a row of 1024 entries. -/
def mean (y : Fin 1024 → EReal) : EReal := Ideal.div (∑ j, y j) (Ideal.ofBits .f32 0x44800000#32)

/-- Layer normalisation of one row, with gain `g` and offset `b`. -/
def lnRow (y g b : Fin 1024 → EReal) (j : Fin 1024) : EReal :=
  (y j - mean y) * Ideal.rsqrt (mean (fun l => (y l - mean y) * (y l - mean y)) + Ideal.ofBits .f32 0x3727C5AC#32) * g j + b j

/-- The channel mixer on one row. -/
def mlpRow (X : Fin 1024 → EReal) (W : Fin 1024 → Fin 4096 → EReal) (D : Fin 4096 → Fin 1024 → EReal) (g b : Fin 1024 → EReal) : Fin 1024 → EReal :=
  lnRow (resid X W D) g b

end Cert.Mlp

namespace Cert.Kernel2Ideal.Tile

open Cert.Kernel2Ideal Cert.Kernel2Ideal.Gen Cert.Mlp

/-- 1024 squared hidden units through one block of columns of the up matrix. -/
theorem hidden_at (x : FVec Ideal S512x1024 .f32) (u : FVec Ideal S1024x1024 .bf16) (X : Fin 1024 → EReal) (W : Fin 1024 → Fin 4096 → EReal)
    (o : ℕ) (ho : o + 1024 ≤ 4096) (r : Fin 512) (hX : ∀ d : Fin 1024, x (ix2 r d) = X d)
    (hu : ∀ (d k : Fin 1024), u (ix2 d k) = W d ⟨o + k.val, by omega⟩) (k : Fin 1024) :
    (k0_pay4 (F := Ideal) x u : FVec Ideal S512x1024 .bf16) (ix2 r k) = act X W ⟨o + k.val, by omega⟩ * act X W ⟨o + k.val, by omega⟩ := by
  unfold act
  simp only [← hX, ← hu]
  pointwise [k0_pay4, k0_pay2, k0_pay1]
  try simp only [zero_add]

/-- The feed-forward map's output: four products over consecutive quarters of the hidden units, added in order. -/
theorem quarter_sum (X : Fin 1024 → EReal) (W : Fin 1024 → Fin 4096 → EReal) (D : Fin 4096 → EReal) :
    ∑ k : Fin 4096, act X W k * act X W k * D k
      = (((∑ k : Fin 1024, act X W ⟨0 + k.val, by omega⟩ * act X W ⟨0 + k.val, by omega⟩ * D ⟨0 + k.val, by omega⟩)
        + ∑ k : Fin 1024, act X W ⟨1024 + k.val, by omega⟩ * act X W ⟨1024 + k.val, by omega⟩ * D ⟨1024 + k.val, by omega⟩)
        + ∑ k : Fin 1024, act X W ⟨2048 + k.val, by omega⟩ * act X W ⟨2048 + k.val, by omega⟩ * D ⟨2048 + k.val, by omega⟩)
        + ∑ k : Fin 1024, act X W ⟨3072 + k.val, by omega⟩ * act X W ⟨3072 + k.val, by omega⟩ * D ⟨3072 + k.val, by omega⟩ := by
  rw [Fin.sum_univ_tiles 4 1024 rfl, Fin.sum_univ_four]
  rfl

/-- The residual sum of the tile as a vector expression. -/
def residV (x : FVec Ideal S512x1024 .f32) (u0 d0 u1 d1 u2 d2 u3 d3 : FVec Ideal S1024x1024 .bf16) : FVec Ideal S512x1024 .f32 :=
  let mm := fun (p : FVec Ideal S512x1024 .bf16) (d : FVec Ideal S1024x1024 .bf16) =>
    (matmul dot_S512x1024_S1024x1024_S512x1024_1_0_0_1_n_n none p (shapeCast S1024x1024 d shapeCasts_S1024x1024_S1024x1024) (constant S512x1024 .f32 0x00000000#32) : FVec Ideal S512x1024 .f32)
  let z : FVec Ideal S512x1024 .f32 := broadcast S512x1024 (Scalar.ofBits .f32 0x00000000#32)
  addf (mulf (broadcast S512x1024 (Scalar.ofBits .f32 0x3F9837F0#32)) (k0_pay1 x))
    (addf (addf (addf (addf z (mm (k0_pay4 x u0) d0)) (mm (k0_pay4 x u1) d1)) (mm (k0_pay4 x u2) d2)) (mm (k0_pay4 x u3) d3))

/-- Layer normalisation of a tile's rows as a vector expression. -/
def normV (y : FVec Ideal S512x1024 .f32) (g b : FVec Ideal S1x1024 .f32) : FVec Ideal S512x1024 .f32 :=
  let mu := divf (shapeCast S512x1 (multiReduction .add [1] S512 y 0x00000000#32 reduces_S512x1024_S512 (.inl rfl) rfl) shapeCasts_S512_S512x1)
    (broadcast S512x1 (Scalar.ofBits .f32 0x44800000#32))
  let d := subf y (broadcastTo S512x1024 mu broadcasts_S512x1_S512x1024)
  let var := divf (shapeCast S512x1 (multiReduction .add [1] S512 (mulf d d) 0x00000000#32 reduces_S512x1024_S512 (.inl rfl) rfl) shapeCasts_S512_S512x1)
    (broadcast S512x1 (Scalar.ofBits .f32 0x44800000#32))
  addf (mulf (mulf d (broadcastTo S512x1024 (rsqrt (addf var (broadcast S512x1 (Scalar.ofBits .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

/-- The normalisation read at an entry. -/
theorem normV_at (y : FVec Ideal S512x1024 .f32) (g b : FVec Ideal S1x1024 .f32) (r : Fin 512) (j : Fin 1024) :
    normV y g b (ix2 r j) = lnRow (fun l => y (ix2 r l)) (fun l => g (ix2 0 l)) (fun l => b (ix2 0 l)) j := by
  unfold lnRow mean
  pointwise [normV]

/-- The residual sum read at an entry. -/
theorem residV_at (x : FVec Ideal S512x1024 .f32) (u0 d0 u1 d1 u2 d2 u3 d3 : FVec Ideal S1024x1024 .bf16)
    (X : Fin 1024 → EReal) (W : Fin 1024 → Fin 4096 → EReal) (D : Fin 4096 → Fin 1024 → EReal)
    (r : Fin 512) (hX : ∀ d : Fin 1024, x (ix2 r d) = X d)
    (hu0 : ∀ (d k : Fin 1024), u0 (ix2 d k) = W d ⟨0 + k.val, by omega⟩) (hu1 : ∀ (d k : Fin 1024), u1 (ix2 d k) = W d ⟨1024 + k.val, by omega⟩)
    (hu2 : ∀ (d k : Fin 1024), u2 (ix2 d k) = W d ⟨2048 + k.val, by omega⟩) (hu3 : ∀ (d k : Fin 1024), u3 (ix2 d k) = W d ⟨3072 + k.val, by omega⟩)
    (hd0 : ∀ (k j : Fin 1024), d0 (ix2 k j) = D ⟨0 + k.val, by omega⟩ j) (hd1 : ∀ (k j : Fin 1024), d1 (ix2 k j) = D ⟨1024 + k.val, by omega⟩ j)
    (hd2 : ∀ (k j : Fin 1024), d2 (ix2 k j) = D ⟨2048 + k.val, by omega⟩ j) (hd3 : ∀ (k j : Fin 1024), d3 (ix2 k j) = D ⟨3072 + k.val, by omega⟩ j)
    (j : Fin 1024) : residV x u0 d0 u1 d1 u2 d2 u3 d3 (ix2 r j) = resid X W D j := by
  have e1 := hidden_at x u0 X W 0 (by omega) r hX hu0
  have e2 := hidden_at x u1 X W 1024 (by omega) r hX hu1
  have e3 := hidden_at x u2 X W 2048 (by omega) r hX hu2
  have e4 := hidden_at x u3 X W 3072 (by omega) r hX hu3
  unfold resid
  rw [quarter_sum X W (fun k => D k j)]
  simp only [← e1, ← e2, ← e3, ← e4, ← hd0, ← hd1, ← hd2, ← hd3, ← hX]
  pointwise [residV, k0_pay1]

/-- The tile is the normalisation of the residual sum. -/
theorem tile_eq (x : FVec Ideal S512x1024 .f32) (u0 d0 u1 d1 u2 d2 u3 d3 : FVec Ideal S1024x1024 .bf16) (g b : FVec Ideal S1x1024 .f32) :
    k0_pay6 (k0_pay1 x) (k0_pay2 x) (k0_pay3 x u0 d0 u1 d1) (k0_pay4 x u2) (k0_pay5 d2) (constant S512x1024 .f32 0x00000000#32) u3 d3 g b
      = normV (residV x u0 d0 u1 d1 u2 d2 u3 d3) g b := by
  rfl

end Cert.Kernel2Ideal.Tile

end
-- ==== Proof.MlpRef.lean ====
/- The plain channel mixer's result read at an entry: row `i` of the flattened result is `mlpRow` of row `i` of the residual stream. -/
module

public import proofs.«01_k».proof.Proof.MlpTile
public import proofs.«01_k».proof.Proof.Gen.Reference2Ideal.Read

@[expose] public section

set_option maxRecDepth 16384

noncomputable section

open Idealize.ShloMosaic Idealize.ShloMosaic.TcCoe Idealize.SL.Sem

namespace Cert.Reference2Ideal.Row

open Cert.Reference2Ideal Cert.Reference2Ideal.Gen Cert.Reference2Ideal.Read Cert.Mlp

/-- The reference's residual sum at an entry. -/
theorem resid_at (x : FVec Ideal S32x2048x1024 .f32) (w : FVec Ideal S1x1024x4096 .f32) (d : FVec Ideal S1x4096x1024 .f32)
    (b : Fin 32) (s : Fin 2048) (j : Fin 1024) :
    (val_main_v8 (F := Ideal) x w d : FVec Ideal S32x2048x1024 .f32) (ix3 b s j)
      = resid (fun l => x (ix3 b s l)) (fun l k => w (ix3 0 l k)) (fun k l => d (ix3 0 k l)) j := by
  unfold resid act
  pointwise [val_main_v8, val_main_v7, val_main_v6, val_main_cst, val_main_v5, val_main_v4, val_main_v3, val_main_v2, val_main_v1, val_main_v0,
    val_main_call0_v0, val_main_call0_cst]

/-- The reference's result at an entry. -/
theorem result_at (x : FVec Ideal S32x2048x1024 .f32) (w : FVec Ideal S1x1024x4096 .f32) (d : FVec Ideal S1x4096x1024 .f32)
    (g o : FVec Ideal S1x1024 .f32) (i : Fin 65536) (j : Fin 1024) :
    (val_main_v35 (F := Ideal) x w d g o : FVec Ideal S65536x1024 .f32) (ix2 i j)
      = mlpRow (fun l => x (ix3 (⟨i.val / 2048, by omega⟩ : Fin 32) (⟨i.val % 2048, by omega⟩ : Fin 2048) l)) (fun l k => w (ix3 0 l k)) (fun k l => d (ix3 0 k l))
          (fun l => g (ix2 0 l)) (fun l => o (ix2 0 l)) j := by
  unfold mlpRow lnRow mean
  simp only [← resid_at]
  pointwise [val_main_v35, val_main_v34, val_main_v33, val_main_v32, val_main_v31, val_main_v30, val_main_v29, val_main_v28, val_main_v27, val_main_v26,
    val_main_v25, val_main_v24, val_main_cst_4, val_main_v23, val_main_v22, val_main_v21, val_main_v20, val_main_cst_3, val_main_v19, val_main_v18,
    val_main_cst_2, val_main_v17, val_main_v16, val_main_v15, val_main_v14, val_main_v13, val_main_cst_1, val_main_v12, val_main_v11, val_main_cst_0,
    val_main_v10, val_main_v9]

end Cert.Reference2Ideal.Row

end
-- ==== Proof.MlpValue.lean ====
/- The channel mixer's result array after the run: the plain reference's result of the same arguments. -/
module

public import proofs.«01_k».proof.Proof.MlpTile
public import proofs.«01_k».proof.Proof.MlpRef
public import proofs.«01_k».proof.Proof.Gen.Kernel2Ideal.Frame
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Whole

open Cert.Kernel2Ideal Cert.Kernel2Ideal.Gen Cert.Kernel2Ideal.Tile Cert.Mlp

variable (m : (ℓ : Loc nD τ sig) → Buf (Elt Ideal) ℓ)

/-- The windows' block indices: the row windows move with the grid point, the others stand. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] :=
  (by decide +kernel : ∀ t : Fin grid0.N, _)

/-- The row window's block: 512 consecutive rows of the residual stream. -/
theorem rows_at (c : Dev nD) (t : Fin cfg0.N) (r : Fin 512) (l : Fin 1024) (ht : t.val < 128) :
    (iblk m c 0 t : FVec Ideal S512x1024 .f32) (ix2 r l)
      = (m ((c : Thread nD τ).loc main_arg0) : FVec Ideal S32x2048x1024 .f32)
          (ix3 (⟨(512 * t.val + r.val) / 2048, by omega⟩ : Fin 32) (⟨(512 * t.val + r.val) % 2048, by omega⟩ : Fin 2048) l) := by
  blk_simp [iblk, idx t]
  entry_read
  pointwise
  blk_ext [idx t]

/-- The up matrix. -/
theorem up_at (c : Dev nD) (t : Fin cfg0.N) (d : Fin 1024) (k : Fin 4096) :
    (iblk m c 1 t : FVec Ideal S1024x4096 .bf16) (ix2 d k)
      = (m ((c : Thread nD τ).loc main_arg1) : FVec Ideal S1x1024x4096 .f32) (ix3 0 d k) := by
  blk_simp [iblk, idx t]
  entry_read
  pointwise
  blk_ext [idx t]

/-- The down matrix. -/
theorem down_at (c : Dev nD) (t : Fin cfg0.N) (k : Fin 4096) (j : Fin 1024) :
    (iblk m c 2 t : FVec Ideal S4096x1024 .bf16) (ix2 k j)
      = (m ((c : Thread nD τ).loc main_arg2) : FVec Ideal S1x4096x1024 .f32) (ix3 0 k j) := by
  blk_simp [iblk, idx t]
  entry_read
  pointwise
  blk_ext [idx t]

/-- The gain. -/
theorem gain_at (c : Dev nD) (t : Fin cfg0.N) (l : Fin 1024) :
    (iblk m c 3 t : FVec Ideal S1x1024 .f32) (ix2 0 l)
      = (m ((c : Thread nD τ).loc main_arg3) : FVec Ideal S1x1024 .f32) (ix2 0 l) := by
  blk_simp [iblk, idx t]
  entry_read
  pointwise
  blk_ext [idx t]

/-- The offset. -/
theorem offset_at (c : Dev nD) (t : Fin cfg0.N) (l : Fin 1024) :
    (iblk m c 4 t : FVec Ideal S1x1024 .f32) (ix2 0 l)
      = (m ((c : Thread nD τ).loc main_arg4) : FVec Ideal S1x1024 .f32) (ix2 0 l) := by
  blk_simp [iblk, idx t]
  entry_read
  pointwise
  blk_ext [idx t]

/-- The reference's result over this program's argument arrays. -/
abbrev result (c : Dev nD) : FVec Ideal S65536x1024 .f32 :=
  Cert.Reference2Ideal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Columns of the up matrix from 0 on, as the body loads them. -/
theorem up0_at (c : Dev nD) (t : Fin cfg0.N) (d k : Fin 1024) :
    View.ld (iblk m c 1 t : FVec Ideal S1024x4096 .bf16) r0_1 (ix2 d k) = (m ((c : Thread nD τ).loc main_arg1) : FVec Ideal S1x1024x4096 .f32) (ix3 0 d ⟨0 + k.val, by omega⟩) := by
  refine Eq.trans ?_ (up_at m c t d ⟨0 + k.val, by omega⟩)
  pointwise

/-- Rows of the down matrix from 0 on, as the body loads them. -/
theorem down0_at (c : Dev nD) (t : Fin cfg0.N) (k j : Fin 1024) :
    View.ld (iblk m c 2 t : FVec Ideal S4096x1024 .bf16) r0_2 (ix2 k j) = (m ((c : Thread nD τ).loc main_arg2) : FVec Ideal S1x4096x1024 .f32) (ix3 0 ⟨0 + k.val, by omega⟩ j) := by
  refine Eq.trans ?_ (down_at m c t ⟨0 + k.val, by omega⟩ j)
  pointwise

/-- Columns of the up matrix from 1024 on, as the body loads them. -/
theorem up1_at (c : Dev nD) (t : Fin cfg0.N) (d k : Fin 1024) :
    View.ld (iblk m c 1 t : FVec Ideal S1024x4096 .bf16) r0_3 (ix2 d k) = (m ((c : Thread nD τ).loc main_arg1) : FVec Ideal S1x1024x4096 .f32) (ix3 0 d ⟨1024 + k.val, by omega⟩) := by
  refine Eq.trans ?_ (up_at m c t d ⟨1024 + k.val, by omega⟩)
  pointwise

/-- Rows of the down matrix from 1024 on, as the body loads them. -/
theorem down1_at (c : Dev nD) (t : Fin cfg0.N) (k j : Fin 1024) :
    View.ld (iblk m c 2 t : FVec Ideal S4096x1024 .bf16) r0_4 (ix2 k j) = (m ((c : Thread nD τ).loc main_arg2) : FVec Ideal S1x4096x1024 .f32) (ix3 0 ⟨1024 + k.val, by omega⟩ j) := by
  refine Eq.trans ?_ (down_at m c t ⟨1024 + k.val, by omega⟩ j)
  pointwise

/-- Columns of the up matrix from 2048 on, as the body loads them. -/
theorem up2_at (c : Dev nD) (t : Fin cfg0.N) (d k : Fin 1024) :
    View.ld (iblk m c 1 t : FVec Ideal S1024x4096 .bf16) r0_5 (ix2 d k) = (m ((c : Thread nD τ).loc main_arg1) : FVec Ideal S1x1024x4096 .f32) (ix3 0 d ⟨2048 + k.val, by omega⟩) := by
  refine Eq.trans ?_ (up_at m c t d ⟨2048 + k.val, by omega⟩)
  pointwise

/-- Rows of the down matrix from 2048 on, as the body loads them. -/
theorem down2_at (c : Dev nD) (t : Fin cfg0.N) (k j : Fin 1024) :
    View.ld (iblk m c 2 t : FVec Ideal S4096x1024 .bf16) r0_6 (ix2 k j) = (m ((c : Thread nD τ).loc main_arg2) : FVec Ideal S1x4096x1024 .f32) (ix3 0 ⟨2048 + k.val, by omega⟩ j) := by
  refine Eq.trans ?_ (down_at m c t ⟨2048 + k.val, by omega⟩ j)
  pointwise

/-- Columns of the up matrix from 3072 on, as the body loads them. -/
theorem up3_at (c : Dev nD) (t : Fin cfg0.N) (d k : Fin 1024) :
    View.ld (iblk m c 1 t : FVec Ideal S1024x4096 .bf16) r0_7 (ix2 d k) = (m ((c : Thread nD τ).loc main_arg1) : FVec Ideal S1x1024x4096 .f32) (ix3 0 d ⟨3072 + k.val, by omega⟩) := by
  refine Eq.trans ?_ (up_at m c t d ⟨3072 + k.val, by omega⟩)
  pointwise

/-- Rows of the down matrix from 3072 on, as the body loads them. -/
theorem down3_at (c : Dev nD) (t : Fin cfg0.N) (k j : Fin 1024) :
    View.ld (iblk m c 2 t : FVec Ideal S4096x1024 .bf16) r0_8 (ix2 k j) = (m ((c : Thread nD τ).loc main_arg2) : FVec Ideal S1x4096x1024 .f32) (ix3 0 ⟨3072 + k.val, by omega⟩ j) := by
  refine Eq.trans ?_ (down_at m c t ⟨3072 + k.val, by omega⟩ j)
  pointwise

/-- The place in the result of an entry of the output window's block. -/
theorem place (t : Fin cfg0.N) (ht : t.val < 128) (r : Fin 512) (j : Fin 1024) :
    (win0_5.blk t).view.emb (ix2 r j : S512x1024.Idx) = (ix2 (⟨512 * t.val + r.val, by omega⟩ : Fin 65536) j : S65536x1024.Idx) := by
  blk_ext [idx t]

/-- What the body leaves in the output window at an entry is the reference's result at the entry's place. -/
theorem point (c : Dev nD) (t : Fin cfg0.N) (ht : t.val < 128) (r : Fin 512) (j : Fin 1024) :
    out0_5 (iblk m c 0 t) (iblk m c 1 t) (iblk m c 2 t) (iblk m c 3 t) (iblk m c 4 t) (ix2 r j)
      = result m c (ix2 (⟨512 * t.val + r.val, by omega⟩ : Fin 65536) j) := by
  unfold out0_5
  have e : (ix2 r j : S512x1024.Idx) = r0_0.emb (ix2 r j) := by blk_ext
  refine (congrArg _ e).trans ?_
  refine (View.canon_cons_emb _ _ [] _).trans ?_
  rw [tile_eq, normV_at]
  refine Eq.trans ?_ (Cert.Reference2Ideal.Row.result_at _ _ _ _ _ _ j).symm
  unfold mlpRow
  have hg : ∀ l : Fin 1024, View.ld (iblk m c 3 t : FVec Ideal S1x1024 .f32) r0_9 (ix2 0 l) = _ := fun l => Eq.trans (by pointwise) (gain_at m c t l)
  have hb : ∀ l : Fin 1024, View.ld (iblk m c 4 t : FVec Ideal S1x1024 .f32) r0_9 (ix2 0 l) = _ := fun l => Eq.trans (by pointwise) (offset_at m c t l)
  have hx : ∀ l : Fin 1024, View.ld (iblk m c 0 t : FVec Ideal S512x1024 .f32) r0_0 (ix2 r l) = _ := fun l => Eq.trans (by pointwise) (rows_at m c t r l ht)
  rw [funext hg, funext hb]
  refine congrArg (fun y => lnRow y _ _ j) (funext fun l => ?_)
  exact residV_at _ _ _ _ _ _ _ _ _ _ (fun d k => (m ((c : Thread nD τ).loc main_arg1) : FVec Ideal S1x1024x4096 .f32) (ix3 0 d k)) (fun k j => (m ((c : Thread nD τ).loc main_arg2) : FVec Ideal S1x4096x1024 .f32) (ix3 0 k j)) r hx
    (up0_at m c t) (up1_at m c t) (up2_at m c t) (up3_at m c t) (down0_at m c t) (down1_at m c t) (down2_at m c t) (down3_at m c t) l

/-- The result array after the run is the reference's result. -/
theorem final (c : Dev nD) : (dats m 0 c).arrAt 5 (cfgs 0).N = result m c := by
  refine (dats m 0 c).arrAt_eq_of_covers 5 _ (by decide +kernel) fun t _ y => ?_
  blk_simp
  rw [after0_5]
  have ht : t.val < 128 := lt_of_lt_of_eq t.isLt N_0
  have hy : y = (ix2 (y 0) (y 1) : S512x1024.Idx) := eq_ix2 y
  rw [hy]
  refine (point m c t ht (y 0) (y 1)).trans ?_
  exact (congrArg (result m c) (place t ht (y 0) (y 1))).symm

end Cert.Kernel2Ideal.Whole

end
-- ==== Proof.MlpClaim.lean ====
/- The channel mixer's claims: the three frames and the algebraic claim against the plain reference. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.MlpValue

@[expose] public section

noncomputable section

namespace Cert.MlpClaim

open Idealize.ShloMosaic Idealize.SL.Sem

/-- The channel mixer over bit-exact floats leaves its arguments unchanged and every counter at zero. -/
theorem frame_kernel : Cert.quiescent_Kernel2 := fun m g _ => Cert.Kernel2.Gen.frame m g

/-- The channel mixer over the reals leaves its arguments unchanged and every counter at zero. -/
theorem frame_ideal : Cert.quiescent_Kernel2Ideal := fun m g _ => Cert.Kernel2Ideal.Gen.frame m g

/-- The reference leaves its arguments unchanged; it has no counter. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the reals the channel mixer's result is the reference's. -/
theorem algebraic : Cert.algebraic_Kernel2Ideal_Reference2Ideal := by
  pair_intro
  · run_from Cert.Kernel2Ideal.Value.run_blocks m g
  · run_from Cert.Reference2Ideal.Value.run m' g'
    rw [Cert.Kernel2Ideal.Whole.final m c]
    refine (Cert.Reference2Ideal.Read.val_main_v35_eq m' c).trans ?_
    obtain ⟨h0, h1, h2, h3, h4⟩ := hagree c
    unfold Cert.Kernel2Ideal.Whole.result
    rw [h0, h1, h2, h3, h4]

end Cert.MlpClaim

end
-- ==== Proof.PreFin.lean ====
/- What the precondition says of the arrays: every token and every weight of the input projection is a real number. -/
module

public import proofs.«01_k».proof.Proof.Gen.Pre_finite_inputs
public import Idealize.ShloMosaic.PureOps.Ideal.Laws
public import Idealize.ShloMosaic.Lib.ValueIdx

@[expose] public section

noncomputable section

namespace Cert.Mix

open Idealize Idealize.ShloMosaic Cert.Pre_finite_inputs Cert.Pre_finite_inputs.Gen

/-- A number whose absolute value is below infinity is real. -/
theorem real_of_lt (x : Ideal .f32) (h : FloatOps.cmpf .olt (FloatOps.hostAbsf x) (FloatOps.ofBits (F := Ideal) .f32 0x7F800000#32) = 1#1) : ∃ r : ℝ, x = (r : EReal) := by
  have e : Ideal.ofBits .f32 0x7F800000#32 = (⊤ : EReal) := by simp [Ideal.ofBits, Ideal.ieee]
  have h' : Ideal.cmp .olt (max x (-x)) (Ideal.ofBits .f32 0x7F800000#32) = 1#1 := h
  rw [e] at h'
  induction x using EReal.rec with
  | bot => simp [Ideal.cmp] at h'
  | coe r => exact ⟨r, rfl⟩
  | top => simp [Ideal.cmp] at h'

variable {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- The tokens are real. -/
theorem real_tokens (h : (fn (F := Ideal) x0 x1 x2 x3 x4 x5 x6 x7 x8 x9 x10 x11 x12 x13 x14).1 = (fun _ => 1#1)) (i : S32x2048x1024.Idx) :
    ∃ r : ℝ, x0 i = (r : EReal) := real_of_lt (x0 i) (congrFun h i)

/-- The weights of the input projection are real. -/
theorem real_weights (h : (fn (F := Ideal) x0 x1 x2 x3 x4 x5 x6 x7 x8 x9 x10 x11 x12 x13 x14).2 = (fun _ => 1#1)) (i : S1x1024x9248.Idx) :
    ∃ r : ℝ, x1 i = (r : EReal) := real_of_lt (x1 i) (congrFun h i)

end Cert.Mix
end
-- ==== Proof.MixGroup.lean ====
/- One group of heads in the token mixer's body: the stages of a group, and what each holds at an index. -/
module

public import proofs.«01_k».proof.Proof.Gen.KernelIdeal.Skeleton
public import Idealize.ShloMosaic.Lib.Pipeline.ValueKit

@[expose] public section

set_option maxRecDepth 16384

noncomputable section

namespace Cert.Mix

open Idealize.ShloMosaic Idealize.ShloMosaic.Tactic
open Cert.KernelIdeal Cert.KernelIdeal.Gen

variable {F : FTy → Type} [FloatOps F]

/-- One head's masked and scaled weights between the tokens of a chunk. -/
def headM (tri : IVec S256x256 1) (cb : FVec F S256x256 .f32) (c : FVec F S256x1 .f32)
    (r d : FVec F S1x256 .f32) : FVec F S256x256 .bf16 :=
  truncf .bf16 (mulf (mulf cb (exp (select tri
    (subf (broadcastTo S256x256 c broadcasts_S256x1_S256x256) (broadcastTo S256x256 r broadcasts_S1x256_S256x256))
    (broadcast S256x256 (Scalar.ofBits .f32 0xFF800000#32)))))
    (broadcastTo S256x256 d broadcasts_S1x256_S256x256)) bitsLt_bf16_f32

/-- The columns of a group's values that belong to one head, the other columns zero. -/
def headX (blk : IVec S1x256 32) (k : BitVec 32) (xs : Vec F S256x256 .f32) : FVec F S256x256 .bf16 :=
  truncf .bf16 (select (broadcastTo S256x256 (shapeCast S1x256 (cmpi .eq blk (broadcast S1x256 k)) shapeCasts_S1x256_S1x256)
    broadcasts_S1x256_S256x256) xs (broadcast S256x256 (Scalar.ofBits .f32 0x00000000#32))) bitsLt_bf16_f32

/-- One head's contribution within the chunk, added to the sum so far. -/
def headY (acc : FVec F S256x256 .f32) (m x : FVec F S256x256 .bf16) : FVec F S256x256 .f32 :=
  addf acc (matmul dot_S256x256_S256x256_S256x256_1_0_0_1_n_n none m x (constant S256x256 .f32 0x00000000#32))

/-- One head's contribution to the chunk's state, added to the sum so far. -/
def headS (acc : FVec F S128x256 .f32) (bt : FVec F S128x256 .f32) (w : FVec F S1x256 .f32) (x : FVec F S256x256 .bf16) :
    FVec F S128x256 .f32 :=
  addf acc (matmul dot_S128x256_S256x256_S128x256_1_0_0_1_n_n none
    (truncf .bf16 (mulf bt (broadcastTo S128x256 w broadcasts_S1x256_S128x256)) bitsLt_bf16_f32) x
    (constant S128x256 .f32 0x00000000#32))

/-- One head's decay placed in that head's columns. -/
def headE (blk : IVec S1x256 32) (k : BitVec 32) (e : FVec F S256x1 .f32) (acc : FVec F S256x256 .f32) : FVec F S256x256 .f32 :=
  select (broadcastTo S256x256 (shapeCast S1x256 (cmpi .eq blk (broadcast S1x256 k)) shapeCasts_S1x256_S1x256)
    broadcasts_S1x256_S256x256) (broadcastTo S256x256 (shapeCast S256x1 e shapeCasts_S256x1_S256x1) broadcasts_S256x1_S256x256) acc

/-- The four heads' decays, each in its own columns. -/
def grpE (blk : IVec S1x256 32) (e0 e1 e2 e3 : FVec F S256x1 .f32) : FVec F S256x256 .f32 :=
  headE blk 3#32 e3 (headE blk 2#32 e2 (headE blk 1#32 e1 (headE blk 0#32 e0
    (broadcast S256x256 (Scalar.ofBits .f32 0x00000000#32)))))

/-- A group's contribution within the chunk. -/
def grpY (tri : IVec S256x256 1) (blk : IVec S1x256 32) (cb : FVec F S256x256 .f32) (xs : Vec F S256x256 .f32)
    (c0 c1 c2 c3 : FVec F S256x1 .f32) (r0 r1 r2 r3 d0 d1 d2 d3 : FVec F S1x256 .f32) : FVec F S256x256 .f32 :=
  headY (headY (headY (headY (broadcast S256x256 (Scalar.ofBits .f32 0x00000000#32))
    (headM tri cb c0 r0 d0) (headX blk 0#32 xs)) (headM tri cb c1 r1 d1) (headX blk 1#32 xs))
    (headM tri cb c2 r2 d2) (headX blk 2#32 xs)) (headM tri cb c3 r3 d3) (headX blk 3#32 xs)

/-- A group's contribution to the chunk's state. -/
def grpS (blk : IVec S1x256 32) (bt : FVec F S128x256 .f32) (xs : Vec F S256x256 .f32)
    (w0 w1 w2 w3 : FVec F S1x256 .f32) : FVec F S128x256 .f32 :=
  headS (headS (headS (headS (broadcast S128x256 (Scalar.ofBits .f32 0x00000000#32))
    bt w0 (headX blk 0#32 xs)) bt w1 (headX blk 1#32 xs)) bt w2 (headX blk 2#32 xs)) bt w3 (headX blk 3#32 xs)

/-- A group's state after the chunk. -/
def grpState (st : Vec F S1x128x256 .f32) (E : FVec F S256x256 .f32) (S : FVec F S128x256 .f32) : FVec F S1x128x256 .f32 :=
  shapeCast S1x128x256 (addf (mulf (shapeCast S128x256 st shapeCasts_S1x128x256_S128x256)
    (broadcastTo S128x256 (extractStridedSlice S1x256 ![255, 0] E slices_S256x256_o255_0_S1x256) broadcasts_S1x256_S128x256)) S)
    shapeCasts_S128x256_S1x128x256

/-- A group's output before the gate. -/
def grpPre (Y E : FVec F S256x256 .f32) (cm : FVec F S256x128 .bf16) (st : Vec F S1x128x256 .f32)
    (dx : Vec F S1x256 .f32) (xs : Vec F S256x256 .f32) : FVec F S256x256 .f32 :=
  addf (addf Y (mulf (matmul dot_S256x128_S128x256_S256x256_1_0_0_1_n_n none cm
      (truncf .bf16 (shapeCast S128x256 st shapeCasts_S1x128x256_S128x256) bitsLt_bf16_f32)
      (constant S256x256 .f32 0x00000000#32)) E))
    (mulf (broadcastTo S256x256 (shapeCast S1x256 dx shapeCasts_S1x256_S1x256) broadcasts_S1x256_S256x256) xs)

/-- The gate and the group's normalisation. -/
def grpNorm (y : FVec F S256x256 .f32) (xb : Vec F S256x1024 .bf16) (wz : Vec F S1024x256 .bf16) (nw : Vec F S1x256 .f32) :
    FVec F S256x256 .bf16 := k0_pay241 y xb wz nw

/-- The head a column of a group belongs to, as the kernel computes it. -/
theorem blk_at : ∀ q : Fin 256, k0_pay40 (ix2 0 q) = BitVec.ofNat 32 (q.val / 64) := by
  decide +kernel

/-- Choosing by an equality of two small words chooses by the equality of the numbers. -/
theorem sel_eq {α : Type} (a b : ℕ) (ha : a < 4) (hb : b < 4) (x y : α) :
    Scalar.select (IntOp.cmpi CmpIPredicate.eq (BitVec.ofNat 32 a) (BitVec.ofNat 32 b)) x y = if a = b then x else y := by
  interval_cases a <;> interval_cases b <;> rfl

/-- Comparing two small words compares the numbers. -/
theorem le_word : ∀ l s : Fin 256, IntOp.cmpi CmpIPredicate.sge (BitVec.ofNat 32 l.val) (BitVec.ofNat 32 s.val)
    = if s.val ≤ l.val then 1#1 else 0#1 := by
  decide +kernel

/-- One head's columns of the inputs; zero at the other heads' columns. -/
theorem headX_at (k : Fin 4) (xs : Vec Ideal S256x256 .f32) (s q : Fin 256) :
    headX k0_pay40 (BitVec.ofNat 32 k.val) xs (ix2 s q) = if q.val / 64 = k.val then xs (ix2 s q) else 0 := by
  pointwise [headX]
  rw [blk_at, sel_eq _ _ (by omega) k.isLt]

/-- One head's factor spread over its columns; the other columns keep what they held. -/
theorem headE_at (k : Fin 4) (e : FVec Ideal S256x1 .f32) (acc : FVec Ideal S256x256 .f32) (l q : Fin 256) :
    headE k0_pay40 (BitVec.ofNat 32 k.val) e acc (ix2 l q) = if q.val / 64 = k.val then e (ix2 l 0) else acc (ix2 l q) := by
  pointwise [headE]
  rw [blk_at, sel_eq _ _ (by omega) k.isLt]

/-- One head's product of decayed scores and inputs, added to the sum so far. -/
theorem headY_at (acc : FVec Ideal S256x256 .f32) (m x : FVec Ideal S256x256 .bf16) (l q : Fin 256) :
    headY acc m x (ix2 l q) = acc (ix2 l q) + ∑ s : Fin 256, m (ix2 l s) * x (ix2 s q) := by
  pointwise [headY]

/-- One head's addition to the state, added to the sum so far. -/
theorem headS_at (acc bt : FVec Ideal S128x256 .f32) (w : FVec Ideal S1x256 .f32) (x : FVec Ideal S256x256 .bf16)
    (n : Fin 128) (q : Fin 256) :
    headS acc bt w x (ix2 n q) = acc (ix2 n q) + ∑ s : Fin 256, (bt (ix2 n s) * w (ix2 0 s)) * x (ix2 s q) := by
  pointwise [headS]

/-- The exponent between two tokens of a chunk: minus infinity where the later one would be read. -/
def seg (c r : EReal) (l s : Fin 256) : EReal := if s.val ≤ l.val then c - r else Ideal.ofBits .f32 0xFF800000#32

/-- One head's scores, each with the decay between its two tokens. -/
theorem headM_at (cb : FVec Ideal S256x256 .f32) (c : FVec Ideal S256x1 .f32) (r d : FVec Ideal S1x256 .f32) (l s : Fin 256) :
    headM k0_pay39 cb c r d (ix2 l s)
      = cb (ix2 l s) * Ideal.exp (seg (c (ix2 l 0)) (r (ix2 0 s)) l s) * d (ix2 0 s) := by
  unfold seg
  pointwise [headM, k0_pay39]
  rw [le_word]
  by_cases h : s.val ≤ l.val
  · simp only [h, if_true]; rfl
  · simp only [h, if_false]; rfl

/-- The head of a column. -/
abbrev hd (q : Fin 256) : Fin 4 := ⟨q.val / 64, by omega⟩

/-- A column belongs to one of four heads. -/
theorem hd_cases (q : Fin 256) : q.val / 64 = 0 ∨ q.val / 64 = 1 ∨ q.val / 64 = 2 ∨ q.val / 64 = 3 := by omega

/-- The four heads' factors, each over its own columns. -/
theorem grpE_at (e : Fin 4 → FVec Ideal S256x1 .f32) (l q : Fin 256) :
    grpE k0_pay40 (e 0) (e 1) (e 2) (e 3) (ix2 l q) = e (hd q) (ix2 l 0) := by
  unfold grpE
  have h0 := headE_at 0; have h1 := headE_at 1; have h2 := headE_at 2; have h3 := headE_at 3
  simp only [Fin.val_zero, Fin.val_one, Fin.val_two, show ((3 : Fin 4) : ℕ) = 3 from rfl] at h0 h1 h2 h3
  rw [h3, h2, h1, h0]
  rcases hd_cases q with h | h | h | h <;> simp [h, hd] <;> rfl

/-- What a chunk's tokens give one another, over the four heads. -/
theorem grpY_at (cb : FVec Ideal S256x256 .f32) (xs : Vec Ideal S256x256 .f32)
    (c : Fin 4 → FVec Ideal S256x1 .f32) (r d : Fin 4 → FVec Ideal S1x256 .f32) (l q : Fin 256) :
    grpY k0_pay39 k0_pay40 cb xs (c 0) (c 1) (c 2) (c 3) (r 0) (r 1) (r 2) (r 3) (d 0) (d 1) (d 2) (d 3) (ix2 l q)
      = ∑ s : Fin 256, (cb (ix2 l s) * Ideal.exp (seg (c (hd q) (ix2 l 0)) (r (hd q) (ix2 0 s)) l s) * d (hd q) (ix2 0 s))
          * xs (ix2 s q) := by
  unfold grpY
  have h0 := headX_at 0; have h1 := headX_at 1; have h2 := headX_at 2; have h3 := headX_at 3
  simp only [Fin.val_zero, Fin.val_one, Fin.val_two, show ((3 : Fin 4) : ℕ) = 3 from rfl] at h0 h1 h2 h3
  have hz : (broadcast S256x256 (Scalar.ofBits (F := Ideal) .f32 0x00000000#32) : FVec Ideal S256x256 .f32) (ix2 l q) = 0 := by pointwise
  simp only [headY_at, headM_at, h0, h1, h2, h3, hz]
  rcases hd_cases q with h | h | h | h <;> simp [h, hd] <;> rfl

/-- What a chunk's tokens add to the state, over the four heads. -/
theorem grpS_at (bt : FVec Ideal S128x256 .f32) (xs : Vec Ideal S256x256 .f32)
    (w : Fin 4 → FVec Ideal S1x256 .f32) (n : Fin 128) (q : Fin 256) :
    grpS k0_pay40 bt xs (w 0) (w 1) (w 2) (w 3) (ix2 n q)
      = ∑ s : Fin 256, (bt (ix2 n s) * w (hd q) (ix2 0 s)) * xs (ix2 s q) := by
  unfold grpS
  have h0 := headX_at 0; have h1 := headX_at 1; have h2 := headX_at 2; have h3 := headX_at 3
  simp only [Fin.val_zero, Fin.val_one, Fin.val_two, show ((3 : Fin 4) : ℕ) = 3 from rfl] at h0 h1 h2 h3
  have hz : (broadcast S128x256 (Scalar.ofBits (F := Ideal) .f32 0x00000000#32) : FVec Ideal S128x256 .f32) (ix2 n q) = 0 := by pointwise
  simp only [headS_at, h0, h1, h2, h3, hz]
  rcases hd_cases q with h | h | h | h <;> simp [h, hd] <;> rfl

/-- The state after a chunk: the state before it, decayed, and what the chunk adds. -/
theorem grpState_at (st : Vec Ideal S1x128x256 .f32) (E : FVec Ideal S256x256 .f32) (S : FVec Ideal S128x256 .f32)
    (n : Fin 128) (q : Fin 256) :
    grpState st E S (ix3 0 n q) = st (ix3 0 n q) * E (ix2 255 q) + S (ix2 n q) := by
  pointwise [grpState]

/-- The state branch before the gate: the chunk's own part, the incoming state's part and the skip. -/
theorem grpPre_at (Y E : FVec Ideal S256x256 .f32) (cm : FVec Ideal S256x128 .bf16) (st : Vec Ideal S1x128x256 .f32)
    (dx : Vec Ideal S1x256 .f32) (xs : Vec Ideal S256x256 .f32) (l q : Fin 256) :
    grpPre Y E cm st dx xs (ix2 l q)
      = Y (ix2 l q) + (∑ n : Fin 128, cm (ix2 l n) * st (ix3 0 n q)) * E (ix2 l q) + dx (ix2 0 q) * xs (ix2 l q) := by
  pointwise [grpPre]

/-- The logistic function as the kernel spells it. -/
def sig (v : EReal) : EReal := Ideal.div (Ideal.ofBits .f32 0x3F800000#32) (Ideal.ofBits .f32 0x3F800000#32 + Ideal.exp (0 - v))

/-- Gate and normalise one row of a group. -/
def normRow (y z nw : Fin 256 → EReal) (q : Fin 256) : EReal :=
  (y q * (z q * sig (z q))) * Ideal.rsqrt (Ideal.div (∑ p : Fin 256, (y p * (z p * sig (z p))) * (y p * (z p * sig (z p))))
    (Ideal.ofBits .f32 0x43800000#32) + Ideal.ofBits .f32 0x3727C5AC#32) * nw q

/-- The gated state branch, normalised over its group. -/
theorem grpNorm_at (y : FVec Ideal S256x256 .f32) (xb : Vec Ideal S256x1024 .bf16) (wz : Vec Ideal S1024x256 .bf16) (nw : Vec Ideal S1x256 .f32)
    (l q : Fin 256) :
    grpNorm y xb wz nw (ix2 l q) = normRow (fun p => y (ix2 l p)) (fun p => ∑ k : Fin 1024, xb (ix2 l k) * wz (ix2 k p))
      (fun p => nw (ix2 0 p)) q := by
  unfold normRow sig
  pointwise [grpNorm, k0_pay241]

end Cert.Mix
end
-- ==== Proof.MixStage.lean ====
/- The token mixer's body as a chain of stages. -/
module

public import proofs.«01_k».proof.Proof.MixGroup
public import Idealize.ShloMosaic.Lib.Pipeline.ReadBack

@[expose] public section

set_option maxRecDepth 16384

noncomputable section

namespace Cert.Mix

open Idealize Idealize.ShloMosaic Idealize.ShloMosaic.TcCoe Idealize.ShloMosaic.Tactic
open Cert.KernelIdeal Cert.KernelIdeal.Gen

variable {F : FTy → Type} [FloatOps F]

/-- The rates' running sums over a chunk. -/
def csV (xb : Vec F S256x1024 .bf16) (wdt : Vec F S1024x128 .bf16) (dtb al : Vec F S1x128 .f32) : FVec F S256x128 .f32 :=
  k0_pay34 (iota .tc S256x128 32 [0] iota_S256x128_d0_w32) (k0_pay32 xb wdt dtb al) k0_pay33

/-- The convolved and activated channels, in eight blocks of columns. -/
def actP (CB : Vec F S264x4096 .f32) (cw : Vec F S4x4096 .f32) (cbias : Vec F S1x4096 .f32) : List (View.Piece (Elt F) S256x4096 .f32) :=
  [⟨(Rect.unit (s := S256x4096) ![0, 3584] S256x512.size inb_S256x4096_S256x512_0_3584), k0_pay27 (View.ld CB (Rect.unit (s := S264x4096) ![5, 3584] S256x512.size inb_S264x4096_S256x512_5_3584)) (View.ld cw (Rect.unit (s := S4x4096) ![0, 3584] S1x512.size inb_S4x4096_S1x512_0_3584)) (View.ld CB (Rect.unit (s := S264x4096) ![6, 3584] S256x512.size inb_S264x4096_S256x512_6_3584)) (View.ld cw (Rect.unit (s := S4x4096) ![1, 3584] S1x512.size inb_S4x4096_S1x512_1_3584)) (View.ld CB (Rect.unit (s := S264x4096) ![7, 3584] S256x512.size inb_S264x4096_S256x512_7_3584)) (View.ld cw (Rect.unit (s := S4x4096) ![2, 3584] S1x512.size inb_S4x4096_S1x512_2_3584)) (View.ld CB (Rect.unit (s := S264x4096) ![8, 3584] S256x512.size inb_S264x4096_S256x512_8_3584)) (View.ld cw (Rect.unit (s := S4x4096) ![3, 3584] S1x512.size inb_S4x4096_S1x512_3_3584)) (View.ld cbias (Rect.unit (s := S1x4096) ![0, 3584] S1x512.size inb_S1x4096_S1x512_0_3584))⟩,
   ⟨(Rect.unit (s := S256x4096) ![0, 3072] S256x512.size inb_S256x4096_S256x512_0_3072), k0_pay27 (View.ld CB (Rect.unit (s := S264x4096) ![5, 3072] S256x512.size inb_S264x4096_S256x512_5_3072)) (View.ld cw (Rect.unit (s := S4x4096) ![0, 3072] S1x512.size inb_S4x4096_S1x512_0_3072)) (View.ld CB (Rect.unit (s := S264x4096) ![6, 3072] S256x512.size inb_S264x4096_S256x512_6_3072)) (View.ld cw (Rect.unit (s := S4x4096) ![1, 3072] S1x512.size inb_S4x4096_S1x512_1_3072)) (View.ld CB (Rect.unit (s := S264x4096) ![7, 3072] S256x512.size inb_S264x4096_S256x512_7_3072)) (View.ld cw (Rect.unit (s := S4x4096) ![2, 3072] S1x512.size inb_S4x4096_S1x512_2_3072)) (View.ld CB (Rect.unit (s := S264x4096) ![8, 3072] S256x512.size inb_S264x4096_S256x512_8_3072)) (View.ld cw (Rect.unit (s := S4x4096) ![3, 3072] S1x512.size inb_S4x4096_S1x512_3_3072)) (View.ld cbias (Rect.unit (s := S1x4096) ![0, 3072] S1x512.size inb_S1x4096_S1x512_0_3072))⟩,
   ⟨(Rect.unit (s := S256x4096) ![0, 2560] S256x512.size inb_S256x4096_S256x512_0_2560), k0_pay27 (View.ld CB (Rect.unit (s := S264x4096) ![5, 2560] S256x512.size inb_S264x4096_S256x512_5_2560)) (View.ld cw (Rect.unit (s := S4x4096) ![0, 2560] S1x512.size inb_S4x4096_S1x512_0_2560)) (View.ld CB (Rect.unit (s := S264x4096) ![6, 2560] S256x512.size inb_S264x4096_S256x512_6_2560)) (View.ld cw (Rect.unit (s := S4x4096) ![1, 2560] S1x512.size inb_S4x4096_S1x512_1_2560)) (View.ld CB (Rect.unit (s := S264x4096) ![7, 2560] S256x512.size inb_S264x4096_S256x512_7_2560)) (View.ld cw (Rect.unit (s := S4x4096) ![2, 2560] S1x512.size inb_S4x4096_S1x512_2_2560)) (View.ld CB (Rect.unit (s := S264x4096) ![8, 2560] S256x512.size inb_S264x4096_S256x512_8_2560)) (View.ld cw (Rect.unit (s := S4x4096) ![3, 2560] S1x512.size inb_S4x4096_S1x512_3_2560)) (View.ld cbias (Rect.unit (s := S1x4096) ![0, 2560] S1x512.size inb_S1x4096_S1x512_0_2560))⟩,
   ⟨(Rect.unit (s := S256x4096) ![0, 2048] S256x512.size inb_S256x4096_S256x512_0_2048), k0_pay27 (View.ld CB (Rect.unit (s := S264x4096) ![5, 2048] S256x512.size inb_S264x4096_S256x512_5_2048)) (View.ld cw (Rect.unit (s := S4x4096) ![0, 2048] S1x512.size inb_S4x4096_S1x512_0_2048)) (View.ld CB (Rect.unit (s := S264x4096) ![6, 2048] S256x512.size inb_S264x4096_S256x512_6_2048)) (View.ld cw (Rect.unit (s := S4x4096) ![1, 2048] S1x512.size inb_S4x4096_S1x512_1_2048)) (View.ld CB (Rect.unit (s := S264x4096) ![7, 2048] S256x512.size inb_S264x4096_S256x512_7_2048)) (View.ld cw (Rect.unit (s := S4x4096) ![2, 2048] S1x512.size inb_S4x4096_S1x512_2_2048)) (View.ld CB (Rect.unit (s := S264x4096) ![8, 2048] S256x512.size inb_S264x4096_S256x512_8_2048)) (View.ld cw (Rect.unit (s := S4x4096) ![3, 2048] S1x512.size inb_S4x4096_S1x512_3_2048)) (View.ld cbias (Rect.unit (s := S1x4096) ![0, 2048] S1x512.size inb_S1x4096_S1x512_0_2048))⟩,
   ⟨(Rect.unit (s := S256x4096) ![0, 1536] S256x512.size inb_S256x4096_S256x512_0_1536), k0_pay27 (View.ld CB (Rect.unit (s := S264x4096) ![5, 1536] S256x512.size inb_S264x4096_S256x512_5_1536)) (View.ld cw (Rect.unit (s := S4x4096) ![0, 1536] S1x512.size inb_S4x4096_S1x512_0_1536)) (View.ld CB (Rect.unit (s := S264x4096) ![6, 1536] S256x512.size inb_S264x4096_S256x512_6_1536)) (View.ld cw (Rect.unit (s := S4x4096) ![1, 1536] S1x512.size inb_S4x4096_S1x512_1_1536)) (View.ld CB (Rect.unit (s := S264x4096) ![7, 1536] S256x512.size inb_S264x4096_S256x512_7_1536)) (View.ld cw (Rect.unit (s := S4x4096) ![2, 1536] S1x512.size inb_S4x4096_S1x512_2_1536)) (View.ld CB (Rect.unit (s := S264x4096) ![8, 1536] S256x512.size inb_S264x4096_S256x512_8_1536)) (View.ld cw (Rect.unit (s := S4x4096) ![3, 1536] S1x512.size inb_S4x4096_S1x512_3_1536)) (View.ld cbias (Rect.unit (s := S1x4096) ![0, 1536] S1x512.size inb_S1x4096_S1x512_0_1536))⟩,
   ⟨(Rect.unit (s := S256x4096) ![0, 1024] S256x512.size inb_S256x4096_S256x512_0_1024), k0_pay27 (View.ld CB (Rect.unit (s := S264x4096) ![5, 1024] S256x512.size inb_S264x4096_S256x512_5_1024)) (View.ld cw (Rect.unit (s := S4x4096) ![0, 1024] S1x512.size inb_S4x4096_S1x512_0_1024)) (View.ld CB (Rect.unit (s := S264x4096) ![6, 1024] S256x512.size inb_S264x4096_S256x512_6_1024)) (View.ld cw (Rect.unit (s := S4x4096) ![1, 1024] S1x512.size inb_S4x4096_S1x512_1_1024)) (View.ld CB (Rect.unit (s := S264x4096) ![7, 1024] S256x512.size inb_S264x4096_S256x512_7_1024)) (View.ld cw (Rect.unit (s := S4x4096) ![2, 1024] S1x512.size inb_S4x4096_S1x512_2_1024)) (View.ld CB (Rect.unit (s := S264x4096) ![8, 1024] S256x512.size inb_S264x4096_S256x512_8_1024)) (View.ld cw (Rect.unit (s := S4x4096) ![3, 1024] S1x512.size inb_S4x4096_S1x512_3_1024)) (View.ld cbias (Rect.unit (s := S1x4096) ![0, 1024] S1x512.size inb_S1x4096_S1x512_0_1024))⟩,
   ⟨(Rect.unit (s := S256x4096) ![0, 512] S256x512.size inb_S256x4096_S256x512_0_512), k0_pay27 (View.ld CB (Rect.unit (s := S264x4096) ![5, 512] S256x512.size inb_S264x4096_S256x512_5_512)) (View.ld cw (Rect.unit (s := S4x4096) ![0, 512] S1x512.size inb_S4x4096_S1x512_0_512)) (View.ld CB (Rect.unit (s := S264x4096) ![6, 512] S256x512.size inb_S264x4096_S256x512_6_512)) (View.ld cw (Rect.unit (s := S4x4096) ![1, 512] S1x512.size inb_S4x4096_S1x512_1_512)) (View.ld CB (Rect.unit (s := S264x4096) ![7, 512] S256x512.size inb_S264x4096_S256x512_7_512)) (View.ld cw (Rect.unit (s := S4x4096) ![2, 512] S1x512.size inb_S4x4096_S1x512_2_512)) (View.ld CB (Rect.unit (s := S264x4096) ![8, 512] S256x512.size inb_S264x4096_S256x512_8_512)) (View.ld cw (Rect.unit (s := S4x4096) ![3, 512] S1x512.size inb_S4x4096_S1x512_3_512)) (View.ld cbias (Rect.unit (s := S1x4096) ![0, 512] S1x512.size inb_S1x4096_S1x512_0_512))⟩,
   ⟨(Rect.unit (s := S256x4096) ![0, 0] S256x512.size inb_S256x4096_S256x512_0_0), k0_pay27 (View.ld CB (Rect.unit (s := S264x4096) ![5, 0] S256x512.size inb_S264x4096_S256x512_5_0)) (View.ld cw (Rect.unit (s := S4x4096) ![0, 0] S1x512.size inb_S4x4096_S1x512_0_0)) (View.ld CB (Rect.unit (s := S264x4096) ![6, 0] S256x512.size inb_S264x4096_S256x512_6_0)) (View.ld cw (Rect.unit (s := S4x4096) ![1, 0] S1x512.size inb_S4x4096_S1x512_1_0)) (View.ld CB (Rect.unit (s := S264x4096) ![7, 0] S256x512.size inb_S264x4096_S256x512_7_0)) (View.ld cw (Rect.unit (s := S4x4096) ![2, 0] S1x512.size inb_S4x4096_S1x512_2_0)) (View.ld CB (Rect.unit (s := S264x4096) ![8, 0] S256x512.size inb_S264x4096_S256x512_8_0)) (View.ld cw (Rect.unit (s := S4x4096) ![3, 0] S1x512.size inb_S4x4096_S1x512_3_0)) (View.ld cbias (Rect.unit (s := S1x4096) ![0, 0] S1x512.size inb_S1x4096_S1x512_0_0))⟩]

/-- The decays of group 0. -/
def gE0 (cs : FVec F S256x128 .f32) : FVec F S256x256 .f32 := grpE k0_pay40 (extractStridedSlice S256x1 ![0, 0] (k0_pay38 cs) slices_S256x128_o0_0_S256x1) (extractStridedSlice S256x1 ![0, 1] (k0_pay38 cs) slices_S256x128_o0_1_S256x1) (extractStridedSlice S256x1 ![0, 2] (k0_pay38 cs) slices_S256x128_o0_2_S256x1) (extractStridedSlice S256x1 ![0, 3] (k0_pay38 cs) slices_S256x128_o0_3_S256x1)

/-- Group 0's contribution within the chunk. -/
def gY0 (dt cs : FVec F S256x128 .f32) (xs : Vec F S256x256 .f32) (b c : Vec F S256x128 .f32) : FVec F S256x256 .f32 :=
  grpY k0_pay39 k0_pay40 (k0_pay43 b c) xs (extractStridedSlice S256x1 ![0, 0] cs slices_S256x128_o0_0_S256x1) (extractStridedSlice S256x1 ![0, 1] cs slices_S256x128_o0_1_S256x1) (extractStridedSlice S256x1 ![0, 2] cs slices_S256x128_o0_2_S256x1) (extractStridedSlice S256x1 ![0, 3] cs slices_S256x128_o0_3_S256x1) (extractStridedSlice S1x256 ![0, 0] (k0_pay35 cs) slices_S128x256_o0_0_S1x256) (extractStridedSlice S1x256 ![1, 0] (k0_pay35 cs) slices_S128x256_o1_0_S1x256) (extractStridedSlice S1x256 ![2, 0] (k0_pay35 cs) slices_S128x256_o2_0_S1x256) (extractStridedSlice S1x256 ![3, 0] (k0_pay35 cs) slices_S128x256_o3_0_S1x256) (extractStridedSlice S1x256 ![0, 0] (k0_pay36 dt) slices_S128x256_o0_0_S1x256) (extractStridedSlice S1x256 ![1, 0] (k0_pay36 dt) slices_S128x256_o1_0_S1x256) (extractStridedSlice S1x256 ![2, 0] (k0_pay36 dt) slices_S128x256_o2_0_S1x256) (extractStridedSlice S1x256 ![3, 0] (k0_pay36 dt) slices_S128x256_o3_0_S1x256)

/-- Group 0's contribution to the state. -/
def gS0 (dt cs : FVec F S256x128 .f32) (xs : Vec F S256x256 .f32) (b : Vec F S256x128 .f32) : FVec F S128x256 .f32 :=
  grpS k0_pay40 (k0_pay41 b) xs (extractStridedSlice S1x256 ![0, 0] (k0_pay37 dt cs) slices_S128x256_o0_0_S1x256) (extractStridedSlice S1x256 ![1, 0] (k0_pay37 dt cs) slices_S128x256_o1_0_S1x256) (extractStridedSlice S1x256 ![2, 0] (k0_pay37 dt cs) slices_S128x256_o2_0_S1x256) (extractStridedSlice S1x256 ![3, 0] (k0_pay37 dt cs) slices_S128x256_o3_0_S1x256)

/-- Group 0's gated and normalised output. -/
def gO0 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY0 dt cs xs b c) (gE0 cs) (k0_pay42 c) st dx xs) xb wz nw

/-- Group 0's state after the chunk. -/
def gT0 (dt cs : FVec F S256x128 .f32) (xs : Vec F S256x256 .f32) (b : Vec F S256x128 .f32) (st : Vec F S1x128x256 .f32) :
    FVec F S1x128x256 .f32 := grpState st (gE0 cs) (gS0 dt cs xs b)

/-- The decays of group 1. -/
def gE1 (cs : FVec F S256x128 .f32) : FVec F S256x256 .f32 := grpE k0_pay40 (extractStridedSlice S256x1 ![0, 4] (k0_pay38 cs) slices_S256x128_o0_4_S256x1) (extractStridedSlice S256x1 ![0, 5] (k0_pay38 cs) slices_S256x128_o0_5_S256x1) (extractStridedSlice S256x1 ![0, 6] (k0_pay38 cs) slices_S256x128_o0_6_S256x1) (extractStridedSlice S256x1 ![0, 7] (k0_pay38 cs) slices_S256x128_o0_7_S256x1)

/-- Group 1's contribution within the chunk. -/
def gY1 (dt cs : FVec F S256x128 .f32) (xs : Vec F S256x256 .f32) (b c : Vec F S256x128 .f32) : FVec F S256x256 .f32 :=
  grpY k0_pay39 k0_pay40 (k0_pay43 b c) xs (extractStridedSlice S256x1 ![0, 4] cs slices_S256x128_o0_4_S256x1) (extractStridedSlice S256x1 ![0, 5] cs slices_S256x128_o0_5_S256x1) (extractStridedSlice S256x1 ![0, 6] cs slices_S256x128_o0_6_S256x1) (extractStridedSlice S256x1 ![0, 7] cs slices_S256x128_o0_7_S256x1) (extractStridedSlice S1x256 ![4, 0] (k0_pay35 cs) slices_S128x256_o4_0_S1x256) (extractStridedSlice S1x256 ![5, 0] (k0_pay35 cs) slices_S128x256_o5_0_S1x256) (extractStridedSlice S1x256 ![6, 0] (k0_pay35 cs) slices_S128x256_o6_0_S1x256) (extractStridedSlice S1x256 ![7, 0] (k0_pay35 cs) slices_S128x256_o7_0_S1x256) (extractStridedSlice S1x256 ![4, 0] (k0_pay36 dt) slices_S128x256_o4_0_S1x256) (extractStridedSlice S1x256 ![5, 0] (k0_pay36 dt) slices_S128x256_o5_0_S1x256) (extractStridedSlice S1x256 ![6, 0] (k0_pay36 dt) slices_S128x256_o6_0_S1x256) (extractStridedSlice S1x256 ![7, 0] (k0_pay36 dt) slices_S128x256_o7_0_S1x256)

/-- Group 1's contribution to the state. -/
def gS1 (dt cs : FVec F S256x128 .f32) (xs : Vec F S256x256 .f32) (b : Vec F S256x128 .f32) : FVec F S128x256 .f32 :=
  grpS k0_pay40 (k0_pay41 b) xs (extractStridedSlice S1x256 ![4, 0] (k0_pay37 dt cs) slices_S128x256_o4_0_S1x256) (extractStridedSlice S1x256 ![5, 0] (k0_pay37 dt cs) slices_S128x256_o5_0_S1x256) (extractStridedSlice S1x256 ![6, 0] (k0_pay37 dt cs) slices_S128x256_o6_0_S1x256) (extractStridedSlice S1x256 ![7, 0] (k0_pay37 dt cs) slices_S128x256_o7_0_S1x256)

/-- Group 1's gated and normalised output. -/
def gO1 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY1 dt cs xs b c) (gE1 cs) (k0_pay42 c) st dx xs) xb wz nw

/-- Group 1's state after the chunk. -/
def gT1 (dt cs : FVec F S256x128 .f32) (xs : Vec F S256x256 .f32) (b : Vec F S256x128 .f32) (st : Vec F S1x128x256 .f32) :
    FVec F S1x128x256 .f32 := grpState st (gE1 cs) (gS1 dt cs xs b)

/-- The decays of group 2. -/
def gE2 (cs : FVec F S256x128 .f32) : FVec F S256x256 .f32 := grpE k0_pay40 (extractStridedSlice S256x1 ![0, 8] (k0_pay38 cs) slices_S256x128_o0_8_S256x1) (extractStridedSlice S256x1 ![0, 9] (k0_pay38 cs) slices_S256x128_o0_9_S256x1) (extractStridedSlice S256x1 ![0, 10] (k0_pay38 cs) slices_S256x128_o0_10_S256x1) (extractStridedSlice S256x1 ![0, 11] (k0_pay38 cs) slices_S256x128_o0_11_S256x1)

/-- Group 2's contribution within the chunk. -/
def gY2 (dt cs : FVec F S256x128 .f32) (xs : Vec F S256x256 .f32) (b c : Vec F S256x128 .f32) : FVec F S256x256 .f32 :=
  grpY k0_pay39 k0_pay40 (k0_pay43 b c) xs (extractStridedSlice S256x1 ![0, 8] cs slices_S256x128_o0_8_S256x1) (extractStridedSlice S256x1 ![0, 9] cs slices_S256x128_o0_9_S256x1) (extractStridedSlice S256x1 ![0, 10] cs slices_S256x128_o0_10_S256x1) (extractStridedSlice S256x1 ![0, 11] cs slices_S256x128_o0_11_S256x1) (extractStridedSlice S1x256 ![8, 0] (k0_pay35 cs) slices_S128x256_o8_0_S1x256) (extractStridedSlice S1x256 ![9, 0] (k0_pay35 cs) slices_S128x256_o9_0_S1x256) (extractStridedSlice S1x256 ![10, 0] (k0_pay35 cs) slices_S128x256_o10_0_S1x256) (extractStridedSlice S1x256 ![11, 0] (k0_pay35 cs) slices_S128x256_o11_0_S1x256) (extractStridedSlice S1x256 ![8, 0] (k0_pay36 dt) slices_S128x256_o8_0_S1x256) (extractStridedSlice S1x256 ![9, 0] (k0_pay36 dt) slices_S128x256_o9_0_S1x256) (extractStridedSlice S1x256 ![10, 0] (k0_pay36 dt) slices_S128x256_o10_0_S1x256) (extractStridedSlice S1x256 ![11, 0] (k0_pay36 dt) slices_S128x256_o11_0_S1x256)

/-- Group 2's contribution to the state. -/
def gS2 (dt cs : FVec F S256x128 .f32) (xs : Vec F S256x256 .f32) (b : Vec F S256x128 .f32) : FVec F S128x256 .f32 :=
  grpS k0_pay40 (k0_pay41 b) xs (extractStridedSlice S1x256 ![8, 0] (k0_pay37 dt cs) slices_S128x256_o8_0_S1x256) (extractStridedSlice S1x256 ![9, 0] (k0_pay37 dt cs) slices_S128x256_o9_0_S1x256) (extractStridedSlice S1x256 ![10, 0] (k0_pay37 dt cs) slices_S128x256_o10_0_S1x256) (extractStridedSlice S1x256 ![11, 0] (k0_pay37 dt cs) slices_S128x256_o11_0_S1x256)

/-- Group 2's gated and normalised output. -/
def gO2 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY2 dt cs xs b c) (gE2 cs) (k0_pay42 c) st dx xs) xb wz nw

/-- Group 2's state after the chunk. -/
def gT2 (dt cs : FVec F S256x128 .f32) (xs : Vec F S256x256 .f32) (b : Vec F S256x128 .f32) (st : Vec F S1x128x256 .f32) :
    FVec F S1x128x256 .f32 := grpState st (gE2 cs) (gS2 dt cs xs b)

/-- The decays of group 3. -/
def gE3 (cs : FVec F S256x128 .f32) : FVec F S256x256 .f32 := grpE k0_pay40 (extractStridedSlice S256x1 ![0, 12] (k0_pay38 cs) slices_S256x128_o0_12_S256x1) (extractStridedSlice S256x1 ![0, 13] (k0_pay38 cs) slices_S256x128_o0_13_S256x1) (extractStridedSlice S256x1 ![0, 14] (k0_pay38 cs) slices_S256x128_o0_14_S256x1) (extractStridedSlice S256x1 ![0, 15] (k0_pay38 cs) slices_S256x128_o0_15_S256x1)

/-- Group 3's contribution within the chunk. -/
def gY3 (dt cs : FVec F S256x128 .f32) (xs : Vec F S256x256 .f32) (b c : Vec F S256x128 .f32) : FVec F S256x256 .f32 :=
  grpY k0_pay39 k0_pay40 (k0_pay43 b c) xs (extractStridedSlice S256x1 ![0, 12] cs slices_S256x128_o0_12_S256x1) (extractStridedSlice S256x1 ![0, 13] cs slices_S256x128_o0_13_S256x1) (extractStridedSlice S256x1 ![0, 14] cs slices_S256x128_o0_14_S256x1) (extractStridedSlice S256x1 ![0, 15] cs slices_S256x128_o0_15_S256x1) (extractStridedSlice S1x256 ![12, 0] (k0_pay35 cs) slices_S128x256_o12_0_S1x256) (extractStridedSlice S1x256 ![13, 0] (k0_pay35 cs) slices_S128x256_o13_0_S1x256) (extractStridedSlice S1x256 ![14, 0] (k0_pay35 cs) slices_S128x256_o14_0_S1x256) (extractStridedSlice S1x256 ![15, 0] (k0_pay35 cs) slices_S128x256_o15_0_S1x256) (extractStridedSlice S1x256 ![12, 0] (k0_pay36 dt) slices_S128x256_o12_0_S1x256) (extractStridedSlice S1x256 ![13, 0] (k0_pay36 dt) slices_S128x256_o13_0_S1x256) (extractStridedSlice S1x256 ![14, 0] (k0_pay36 dt) slices_S128x256_o14_0_S1x256) (extractStridedSlice S1x256 ![15, 0] (k0_pay36 dt) slices_S128x256_o15_0_S1x256)

/-- Group 3's contribution to the state. -/
def gS3 (dt cs : FVec F S256x128 .f32) (xs : Vec F S256x256 .f32) (b : Vec F S256x128 .f32) : FVec F S128x256 .f32 :=
  grpS k0_pay40 (k0_pay41 b) xs (extractStridedSlice S1x256 ![12, 0] (k0_pay37 dt cs) slices_S128x256_o12_0_S1x256) (extractStridedSlice S1x256 ![13, 0] (k0_pay37 dt cs) slices_S128x256_o13_0_S1x256) (extractStridedSlice S1x256 ![14, 0] (k0_pay37 dt cs) slices_S128x256_o14_0_S1x256) (extractStridedSlice S1x256 ![15, 0] (k0_pay37 dt cs) slices_S128x256_o15_0_S1x256)

/-- Group 3's gated and normalised output. -/
def gO3 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY3 dt cs xs b c) (gE3 cs) (k0_pay42 c) st dx xs) xb wz nw

/-- Group 3's state after the chunk. -/
def gT3 (dt cs : FVec F S256x128 .f32) (xs : Vec F S256x256 .f32) (b : Vec F S256x128 .f32) (st : Vec F S1x128x256 .f32) :
    FVec F S1x128x256 .f32 := grpState st (gE3 cs) (gS3 dt cs xs b)

/-- The decays of group 4. -/
def gE4 (cs : FVec F S256x128 .f32) : FVec F S256x256 .f32 := grpE k0_pay40 (extractStridedSlice S256x1 ![0, 16] (k0_pay38 cs) slices_S256x128_o0_16_S256x1) (extractStridedSlice S256x1 ![0, 17] (k0_pay38 cs) slices_S256x128_o0_17_S256x1) (extractStridedSlice S256x1 ![0, 18] (k0_pay38 cs) slices_S256x128_o0_18_S256x1) (extractStridedSlice S256x1 ![0, 19] (k0_pay38 cs) slices_S256x128_o0_19_S256x1)

/-- Group 4's contribution within the chunk. -/
def gY4 (dt cs : FVec F S256x128 .f32) (xs : Vec F S256x256 .f32) (b c : Vec F S256x128 .f32) : FVec F S256x256 .f32 :=
  grpY k0_pay39 k0_pay40 (k0_pay43 b c) xs (extractStridedSlice S256x1 ![0, 16] cs slices_S256x128_o0_16_S256x1) (extractStridedSlice S256x1 ![0, 17] cs slices_S256x128_o0_17_S256x1) (extractStridedSlice S256x1 ![0, 18] cs slices_S256x128_o0_18_S256x1) (extractStridedSlice S256x1 ![0, 19] cs slices_S256x128_o0_19_S256x1) (extractStridedSlice S1x256 ![16, 0] (k0_pay35 cs) slices_S128x256_o16_0_S1x256) (extractStridedSlice S1x256 ![17, 0] (k0_pay35 cs) slices_S128x256_o17_0_S1x256) (extractStridedSlice S1x256 ![18, 0] (k0_pay35 cs) slices_S128x256_o18_0_S1x256) (extractStridedSlice S1x256 ![19, 0] (k0_pay35 cs) slices_S128x256_o19_0_S1x256) (extractStridedSlice S1x256 ![16, 0] (k0_pay36 dt) slices_S128x256_o16_0_S1x256) (extractStridedSlice S1x256 ![17, 0] (k0_pay36 dt) slices_S128x256_o17_0_S1x256) (extractStridedSlice S1x256 ![18, 0] (k0_pay36 dt) slices_S128x256_o18_0_S1x256) (extractStridedSlice S1x256 ![19, 0] (k0_pay36 dt) slices_S128x256_o19_0_S1x256)

/-- Group 4's contribution to the state. -/
def gS4 (dt cs : FVec F S256x128 .f32) (xs : Vec F S256x256 .f32) (b : Vec F S256x128 .f32) : FVec F S128x256 .f32 :=
  grpS k0_pay40 (k0_pay41 b) xs (extractStridedSlice S1x256 ![16, 0] (k0_pay37 dt cs) slices_S128x256_o16_0_S1x256) (extractStridedSlice S1x256 ![17, 0] (k0_pay37 dt cs) slices_S128x256_o17_0_S1x256) (extractStridedSlice S1x256 ![18, 0] (k0_pay37 dt cs) slices_S128x256_o18_0_S1x256) (extractStridedSlice S1x256 ![19, 0] (k0_pay37 dt cs) slices_S128x256_o19_0_S1x256)

/-- Group 4's gated and normalised output. -/
def gO4 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY4 dt cs xs b c) (gE4 cs) (k0_pay42 c) st dx xs) xb wz nw

/-- Group 4's state after the chunk. -/
def gT4 (dt cs : FVec F S256x128 .f32) (xs : Vec F S256x256 .f32) (b : Vec F S256x128 .f32) (st : Vec F S1x128x256 .f32) :
    FVec F S1x128x256 .f32 := grpState st (gE4 cs) (gS4 dt cs xs b)

/-- The decays of group 5. -/
def gE5 (cs : FVec F S256x128 .f32) : FVec F S256x256 .f32 := grpE k0_pay40 (extractStridedSlice S256x1 ![0, 20] (k0_pay38 cs) slices_S256x128_o0_20_S256x1) (extractStridedSlice S256x1 ![0, 21] (k0_pay38 cs) slices_S256x128_o0_21_S256x1) (extractStridedSlice S256x1 ![0, 22] (k0_pay38 cs) slices_S256x128_o0_22_S256x1) (extractStridedSlice S256x1 ![0, 23] (k0_pay38 cs) slices_S256x128_o0_23_S256x1)

/-- Group 5's contribution within the chunk. -/
def gY5 (dt cs : FVec F S256x128 .f32) (xs : Vec F S256x256 .f32) (b c : Vec F S256x128 .f32) : FVec F S256x256 .f32 :=
  grpY k0_pay39 k0_pay40 (k0_pay43 b c) xs (extractStridedSlice S256x1 ![0, 20] cs slices_S256x128_o0_20_S256x1) (extractStridedSlice S256x1 ![0, 21] cs slices_S256x128_o0_21_S256x1) (extractStridedSlice S256x1 ![0, 22] cs slices_S256x128_o0_22_S256x1) (extractStridedSlice S256x1 ![0, 23] cs slices_S256x128_o0_23_S256x1) (extractStridedSlice S1x256 ![20, 0] (k0_pay35 cs) slices_S128x256_o20_0_S1x256) (extractStridedSlice S1x256 ![21, 0] (k0_pay35 cs) slices_S128x256_o21_0_S1x256) (extractStridedSlice S1x256 ![22, 0] (k0_pay35 cs) slices_S128x256_o22_0_S1x256) (extractStridedSlice S1x256 ![23, 0] (k0_pay35 cs) slices_S128x256_o23_0_S1x256) (extractStridedSlice S1x256 ![20, 0] (k0_pay36 dt) slices_S128x256_o20_0_S1x256) (extractStridedSlice S1x256 ![21, 0] (k0_pay36 dt) slices_S128x256_o21_0_S1x256) (extractStridedSlice S1x256 ![22, 0] (k0_pay36 dt) slices_S128x256_o22_0_S1x256) (extractStridedSlice S1x256 ![23, 0] (k0_pay36 dt) slices_S128x256_o23_0_S1x256)

/-- Group 5's contribution to the state. -/
def gS5 (dt cs : FVec F S256x128 .f32) (xs : Vec F S256x256 .f32) (b : Vec F S256x128 .f32) : FVec F S128x256 .f32 :=
  grpS k0_pay40 (k0_pay41 b) xs (extractStridedSlice S1x256 ![20, 0] (k0_pay37 dt cs) slices_S128x256_o20_0_S1x256) (extractStridedSlice S1x256 ![21, 0] (k0_pay37 dt cs) slices_S128x256_o21_0_S1x256) (extractStridedSlice S1x256 ![22, 0] (k0_pay37 dt cs) slices_S128x256_o22_0_S1x256) (extractStridedSlice S1x256 ![23, 0] (k0_pay37 dt cs) slices_S128x256_o23_0_S1x256)

/-- Group 5's gated and normalised output. -/
def gO5 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY5 dt cs xs b c) (gE5 cs) (k0_pay42 c) st dx xs) xb wz nw

/-- Group 5's state after the chunk. -/
def gT5 (dt cs : FVec F S256x128 .f32) (xs : Vec F S256x256 .f32) (b : Vec F S256x128 .f32) (st : Vec F S1x128x256 .f32) :
    FVec F S1x128x256 .f32 := grpState st (gE5 cs) (gS5 dt cs xs b)

/-- The decays of group 6. -/
def gE6 (cs : FVec F S256x128 .f32) : FVec F S256x256 .f32 := grpE k0_pay40 (extractStridedSlice S256x1 ![0, 24] (k0_pay38 cs) slices_S256x128_o0_24_S256x1) (extractStridedSlice S256x1 ![0, 25] (k0_pay38 cs) slices_S256x128_o0_25_S256x1) (extractStridedSlice S256x1 ![0, 26] (k0_pay38 cs) slices_S256x128_o0_26_S256x1) (extractStridedSlice S256x1 ![0, 27] (k0_pay38 cs) slices_S256x128_o0_27_S256x1)

/-- Group 6's contribution within the chunk. -/
def gY6 (dt cs : FVec F S256x128 .f32) (xs : Vec F S256x256 .f32) (b c : Vec F S256x128 .f32) : FVec F S256x256 .f32 :=
  grpY k0_pay39 k0_pay40 (k0_pay43 b c) xs (extractStridedSlice S256x1 ![0, 24] cs slices_S256x128_o0_24_S256x1) (extractStridedSlice S256x1 ![0, 25] cs slices_S256x128_o0_25_S256x1) (extractStridedSlice S256x1 ![0, 26] cs slices_S256x128_o0_26_S256x1) (extractStridedSlice S256x1 ![0, 27] cs slices_S256x128_o0_27_S256x1) (extractStridedSlice S1x256 ![24, 0] (k0_pay35 cs) slices_S128x256_o24_0_S1x256) (extractStridedSlice S1x256 ![25, 0] (k0_pay35 cs) slices_S128x256_o25_0_S1x256) (extractStridedSlice S1x256 ![26, 0] (k0_pay35 cs) slices_S128x256_o26_0_S1x256) (extractStridedSlice S1x256 ![27, 0] (k0_pay35 cs) slices_S128x256_o27_0_S1x256) (extractStridedSlice S1x256 ![24, 0] (k0_pay36 dt) slices_S128x256_o24_0_S1x256) (extractStridedSlice S1x256 ![25, 0] (k0_pay36 dt) slices_S128x256_o25_0_S1x256) (extractStridedSlice S1x256 ![26, 0] (k0_pay36 dt) slices_S128x256_o26_0_S1x256) (extractStridedSlice S1x256 ![27, 0] (k0_pay36 dt) slices_S128x256_o27_0_S1x256)

/-- Group 6's contribution to the state. -/
def gS6 (dt cs : FVec F S256x128 .f32) (xs : Vec F S256x256 .f32) (b : Vec F S256x128 .f32) : FVec F S128x256 .f32 :=
  grpS k0_pay40 (k0_pay41 b) xs (extractStridedSlice S1x256 ![24, 0] (k0_pay37 dt cs) slices_S128x256_o24_0_S1x256) (extractStridedSlice S1x256 ![25, 0] (k0_pay37 dt cs) slices_S128x256_o25_0_S1x256) (extractStridedSlice S1x256 ![26, 0] (k0_pay37 dt cs) slices_S128x256_o26_0_S1x256) (extractStridedSlice S1x256 ![27, 0] (k0_pay37 dt cs) slices_S128x256_o27_0_S1x256)

/-- Group 6's gated and normalised output. -/
def gO6 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY6 dt cs xs b c) (gE6 cs) (k0_pay42 c) st dx xs) xb wz nw

/-- Group 6's state after the chunk. -/
def gT6 (dt cs : FVec F S256x128 .f32) (xs : Vec F S256x256 .f32) (b : Vec F S256x128 .f32) (st : Vec F S1x128x256 .f32) :
    FVec F S1x128x256 .f32 := grpState st (gE6 cs) (gS6 dt cs xs b)

/-- The decays of group 7. -/
def gE7 (cs : FVec F S256x128 .f32) : FVec F S256x256 .f32 := grpE k0_pay40 (extractStridedSlice S256x1 ![0, 28] (k0_pay38 cs) slices_S256x128_o0_28_S256x1) (extractStridedSlice S256x1 ![0, 29] (k0_pay38 cs) slices_S256x128_o0_29_S256x1) (extractStridedSlice S256x1 ![0, 30] (k0_pay38 cs) slices_S256x128_o0_30_S256x1) (extractStridedSlice S256x1 ![0, 31] (k0_pay38 cs) slices_S256x128_o0_31_S256x1)

/-- Group 7's contribution within the chunk. -/
def gY7 (dt cs : FVec F S256x128 .f32) (xs : Vec F S256x256 .f32) (b c : Vec F S256x128 .f32) : FVec F S256x256 .f32 :=
  grpY k0_pay39 k0_pay40 (k0_pay43 b c) xs (extractStridedSlice S256x1 ![0, 28] cs slices_S256x128_o0_28_S256x1) (extractStridedSlice S256x1 ![0, 29] cs slices_S256x128_o0_29_S256x1) (extractStridedSlice S256x1 ![0, 30] cs slices_S256x128_o0_30_S256x1) (extractStridedSlice S256x1 ![0, 31] cs slices_S256x128_o0_31_S256x1) (extractStridedSlice S1x256 ![28, 0] (k0_pay35 cs) slices_S128x256_o28_0_S1x256) (extractStridedSlice S1x256 ![29, 0] (k0_pay35 cs) slices_S128x256_o29_0_S1x256) (extractStridedSlice S1x256 ![30, 0] (k0_pay35 cs) slices_S128x256_o30_0_S1x256) (extractStridedSlice S1x256 ![31, 0] (k0_pay35 cs) slices_S128x256_o31_0_S1x256) (extractStridedSlice S1x256 ![28, 0] (k0_pay36 dt) slices_S128x256_o28_0_S1x256) (extractStridedSlice S1x256 ![29, 0] (k0_pay36 dt) slices_S128x256_o29_0_S1x256) (extractStridedSlice S1x256 ![30, 0] (k0_pay36 dt) slices_S128x256_o30_0_S1x256) (extractStridedSlice S1x256 ![31, 0] (k0_pay36 dt) slices_S128x256_o31_0_S1x256)

/-- Group 7's contribution to the state. -/
def gS7 (dt cs : FVec F S256x128 .f32) (xs : Vec F S256x256 .f32) (b : Vec F S256x128 .f32) : FVec F S128x256 .f32 :=
  grpS k0_pay40 (k0_pay41 b) xs (extractStridedSlice S1x256 ![28, 0] (k0_pay37 dt cs) slices_S128x256_o28_0_S1x256) (extractStridedSlice S1x256 ![29, 0] (k0_pay37 dt cs) slices_S128x256_o29_0_S1x256) (extractStridedSlice S1x256 ![30, 0] (k0_pay37 dt cs) slices_S128x256_o30_0_S1x256) (extractStridedSlice S1x256 ![31, 0] (k0_pay37 dt cs) slices_S128x256_o31_0_S1x256)

/-- Group 7's gated and normalised output. -/
def gO7 (xb : Vec F S256x1024 .bf16) (dt cs : FVec F S256x128 .f32) (xs : Vec F S256x256 .f32) (b c : Vec F S256x128 .f32)
    (st : Vec F S1x128x256 .f32) (dx : Vec F S1x256 .f32) (wz : Vec F S1024x256 .bf16) (nw : Vec F S1x256 .f32) : FVec F S256x256 .bf16 :=
  grpNorm (grpPre (gY7 dt cs xs b c) (gE7 cs) (k0_pay42 c) st dx xs) xb wz nw

/-- Group 7's state after the chunk. -/
def gT7 (dt cs : FVec F S256x128 .f32) (xs : Vec F S256x256 .f32) (b : Vec F S256x128 .f32) (st : Vec F S1x128x256 .f32) :
    FVec F S1x128x256 .f32 := grpState st (gE7 cs) (gS7 dt cs xs b)

/-- The groups' outputs, side by side. -/
def ynP (xb : Vec F S256x1024 .bf16) (dt cs : FVec F S256x128 .f32) (act : Vec F S256x4096 .f32) (st : Vec F S8x128x256 .f32) (dx nw : Vec F S1x2048 .f32) (wz : Vec F S1024x2048 .bf16) :
    List (View.Piece (Elt F) S256x2048 .bf16) :=
  [⟨(Rect.unit (s := S256x2048) ![0, 1792] S256x256.size inb_S256x2048_S256x256_0_1792), gO7 xb dt cs (View.ld act (Rect.unit (s := S256x4096) ![0, 1792] S256x256.size inb_S256x4096_S256x256_0_1792)) (View.ld act (Rect.unit (s := S256x4096) ![0, 2944] S256x128.size inb_S256x4096_S256x128_0_2944)) (View.ld act (Rect.unit (s := S256x4096) ![0, 3968] S256x128.size inb_S256x4096_S256x128_0_3968)) (View.ld st (Rect.unit (s := S8x128x256) ![7, 0, 0] S1x128x256.size inb_S8x128x256_S1x128x256_7_0_0)) (View.ld dx (Rect.unit (s := S1x2048) ![0, 1792] S1x256.size inb_S1x2048_S1x256_0_1792)) (View.ld wz (Rect.unit (s := S1024x2048) ![0, 1792] S1024x256.size inb_S1024x2048_S1024x256_0_1792)) (View.ld nw (Rect.unit (s := S1x2048) ![0, 1792] S1x256.size inb_S1x2048_S1x256_0_1792))⟩,
   ⟨(Rect.unit (s := S256x2048) ![0, 1536] S256x256.size inb_S256x2048_S256x256_0_1536), gO6 xb dt cs (View.ld act (Rect.unit (s := S256x4096) ![0, 1536] S256x256.size inb_S256x4096_S256x256_0_1536)) (View.ld act (Rect.unit (s := S256x4096) ![0, 2816] S256x128.size inb_S256x4096_S256x128_0_2816)) (View.ld act (Rect.unit (s := S256x4096) ![0, 3840] S256x128.size inb_S256x4096_S256x128_0_3840)) (View.ld st (Rect.unit (s := S8x128x256) ![6, 0, 0] S1x128x256.size inb_S8x128x256_S1x128x256_6_0_0)) (View.ld dx (Rect.unit (s := S1x2048) ![0, 1536] S1x256.size inb_S1x2048_S1x256_0_1536)) (View.ld wz (Rect.unit (s := S1024x2048) ![0, 1536] S1024x256.size inb_S1024x2048_S1024x256_0_1536)) (View.ld nw (Rect.unit (s := S1x2048) ![0, 1536] S1x256.size inb_S1x2048_S1x256_0_1536))⟩,
   ⟨(Rect.unit (s := S256x2048) ![0, 1280] S256x256.size inb_S256x2048_S256x256_0_1280), gO5 xb dt cs (View.ld act (Rect.unit (s := S256x4096) ![0, 1280] S256x256.size inb_S256x4096_S256x256_0_1280)) (View.ld act (Rect.unit (s := S256x4096) ![0, 2688] S256x128.size inb_S256x4096_S256x128_0_2688)) (View.ld act (Rect.unit (s := S256x4096) ![0, 3712] S256x128.size inb_S256x4096_S256x128_0_3712)) (View.ld st (Rect.unit (s := S8x128x256) ![5, 0, 0] S1x128x256.size inb_S8x128x256_S1x128x256_5_0_0)) (View.ld dx (Rect.unit (s := S1x2048) ![0, 1280] S1x256.size inb_S1x2048_S1x256_0_1280)) (View.ld wz (Rect.unit (s := S1024x2048) ![0, 1280] S1024x256.size inb_S1024x2048_S1024x256_0_1280)) (View.ld nw (Rect.unit (s := S1x2048) ![0, 1280] S1x256.size inb_S1x2048_S1x256_0_1280))⟩,
   ⟨(Rect.unit (s := S256x2048) ![0, 1024] S256x256.size inb_S256x2048_S256x256_0_1024), gO4 xb dt cs (View.ld act (Rect.unit (s := S256x4096) ![0, 1024] S256x256.size inb_S256x4096_S256x256_0_1024)) (View.ld act (Rect.unit (s := S256x4096) ![0, 2560] S256x128.size inb_S256x4096_S256x128_0_2560)) (View.ld act (Rect.unit (s := S256x4096) ![0, 3584] S256x128.size inb_S256x4096_S256x128_0_3584)) (View.ld st (Rect.unit (s := S8x128x256) ![4, 0, 0] S1x128x256.size inb_S8x128x256_S1x128x256_4_0_0)) (View.ld dx (Rect.unit (s := S1x2048) ![0, 1024] S1x256.size inb_S1x2048_S1x256_0_1024)) (View.ld wz (Rect.unit (s := S1024x2048) ![0, 1024] S1024x256.size inb_S1024x2048_S1024x256_0_1024)) (View.ld nw (Rect.unit (s := S1x2048) ![0, 1024] S1x256.size inb_S1x2048_S1x256_0_1024))⟩,
   ⟨(Rect.unit (s := S256x2048) ![0, 768] S256x256.size inb_S256x2048_S256x256_0_768), gO3 xb dt cs (View.ld act (Rect.unit (s := S256x4096) ![0, 768] S256x256.size inb_S256x4096_S256x256_0_768)) (View.ld act (Rect.unit (s := S256x4096) ![0, 2432] S256x128.size inb_S256x4096_S256x128_0_2432)) (View.ld act (Rect.unit (s := S256x4096) ![0, 3456] S256x128.size inb_S256x4096_S256x128_0_3456)) (View.ld st (Rect.unit (s := S8x128x256) ![3, 0, 0] S1x128x256.size inb_S8x128x256_S1x128x256_3_0_0)) (View.ld dx (Rect.unit (s := S1x2048) ![0, 768] S1x256.size inb_S1x2048_S1x256_0_768)) (View.ld wz (Rect.unit (s := S1024x2048) ![0, 768] S1024x256.size inb_S1024x2048_S1024x256_0_768)) (View.ld nw (Rect.unit (s := S1x2048) ![0, 768] S1x256.size inb_S1x2048_S1x256_0_768))⟩,
   ⟨(Rect.unit (s := S256x2048) ![0, 512] S256x256.size inb_S256x2048_S256x256_0_512), gO2 xb dt cs (View.ld act (Rect.unit (s := S256x4096) ![0, 512] S256x256.size inb_S256x4096_S256x256_0_512)) (View.ld act (Rect.unit (s := S256x4096) ![0, 2304] S256x128.size inb_S256x4096_S256x128_0_2304)) (View.ld act (Rect.unit (s := S256x4096) ![0, 3328] S256x128.size inb_S256x4096_S256x128_0_3328)) (View.ld st (Rect.unit (s := S8x128x256) ![2, 0, 0] S1x128x256.size inb_S8x128x256_S1x128x256_2_0_0)) (View.ld dx (Rect.unit (s := S1x2048) ![0, 512] S1x256.size inb_S1x2048_S1x256_0_512)) (View.ld wz (Rect.unit (s := S1024x2048) ![0, 512] S1024x256.size inb_S1024x2048_S1024x256_0_512)) (View.ld nw (Rect.unit (s := S1x2048) ![0, 512] S1x256.size inb_S1x2048_S1x256_0_512))⟩,
   ⟨(Rect.unit (s := S256x2048) ![0, 256] S256x256.size inb_S256x2048_S256x256_0_256), gO1 xb dt cs (View.ld act (Rect.unit (s := S256x4096) ![0, 256] S256x256.size inb_S256x4096_S256x256_0_256)) (View.ld act (Rect.unit (s := S256x4096) ![0, 2176] S256x128.size inb_S256x4096_S256x128_0_2176)) (View.ld act (Rect.unit (s := S256x4096) ![0, 3200] S256x128.size inb_S256x4096_S256x128_0_3200)) (View.ld st (Rect.unit (s := S8x128x256) ![1, 0, 0] S1x128x256.size inb_S8x128x256_S1x128x256_1_0_0)) (View.ld dx (Rect.unit (s := S1x2048) ![0, 256] S1x256.size inb_S1x2048_S1x256_0_256)) (View.ld wz (Rect.unit (s := S1024x2048) ![0, 256] S1024x256.size inb_S1024x2048_S1024x256_0_256)) (View.ld nw (Rect.unit (s := S1x2048) ![0, 256] S1x256.size inb_S1x2048_S1x256_0_256))⟩,
   ⟨(Rect.unit (s := S256x2048) ![0, 0] S256x256.size inb_S256x2048_S256x256_0_0), gO0 xb dt cs (View.ld act (Rect.unit (s := S256x4096) ![0, 0] S256x256.size inb_S256x4096_S256x256_0_0)) (View.ld act (Rect.unit (s := S256x4096) ![0, 2048] S256x128.size inb_S256x4096_S256x128_0_2048)) (View.ld act (Rect.unit (s := S256x4096) ![0, 3072] S256x128.size inb_S256x4096_S256x128_0_3072)) (View.ld st (Rect.unit (s := S8x128x256) ![0, 0, 0] S1x128x256.size inb_S8x128x256_S1x128x256_0_0_0)) (View.ld dx (Rect.unit (s := S1x2048) ![0, 0] S1x256.size inb_S1x2048_S1x256_0_0)) (View.ld wz (Rect.unit (s := S1024x2048) ![0, 0] S1024x256.size inb_S1024x2048_S1024x256_0_0)) (View.ld nw (Rect.unit (s := S1x2048) ![0, 0] S1x256.size inb_S1x2048_S1x256_0_0))⟩]

/-- The groups' states, one below the other. -/
def stP (dt cs : FVec F S256x128 .f32) (act : Vec F S256x4096 .f32) (st : Vec F S8x128x256 .f32) :
    List (View.Piece (Elt F) S8x128x256 .f32) :=
  [⟨(Rect.unit (s := S8x128x256) ![7, 0, 0] S1x128x256.size inb_S8x128x256_S1x128x256_7_0_0), gT7 dt cs (View.ld act (Rect.unit (s := S256x4096) ![0, 1792] S256x256.size inb_S256x4096_S256x256_0_1792)) (View.ld act (Rect.unit (s := S256x4096) ![0, 2944] S256x128.size inb_S256x4096_S256x128_0_2944)) (View.ld st (Rect.unit (s := S8x128x256) ![7, 0, 0] S1x128x256.size inb_S8x128x256_S1x128x256_7_0_0))⟩,
   ⟨(Rect.unit (s := S8x128x256) ![6, 0, 0] S1x128x256.size inb_S8x128x256_S1x128x256_6_0_0), gT6 dt cs (View.ld act (Rect.unit (s := S256x4096) ![0, 1536] S256x256.size inb_S256x4096_S256x256_0_1536)) (View.ld act (Rect.unit (s := S256x4096) ![0, 2816] S256x128.size inb_S256x4096_S256x128_0_2816)) (View.ld st (Rect.unit (s := S8x128x256) ![6, 0, 0] S1x128x256.size inb_S8x128x256_S1x128x256_6_0_0))⟩,
   ⟨(Rect.unit (s := S8x128x256) ![5, 0, 0] S1x128x256.size inb_S8x128x256_S1x128x256_5_0_0), gT5 dt cs (View.ld act (Rect.unit (s := S256x4096) ![0, 1280] S256x256.size inb_S256x4096_S256x256_0_1280)) (View.ld act (Rect.unit (s := S256x4096) ![0, 2688] S256x128.size inb_S256x4096_S256x128_0_2688)) (View.ld st (Rect.unit (s := S8x128x256) ![5, 0, 0] S1x128x256.size inb_S8x128x256_S1x128x256_5_0_0))⟩,
   ⟨(Rect.unit (s := S8x128x256) ![4, 0, 0] S1x128x256.size inb_S8x128x256_S1x128x256_4_0_0), gT4 dt cs (View.ld act (Rect.unit (s := S256x4096) ![0, 1024] S256x256.size inb_S256x4096_S256x256_0_1024)) (View.ld act (Rect.unit (s := S256x4096) ![0, 2560] S256x128.size inb_S256x4096_S256x128_0_2560)) (View.ld st (Rect.unit (s := S8x128x256) ![4, 0, 0] S1x128x256.size inb_S8x128x256_S1x128x256_4_0_0))⟩,
   ⟨(Rect.unit (s := S8x128x256) ![3, 0, 0] S1x128x256.size inb_S8x128x256_S1x128x256_3_0_0), gT3 dt cs (View.ld act (Rect.unit (s := S256x4096) ![0, 768] S256x256.size inb_S256x4096_S256x256_0_768)) (View.ld act (Rect.unit (s := S256x4096) ![0, 2432] S256x128.size inb_S256x4096_S256x128_0_2432)) (View.ld st (Rect.unit (s := S8x128x256) ![3, 0, 0] S1x128x256.size inb_S8x128x256_S1x128x256_3_0_0))⟩,
   ⟨(Rect.unit (s := S8x128x256) ![2, 0, 0] S1x128x256.size inb_S8x128x256_S1x128x256_2_0_0), gT2 dt cs (View.ld act (Rect.unit (s := S256x4096) ![0, 512] S256x256.size inb_S256x4096_S256x256_0_512)) (View.ld act (Rect.unit (s := S256x4096) ![0, 2304] S256x128.size inb_S256x4096_S256x128_0_2304)) (View.ld st (Rect.unit (s := S8x128x256) ![2, 0, 0] S1x128x256.size inb_S8x128x256_S1x128x256_2_0_0))⟩,
   ⟨(Rect.unit (s := S8x128x256) ![1, 0, 0] S1x128x256.size inb_S8x128x256_S1x128x256_1_0_0), gT1 dt cs (View.ld act (Rect.unit (s := S256x4096) ![0, 256] S256x256.size inb_S256x4096_S256x256_0_256)) (View.ld act (Rect.unit (s := S256x4096) ![0, 2176] S256x128.size inb_S256x4096_S256x128_0_2176)) (View.ld st (Rect.unit (s := S8x128x256) ![1, 0, 0] S1x128x256.size inb_S8x128x256_S1x128x256_1_0_0))⟩,
   ⟨(Rect.unit (s := S8x128x256) ![0, 0, 0] S1x128x256.size inb_S8x128x256_S1x128x256_0_0_0), gT0 dt cs (View.ld act (Rect.unit (s := S256x4096) ![0, 0] S256x256.size inb_S256x4096_S256x256_0_0)) (View.ld act (Rect.unit (s := S256x4096) ![0, 2048] S256x128.size inb_S256x4096_S256x128_0_2048)) (View.ld st (Rect.unit (s := S8x128x256) ![0, 0, 0] S1x128x256.size inb_S8x128x256_S1x128x256_0_0_0))⟩]

/-- The pooled channels, one block of columns per window. -/
def poolP (i : grid0.Coords) (PB : Vec F S272x1024 .f32) (wp : Vec F S4x256x256 .bf16) (ps : Vec F S1x1024 .f32) : List (View.Piece (Elt F) S256x1024 .f32) :=
  [⟨(Rect.unit (s := S256x1024) ![0, 768] S256x256.size inb_S256x1024_S256x256_0_768), k0_pay14 (View.ld PB (Rect.unit (s := S272x1024) ![16, 768] S256x256.size inb_S272x1024_S256x256_16_768)) (k0_pay12 (View.ld PB (Rect.unit (s := S272x1024) ![16, 768] S256x256.size inb_S272x1024_S256x256_16_768)) (View.ld PB (Rect.unit (s := S272x1024) ![15, 768] S256x256.size inb_S272x1024_S256x256_15_768)) (View.ld PB (Rect.unit (s := S272x1024) ![14, 768] S256x256.size inb_S272x1024_S256x256_14_768)) (View.ld PB (Rect.unit (s := S272x1024) ![13, 768] S256x256.size inb_S272x1024_S256x256_13_768)) (View.ld PB (Rect.unit (s := S272x1024) ![12, 768] S256x256.size inb_S272x1024_S256x256_12_768)) (View.ld PB (Rect.unit (s := S272x1024) ![11, 768] S256x256.size inb_S272x1024_S256x256_11_768)) (View.ld PB (Rect.unit (s := S272x1024) ![10, 768] S256x256.size inb_S272x1024_S256x256_10_768)) (View.ld PB (Rect.unit (s := S272x1024) ![9, 768] S256x256.size inb_S272x1024_S256x256_9_768)) (View.ld PB (Rect.unit (s := S272x1024) ![8, 768] S256x256.size inb_S272x1024_S256x256_8_768)) (View.ld PB (Rect.unit (s := S272x1024) ![7, 768] S256x256.size inb_S272x1024_S256x256_7_768)) (View.ld PB (Rect.unit (s := S272x1024) ![6, 768] S256x256.size inb_S272x1024_S256x256_6_768)) (View.ld PB (Rect.unit (s := S272x1024) ![5, 768] S256x256.size inb_S272x1024_S256x256_5_768)) (View.ld PB (Rect.unit (s := S272x1024) ![4, 768] S256x256.size inb_S272x1024_S256x256_4_768)) (View.ld PB (Rect.unit (s := S272x1024) ![3, 768] S256x256.size inb_S272x1024_S256x256_3_768)) (View.ld PB (Rect.unit (s := S272x1024) ![2, 768] S256x256.size inb_S272x1024_S256x256_2_768)) (View.ld PB (Rect.unit (s := S272x1024) ![1, 768] S256x256.size inb_S272x1024_S256x256_1_768))) (k0_pay13 (k0_pay7 i)) (View.ld wp (Rect.unit (s := S4x256x256) ![3, 0, 0] S1x256x256.size inb_S4x256x256_S1x256x256_3_0_0)) (View.ld ps (Rect.unit (s := S1x1024) ![0, 768] S1x256.size inb_S1x1024_S1x256_0_768))⟩,
   ⟨(Rect.unit (s := S256x1024) ![0, 512] S256x256.size inb_S256x1024_S256x256_0_512), k0_pay11 (k0_pay7 i) (View.ld PB (Rect.unit (s := S272x1024) ![16, 512] S256x256.size inb_S272x1024_S256x256_16_512)) (View.ld PB (Rect.unit (s := S272x1024) ![15, 512] S256x256.size inb_S272x1024_S256x256_15_512)) (View.ld PB (Rect.unit (s := S272x1024) ![14, 512] S256x256.size inb_S272x1024_S256x256_14_512)) (View.ld PB (Rect.unit (s := S272x1024) ![13, 512] S256x256.size inb_S272x1024_S256x256_13_512)) (View.ld PB (Rect.unit (s := S272x1024) ![12, 512] S256x256.size inb_S272x1024_S256x256_12_512)) (View.ld PB (Rect.unit (s := S272x1024) ![11, 512] S256x256.size inb_S272x1024_S256x256_11_512)) (View.ld PB (Rect.unit (s := S272x1024) ![10, 512] S256x256.size inb_S272x1024_S256x256_10_512)) (View.ld PB (Rect.unit (s := S272x1024) ![9, 512] S256x256.size inb_S272x1024_S256x256_9_512)) (View.ld wp (Rect.unit (s := S4x256x256) ![2, 0, 0] S1x256x256.size inb_S4x256x256_S1x256x256_2_0_0)) (View.ld ps (Rect.unit (s := S1x1024) ![0, 512] S1x256.size inb_S1x1024_S1x256_0_512))⟩,
   ⟨(Rect.unit (s := S256x1024) ![0, 256] S256x256.size inb_S256x1024_S256x256_0_256), k0_pay10 (k0_pay7 i) (View.ld PB (Rect.unit (s := S272x1024) ![16, 256] S256x256.size inb_S272x1024_S256x256_16_256)) (View.ld PB (Rect.unit (s := S272x1024) ![15, 256] S256x256.size inb_S272x1024_S256x256_15_256)) (View.ld PB (Rect.unit (s := S272x1024) ![14, 256] S256x256.size inb_S272x1024_S256x256_14_256)) (View.ld PB (Rect.unit (s := S272x1024) ![13, 256] S256x256.size inb_S272x1024_S256x256_13_256)) (View.ld wp (Rect.unit (s := S4x256x256) ![1, 0, 0] S1x256x256.size inb_S4x256x256_S1x256x256_1_0_0)) (View.ld ps (Rect.unit (s := S1x1024) ![0, 256] S1x256.size inb_S1x1024_S1x256_0_256))⟩,
   ⟨(Rect.unit (s := S256x1024) ![0, 0] S256x256.size inb_S256x1024_S256x256_0_0), k0_pay9 (k0_pay8 i (View.ld PB (Rect.unit (s := S272x1024) ![16, 0] S256x256.size inb_S272x1024_S256x256_16_0)) (View.ld PB (Rect.unit (s := S272x1024) ![15, 0] S256x256.size inb_S272x1024_S256x256_15_0))) (View.ld wp (Rect.unit (s := S4x256x256) ![0, 0, 0] S1x256x256.size inb_S4x256x256_S1x256x256_0_0_0)) (View.ld ps (Rect.unit (s := S1x1024) ![0, 0] S1x256.size inb_S1x1024_S1x256_0_0))⟩]

/-- The layer's residual, normalised: the point's result. -/
def outV (xb : Vec F S256x1024 .bf16) (x : Vec F S1x256x1024 .f32) (yn : Vec F S256x2048 .bf16) (pool : Vec F S256x1024 .f32)
    (wg : Vec F S1024x2048 .bf16) (wssd : Vec F S2048x1024 .bf16) (wout : Vec F S1024x1024 .bf16) (bg : Vec F S1x2048 .f32)
    (g1 b1 : Vec F S1x1024 .f32) :=
  k0_pay1 (k0_pay244 (k0_pay243 (k0_pay242 yn wssd) xb (View.ld wg (Rect.unit (s := S1024x2048) ![0, 0] S1024x1024.size inb_S1024x2048_S1024x1024_0_0)) (View.ld bg (Rect.unit (s := S1x2048) ![0, 0] S1x1024.size inb_S1x2048_S1x1024_0_0)) pool xb
    (View.ld wg (Rect.unit (s := S1024x2048) ![0, 1024] S1024x1024.size inb_S1024x2048_S1024x1024_0_1024)) (View.ld bg (Rect.unit (s := S1x2048) ![0, 1024] S1x1024.size inb_S1x2048_S1x1024_0_1024)) wout) x) g1 b1

/-- A covered load reads what the pieces leave. -/
theorem rc {sig : RefSig} {κ : Kind} {sp : Space} {s : Shape} {e : EltTy} (v : View sig κ sp s e) (L : List (View.Piece (Elt F) s e)) (r : Rect s) :
    v.readCov L r.toLoadRect = View.ld (View.canon L) r := View.readCov_eq_canon' v L r.toLoadRect

/-- A load of rows no later store touched reads the earlier contents. -/
theorem ld_skip {s : Shape} {e : EltTy} (p : View.Piece (Elt F) s e) (L : List (View.Piece (Elt F) s e)) (B : Rect s)
    (h : LoadRect.disj p.1 B.toLoadRect = true) : View.ld (View.canon (p :: L)) B = View.ld (View.canon L) B :=
  funext fun j => View.canon_cons_of_not_mem p L (LoadRect.idx_not_mem_of_disj h j)

/-- One store over earlier contents. -/
theorem rw1 {sig : RefSig} {κ : Kind} {sp : Space} {s : Shape} {e : EltTy} (v : View sig κ sp s e) (f : v.ty.Contents (Elt F)) (p : View.Piece (Elt F) s e) :
    v.read (Elt F) (v.writes (Elt F) f [p]) = p.1.overlay (v.read (Elt F) f) p.2 := by
  funext y
  by_cases h : y ∈ p.1.set
  · obtain ⟨x, -, rfl⟩ := Finset.mem_map.mp ((Rect.map_emb_univ p.1).symm ▸ h)
    exact (View.read_writes_cons_emb v f p.1 p.2 [] x).trans (p.1.overlay_emb _ _ x).symm
  · rw [View.read_writes_cons_miss v f p [] y h, p.1.overlay_of_not_mem _ _ h]; rfl

/-- The pooled branch's scratch: a chunk's projections below what the chunk before left. -/
def pbV (xb : Vec F S256x1024 .bf16) (wp : Vec F S1024x1024 .bf16) (h : Vec F S272x1024 .f32) : Vec F S272x1024 .f32 :=
  (Rect.unit (s := S272x1024) ![16, 0] S256x1024.size inb_S272x1024_S256x1024_16_0).overlay h (k0_pay6 xb wp)

/-- The convolution's scratch: a chunk's projections below what the chunk before left. -/
def cbV (xb : Vec F S256x1024 .bf16) (wc : Vec F S1024x4096 .bf16) (h : Vec F S264x4096 .f32) : Vec F S264x4096 .f32 :=
  (Rect.unit (s := S264x4096) ![8, 0] S256x4096.size inb_S264x4096_S256x4096_8_0).overlay h (k0_pay16 xb wc)

end Cert.Mix
-- ==== Proof.MixSpec.lean ====
/- The mixing layer's mathematics for one row of the batch, in plain numbers: the projections, the two branches and the layer normalisation. -/
module

public import proofs.«01_k».proof.Proof.MixGroup

@[expose] public section

noncomputable section

namespace Cert.Mix

open Idealize.ShloMosaic

/-- The smooth rectifier. -/
def sp (v : EReal) : EReal := max v 0 + Ideal.log1p (Ideal.exp (0 - max v (-v)))

/-- The self-gated unit. -/
def silu (y : EReal) : EReal := y * sig y

/-- One channel of the convolution before its activation, over the four tokens it reads. -/
def conv4 (a0 a1 a2 a3 w0 w1 w2 w3 b : EReal) : EReal := a0 * w0 + a1 * w1 + a2 * w2 + a3 * w3 + b

/-- The head of a column of a group. -/
abbrev hcol (g : Fin 8) (q : Fin 256) : Fin 32 := ⟨4 * g.val + q.val / 64, by omega⟩

/-- A group's column. -/
abbrev xcol (g : Fin 8) (q : Fin 256) : Fin 4096 := ⟨256 * g.val + q.val, by omega⟩

/-- A group's input direction. -/
abbrev bcol (g : Fin 8) (n : Fin 128) : Fin 4096 := ⟨2048 + 128 * g.val + n.val, by omega⟩

/-- A group's output direction. -/
abbrev ccol (g : Fin 8) (n : Fin 128) : Fin 4096 := ⟨3072 + 128 * g.val + n.val, by omega⟩

/-- A group's column among the inner channels. -/
abbrev icol (g : Fin 8) (q : Fin 256) : Fin 2048 := ⟨256 * g.val + q.val, by omega⟩

/-- A chunk's output of one group before the gate. -/
def preC (dt cs : Fin 256 → Fin 32 → EReal) (act : Fin 256 → Fin 4096 → EReal) (st : Fin 8 → Fin 128 → Fin 256 → EReal)
    (dx : Fin 2048 → EReal) (g : Fin 8) (l q : Fin 256) : EReal :=
  (∑ s : Fin 256, ((∑ n : Fin 128, act l (ccol g n) * act s (bcol g n)) * Ideal.exp (seg (cs l (hcol g q)) (cs s (hcol g q)) l s)
      * dt s (hcol g q)) * act s (xcol g q))
    + (∑ n : Fin 128, act l (ccol g n) * st g n q) * Ideal.exp (cs l (hcol g q)) + dx (icol g q) * act l (xcol g q)

/-- The state after a chunk. -/
def stC (dt cs : Fin 256 → Fin 32 → EReal) (act : Fin 256 → Fin 4096 → EReal) (st : Fin 8 → Fin 128 → Fin 256 → EReal)
    (g : Fin 8) (n : Fin 128) (q : Fin 256) : EReal :=
  st g n q * Ideal.exp (cs 255 (hcol g q))
    + ∑ s : Fin 256, (act s (bcol g n) * (dt s (hcol g q) * Ideal.exp (cs 255 (hcol g q) - cs s (hcol g q)))) * act s (xcol g q)

/-- The mean of a row of 1024 entries. -/
def mean (y : Fin 1024 → EReal) : EReal := Ideal.div (∑ j, y j) (Ideal.ofBits .f32 0x44800000#32)

/-- Layer normalisation of one row, with gain `g` and offset `b`. -/
def lnRow (y g b : Fin 1024 → EReal) (j : Fin 1024) : EReal :=
  (y j - mean y) * Ideal.rsqrt (mean (fun l => (y l - mean y) * (y l - mean y)) + Ideal.ofBits .f32 0x3727C5AC#32) * g j + b j

/-- One row of the layer's output over that row's gates, branches and input. -/
def outRow (x : Fin 1024 → EReal) (ga gb pool : Fin 1024 → EReal) (yn : Fin 2048 → EReal) (ws : Fin 2048 → Fin 1024 → EReal)
    (wo : Fin 1024 → Fin 1024 → EReal) (g b : Fin 1024 → EReal) : Fin 1024 → EReal :=
  lnRow (fun j => Ideal.ofBits .f32 0x3F9837F0#32 * x j
    + ∑ k : Fin 1024, (sig (ga k) * pool k + sig (gb k) * ∑ i : Fin 2048, yn i * ws i k) * wo k j) g b

/-- The pooling windows, as their float words. -/
def wword : Fin 4 → EReal := ![Ideal.ofBits .f32 0x40000000#32, Ideal.ofBits .f32 0x40800000#32, Ideal.ofBits .f32 0x41000000#32, Ideal.ofBits .f32 0x41800000#32]

/-- The pooling windows. -/
def wlen : Fin 4 → ℕ := ![2, 4, 8, 16]

/-- A sequence delayed by `k` tokens, zero before its start. -/
def delay (k : ℕ) (f : ℕ → EReal) (n : ℕ) : EReal := if k ≤ n then f (n - k) else 0

/-- The layer's weights. -/
structure Par where
  /-- The input projection. -/
  wi : Fin 1024 → Fin 9248 → EReal
  /-- The gates' offsets. -/
  bg : Fin 2048 → EReal
  /-- The convolution's taps. -/
  cw : Fin 4 → Fin 4096 → EReal
  /-- The convolution's offsets. -/
  cb : Fin 4096 → EReal
  /-- The steps' offsets. -/
  dtb : Fin 32 → EReal
  /-- The rates. -/
  al : Fin 32 → EReal
  /-- The skips. -/
  dk : Fin 32 → EReal
  /-- The inner normalisation's gain. -/
  nw : Fin 2048 → EReal
  /-- The state branch's output projection. -/
  ws : Fin 2048 → Fin 1024 → EReal
  /-- The pooled branch's projections. -/
  wp : Fin 4 → Fin 256 → Fin 256 → EReal
  /-- The pooled branch's scale. -/
  ps : Fin 1024 → EReal
  /-- The output projection. -/
  wo : Fin 1024 → Fin 1024 → EReal
  /-- The layer normalisation's gain. -/
  g : Fin 1024 → EReal
  /-- The layer normalisation's offset. -/
  b : Fin 1024 → EReal

variable (p : Par) (X : ℕ → Fin 1024 → EReal)

/-- A token's projection. -/
def pr (n : ℕ) (j : Fin 9248) : EReal := ∑ k : Fin 1024, X n k * p.wi k j

/-- The pooled branch's projection. -/
def prU (n : ℕ) (j : Fin 1024) : EReal := pr p X n ⟨j.val, by omega⟩

/-- The convolution's projection. -/
def prC (n : ℕ) (j : Fin 4096) : EReal := pr p X n ⟨3072 + j.val, by omega⟩

/-- A trailing window's mean minus the token. -/
def pooled (g : Fin 4) (n : ℕ) (j : Fin 1024) : EReal :=
  Ideal.div (∑ k ∈ Finset.range (wlen g), delay k (fun m => prU p X m j) n) (min (((n + 1 : ℕ) : ℝ) : EReal) (wword g)) - prU p X n j

/-- The pooled branch. -/
def yPool (n : ℕ) (j : Fin 1024) : EReal :=
  (∑ c : Fin 256, pooled p X ⟨j.val / 256, by omega⟩ n ⟨256 * (j.val / 256) + c.val, by omega⟩ * p.wp ⟨j.val / 256, by omega⟩ c ⟨j.val % 256, by omega⟩) * p.ps j

/-- The convolved and activated channels. -/
def actS (n : ℕ) (j : Fin 4096) : EReal :=
  silu (conv4 (delay 3 (fun m => prC p X m j) n) (delay 2 (fun m => prC p X m j) n) (delay 1 (fun m => prC p X m j) n) (prC p X n j)
    (p.cw 0 j) (p.cw 1 j) (p.cw 2 j) (p.cw 3 j) (p.cb j))

/-- The steps. -/
def dtS (n : ℕ) (h : Fin 32) : EReal := sp (pr p X n ⟨7168 + h.val, by omega⟩ + p.dtb h)

/-- The running sums of the rates within chunk `c`. -/
def csS (c l : ℕ) (h : Fin 32) : EReal := ∑ i ∈ Finset.range (l + 1), dtS p X (256 * c + i) h * (0 - Ideal.exp (p.al h))

/-- The state entering chunk `c`. -/
def stS : ℕ → Fin 8 → Fin 128 → Fin 256 → EReal
  | 0 => fun _ _ _ => 0
  | c + 1 => stC (fun l => dtS p X (256 * c + l.val)) (fun l => csS p X c l.val) (fun l => actS p X (256 * c + l.val)) (stS c)

/-- The state branch of chunk `c` before the gate. -/
def preS (c : ℕ) (g : Fin 8) (l q : Fin 256) : EReal :=
  preC (fun l => dtS p X (256 * c + l.val)) (fun l => csS p X c l.val) (fun l => actS p X (256 * c + l.val)) (stS p X c)
    (fun j => p.dk ⟨j.val / 64, by omega⟩) g l q

/-- The state branch of chunk `c`, gated and normalised. -/
def ynS (c : ℕ) (l : Fin 256) (j : Fin 2048) : EReal :=
  normRow (fun q => preS p X c ⟨j.val / 256, by omega⟩ l q)
    (fun q => pr p X (256 * c + l.val) ⟨1024 + 256 * (j.val / 256) + q.val, by omega⟩)
    (fun q => p.nw ⟨256 * (j.val / 256) + q.val, by omega⟩) ⟨j.val % 256, by omega⟩

/-- The layer's output at token `l` of chunk `c`. -/
def outS (c : ℕ) (l : Fin 256) : Fin 1024 → EReal :=
  outRow (X (256 * c + l.val)) (fun j => pr p X (256 * c + l.val) ⟨7200 + j.val, by omega⟩ + p.bg ⟨j.val, by omega⟩)
    (fun j => pr p X (256 * c + l.val) ⟨8224 + j.val, by omega⟩ + p.bg ⟨1024 + j.val, by omega⟩)
    (yPool p X (256 * c + l.val)) (ynS p X c l) p.ws p.wo p.g p.b

end Cert.Mix
end
-- ==== Proof.MixAt.lean ====
/- The mixing kernel's stages read at an entry. -/
module

public import proofs.«01_k».proof.Proof.MixStage
public import proofs.«01_k».proof.Proof.MixSpec
public import Idealize.ShloMosaic.Lib.Pointwise

@[expose] public section

set_option maxRecDepth 16384

noncomputable section

namespace Cert.Mix

open Idealize Idealize.ShloMosaic Idealize.ShloMosaic.TcCoe Idealize.ShloMosaic.Tactic
open Cert.KernelIdeal Cert.KernelIdeal.Gen

/-- The convolution's activation at an entry of one block of columns. -/
theorem conv_at (a0 a1 a2 a3 : Vec Ideal S256x512 .f32) (w0 w1 w2 w3 b : Vec Ideal S1x512 .f32) (l : Fin 256) (q : Fin 512) :
    k0_pay27 a0 w0 a1 w1 a2 w2 a3 w3 b (ix2 l q) = silu (conv4 (a0 (ix2 l q)) (a1 (ix2 l q)) (a2 (ix2 l q)) (a3 (ix2 l q))
      (w0 (ix2 0 q)) (w1 (ix2 0 q)) (w2 (ix2 0 q)) (w3 (ix2 0 q)) (b (ix2 0 q))) := by
  unfold silu conv4 Cert.Mix.sig
  pointwise [k0_pay27]

/-- The convolved channels at an entry. -/
theorem actV_at (CB : Vec Ideal S264x4096 .f32) (cw : Vec Ideal S4x4096 .f32) (cb : Vec Ideal S1x4096 .f32)
    (l : Fin 256) (j : Fin 4096) :
    View.canon (actP CB cw cb) (ix2 l j) = silu (conv4 (CB (ix2 ⟨5 + l.val, by omega⟩ j)) (CB (ix2 ⟨6 + l.val, by omega⟩ j))
      (CB (ix2 ⟨7 + l.val, by omega⟩ j)) (CB (ix2 ⟨8 + l.val, by omega⟩ j))
      (cw (ix2 0 j)) (cw (ix2 1 j)) (cw (ix2 2 j)) (cw (ix2 3 j)) (cb (ix2 0 j))) := by
  unfold actP
  canon_tiles x h
  case piece0 =>
    idx_vars x
    change l.val = x0.val at h0
    change j.val = 3584 + x1.val at h1
    obtain rfl : l = x0 := Fin.ext h0
    obtain rfl : j = ⟨3584 + x1.val, by clear h1; omega⟩ := Fin.ext h1
    rw [conv_at]
    pointwise
  case piece1 =>
    idx_vars x
    change l.val = x0.val at h0
    change j.val = 3072 + x1.val at h1
    obtain rfl : l = x0 := Fin.ext h0
    obtain rfl : j = ⟨3072 + x1.val, by clear h1; omega⟩ := Fin.ext h1
    rw [conv_at]
    pointwise
  case piece2 =>
    idx_vars x
    change l.val = x0.val at h0
    change j.val = 2560 + x1.val at h1
    obtain rfl : l = x0 := Fin.ext h0
    obtain rfl : j = ⟨2560 + x1.val, by clear h1; omega⟩ := Fin.ext h1
    rw [conv_at]
    pointwise
  case piece3 =>
    idx_vars x
    change l.val = x0.val at h0
    change j.val = 2048 + x1.val at h1
    obtain rfl : l = x0 := Fin.ext h0
    obtain rfl : j = ⟨2048 + x1.val, by clear h1; omega⟩ := Fin.ext h1
    rw [conv_at]
    pointwise
  case piece4 =>
    idx_vars x
    change l.val = x0.val at h0
    change j.val = 1536 + x1.val at h1
    obtain rfl : l = x0 := Fin.ext h0
    obtain rfl : j = ⟨1536 + x1.val, by clear h1; omega⟩ := Fin.ext h1
    rw [conv_at]
    pointwise
  case piece5 =>
    idx_vars x
    change l.val = x0.val at h0
    change j.val = 1024 + x1.val at h1
    obtain rfl : l = x0 := Fin.ext h0
    obtain rfl : j = ⟨1024 + x1.val, by clear h1; omega⟩ := Fin.ext h1
    rw [conv_at]
    pointwise
  case piece6 =>
    idx_vars x
    change l.val = x0.val at h0
    change j.val = 512 + x1.val at h1
    obtain rfl : l = x0 := Fin.ext h0
    obtain rfl : j = ⟨512 + x1.val, by clear h1; omega⟩ := Fin.ext h1
    rw [conv_at]
    pointwise
  case piece7 =>
    idx_vars x
    change l.val = x0.val at h0
    change j.val = x1.val at h1
    obtain rfl : l = x0 := Fin.ext h0
    obtain rfl : j = ⟨x1.val, by clear h1; omega⟩ := Fin.ext h1
    rw [conv_at]
    pointwise

/-- The convolved channels of chunk `c`, once the scratch holds the chunk's projections and the tokens before. -/
theorem act_at (p : Par) (X : ℕ → Fin 1024 → EReal) (c : ℕ) (CB : Vec Ideal S264x4096 .f32) (cw : Vec Ideal S4x4096 .f32) (cb : Vec Ideal S1x4096 .f32)
    (hC : ∀ (i : Fin 264) (j : Fin 4096), CB (ix2 i j) = delay 8 (fun m => prC p X m j) (256 * c + i.val))
    (hw : ∀ k j, cw (ix2 k j) = p.cw k j) (hb : ∀ j, cb (ix2 0 j) = p.cb j) (l : Fin 256) (j : Fin 4096) :
    View.canon (actP CB cw cb) (ix2 l j) = actS p X (256 * c + l.val) j := by
  rw [actV_at, hC, hC, hC, hC, hw, hw, hw, hw, hb]
  unfold actS
  have e : ∀ k i : ℕ, k ≤ 8 → i + k = 8 + l.val → delay 8 (fun m => prC p X m j) (256 * c + i) = delay k (fun m => prC p X m j) (256 * c + l.val) := by
    intro k i hk hi
    unfold delay
    by_cases h : k ≤ 256 * c + l.val
    · rw [if_pos h, if_pos (by omega)]
      exact congrArg (fun m => prC p X m j) (by omega)
    · rw [if_neg h, if_neg (by omega)]
  have e0 : delay 0 (fun m => prC p X m j) (256 * c + l.val) = prC p X (256 * c + l.val) j := if_pos (Nat.zero_le _)
  rw [← e0, ← e 3 (5 + l.val) (by omega) (by omega), ← e 2 (6 + l.val) (by omega) (by omega), ← e 1 (7 + l.val) (by omega) (by omega),
    ← e 0 (8 + l.val) (by omega) (by omega)]

/-- The step at an entry. -/
theorem dtV_at (xb : Vec Ideal S256x1024 .bf16) (w : Vec Ideal S1024x128 .bf16) (b : Vec Ideal S1x128 .f32) (l : Fin 256) (h : Fin 128) :
    k0_pay31 xb w b (ix2 l h) = sp ((∑ k : Fin 1024, xb (ix2 l k) * w (ix2 k h)) + b (ix2 0 h)) := by
  unfold sp
  pointwise [k0_pay31]
  rfl

/-- Earlier contents below, a chunk's projections from row 16 on. -/
theorem pb_at (p : Par) (X : ℕ → Fin 1024 → EReal) (c : ℕ) (xb : Vec Ideal S256x1024 .bf16) (wp : Vec Ideal S1024x1024 .bf16) (H : Vec Ideal S272x1024 .f32)
    (hx : ∀ l k, xb (ix2 l k) = X (256 * c + l.val) k) (hw : ∀ k (j : Fin 1024), wp (ix2 k j) = p.wi k ⟨j.val, by omega⟩)
    (hH : ∀ (i : Fin 272) (j : Fin 1024), i.val < 16 → H (ix2 i j) = delay 16 (fun m => prU p X m j) (256 * c + i.val))
    (i : Fin 272) (j : Fin 1024) :
    pbV xb wp H (ix2 i j) = delay 16 (fun m => prU p X m j) (256 * c + i.val) := by
  by_cases h : i.val < 16
  · rw [← hH i j h]
    refine Rect.overlay_of_not_mem _ _ _ ?_
    rw [Rect.mem_set_unit]
    intro hh
    have := (hh 0).1
    change 16 ≤ i.val at this
    omega
  · have e : (ix2 i j : S272x1024.Idx) = (Rect.unit (s := S272x1024) ![16, 0] S256x1024.size inb_S272x1024_S256x1024_16_0).emb (ix2 (⟨i.val - 16, by omega⟩ : Fin 256) j) := by
      blk_ext
    unfold delay
    rw [if_pos (by omega)]
    unfold pbV
    rw [e]
    refine (Rect.overlay_emb _ _ _ _).trans ?_
    have e2 : 256 * c + i.val - 16 = 256 * c + (i.val - 16) := by omega
    unfold prU pr
    rw [e2]
    pointwise [k0_pay6, hx, hw]

/-- Earlier contents below, a chunk's projections from row 8 on. -/
theorem cb_at (p : Par) (X : ℕ → Fin 1024 → EReal) (c : ℕ) (xb : Vec Ideal S256x1024 .bf16) (wp : Vec Ideal S1024x4096 .bf16) (H : Vec Ideal S264x4096 .f32)
    (hx : ∀ l k, xb (ix2 l k) = X (256 * c + l.val) k) (hw : ∀ k (j : Fin 4096), wp (ix2 k j) = p.wi k ⟨3072 + j.val, by omega⟩)
    (hH : ∀ (i : Fin 264) (j : Fin 4096), i.val < 8 → H (ix2 i j) = delay 8 (fun m => prC p X m j) (256 * c + i.val))
    (i : Fin 264) (j : Fin 4096) :
    cbV xb wp H (ix2 i j) = delay 8 (fun m => prC p X m j) (256 * c + i.val) := by
  by_cases h : i.val < 8
  · rw [← hH i j h]
    refine Rect.overlay_of_not_mem _ _ _ ?_
    rw [Rect.mem_set_unit]
    intro hh
    have := (hh 0).1
    change 8 ≤ i.val at this
    omega
  · have e : (ix2 i j : S264x4096.Idx) = (Rect.unit (s := S264x4096) ![8, 0] S256x4096.size inb_S264x4096_S256x4096_8_0).emb (ix2 (⟨i.val - 8, by omega⟩ : Fin 256) j) := by
      blk_ext
    unfold delay
    rw [if_pos (by omega)]
    unfold cbV
    rw [e]
    refine (Rect.overlay_emb _ _ _ _).trans ?_
    have e2 : 256 * c + i.val - 8 = 256 * c + (i.val - 8) := by omega
    unfold prC pr
    rw [e2]
    pointwise [k0_pay16, hx, hw]

/-- One step of the running sum: add the entries `s` rows above. -/
def dblS (s : BitVec 32) (V : FVec Ideal S256x128 .f32) : FVec Ideal S256x128 .f32 :=
  addf V (select (cmpi .sge (iota .tc S256x128 32 [0] iota_S256x128_d0_w32) (broadcast S256x128 s)) (dynamicRotate 0 s none V rotates_S256x128_d0)
    (broadcast S256x128 (Scalar.ofBits .f32 0x00000000#32)))

/-- The rates. -/
def daV (xb : Vec Ideal S256x1024 .bf16) (w : Vec Ideal S1024x128 .bf16) (b al : Vec Ideal S1x128 .f32) : FVec Ideal S256x128 .f32 :=
  mulf (k0_pay31 xb w b) (broadcastTo S256x128 (subf (broadcast S1x128 (Scalar.ofBits .f32 0x00000000#32)) (exp (shapeCast S1x128 al shapeCasts_S1x128_S1x128)))
    broadcasts_S1x128_S256x128)

/-- The running sums are eight doubling steps. -/
theorem csV_eq (xb : Vec Ideal S256x1024 .bf16) (w : Vec Ideal S1024x128 .bf16) (b al : Vec Ideal S1x128 .f32) :
    csV xb w b al = dblS 128#32 (dblS 64#32 (dblS 32#32 (dblS 16#32 (dblS 8#32 (dblS 4#32 (dblS 2#32 (dblS 1#32 (daV xb w b al)))))))) := rfl

/-- The rows a step reaches. -/
theorem mask_at : ∀ (k : Fin 8) (l : Fin 256), IntOp.cmpi CmpIPredicate.sge (BitVec.ofNat 32 l.val) (BitVec.ofNat 32 (2 ^ k.val))
    = if 2 ^ k.val ≤ l.val then 1#1 else 0#1 := by
  decide +kernel

/-- A step doubles the window summed. -/
theorem dblS_at (f : ℕ → EReal) (k : Fin 8) (V : FVec Ideal S256x128 .f32) (h : Fin 128)
    (hV : ∀ l : Fin 256, V (ix2 l h) = ∑ i ∈ Finset.Ico (l.val + 1 - 2 ^ k.val) (l.val + 1), f i) (l : Fin 256) :
    dblS (BitVec.ofNat 32 (2 ^ k.val)) V (ix2 l h) = ∑ i ∈ Finset.Ico (l.val + 1 - 2 ^ (k.val + 1)) (l.val + 1), f i := by
  have hk : 2 ^ k.val ≤ 128 ∧ 1 ≤ 2 ^ k.val := by fin_cases k <;> decide
  have ht : (BitVec.ofNat 32 (2 ^ k.val)).toNat % 256 = 2 ^ k.val := by fin_cases k <;> rfl
  have h2 : 2 ^ (k.val + 1) = 2 * 2 ^ k.val := by ring
  pointwise [dblS]
  rw [mask_at, hV]
  generalize 2 ^ k.val = s at *
  by_cases hl : s ≤ l.val
  · rw [if_pos hl]
    change _ + V _ = _
    have e : (⟨(l.val + 256 - (BitVec.ofNat 32 s).toNat % 256) % 256, Nat.mod_lt _ (by omega)⟩ : Fin 256) = ⟨l.val - s, by omega⟩ := Fin.ext (by
      show (l.val + 256 - (BitVec.ofNat 32 s).toNat % 256) % 256 = l.val - s
      rw [ht]; omega)
    rw [e, hV, h2, add_comm]
    have e1 : l.val + 1 - s - s = l.val + 1 - 2 * s := by omega
    have e2 : l.val - s + 1 = l.val + 1 - s := by omega
    simp only [e2, e1]
    exact Finset.sum_Ico_consecutive f (show l.val + 1 - 2 * s ≤ l.val + 1 - s by omega) (show l.val + 1 - s ≤ l.val + 1 by omega)
  · rw [if_neg hl]
    change _ + (0 : EReal) = _
    rw [add_zero, h2, show l.val + 1 - s = 0 by omega, show l.val + 1 - 2 * s = 0 by omega]

/-- The running sums at an entry. -/
theorem csV_at (xb : Vec Ideal S256x1024 .bf16) (w : Vec Ideal S1024x128 .bf16) (b al : Vec Ideal S1x128 .f32) (f : ℕ → EReal) (h : Fin 128)
    (hf : ∀ l : Fin 256, k0_pay31 xb w b (ix2 l h) * (0 - Ideal.exp (al (ix2 0 h))) = f l.val) (l : Fin 256) :
    csV xb w b al (ix2 l h) = ∑ i ∈ Finset.range (l.val + 1), f i := by
  have h0 : ∀ l : Fin 256, daV xb w b al (ix2 l h) = ∑ i ∈ Finset.Ico (l.val + 1 - 2 ^ (0 : Fin 8).val) (l.val + 1), f i := fun l => by
    rw [show l.val + 1 - 2 ^ (0 : Fin 8).val = l.val from rfl, Nat.Ico_succ_singleton, Finset.sum_singleton, ← hf]
    pointwise [daV]
  have h1 := dblS_at f 0 _ h h0
  have h2 := dblS_at f 1 _ h h1
  have h3 := dblS_at f 2 _ h h2
  have h4 := dblS_at f 3 _ h h3
  have h5 := dblS_at f 4 _ h h4
  have h6 := dblS_at f 5 _ h h5
  have h7 := dblS_at f 6 _ h h6
  have h8 := dblS_at f 7 _ h h7 l
  rw [csV_eq]
  refine h8.trans ?_
  rw [Finset.range_eq_Ico, show l.val + 1 - 2 ^ ((7 : Fin 8).val + 1) = 0 by have := l.isLt; change _ - 256 = 0; omega]

/-- A token's number, counted from one. -/
theorem count_word : ∀ (c : Fin 8) (l : Fin 256), (IntOp.addi (Scalar.addi (Scalar.muli (BitVec.ofNat 32 c.val) 256#32) 1#32) (BitVec.ofNat 32 l.val)).toInt
    = ((256 * c.val + l.val + 1 : ℕ) : ℤ) := by
  decide +kernel

/-- A token's number as a real. -/
theorem count_at (c : Fin 8) (l : Fin 256) : (FloatOps.sitofp (F := Ideal) FTy.f32 (IntOp.addi (Scalar.addi (Scalar.muli (BitVec.ofNat 32 c.val) 256#32) 1#32) (BitVec.ofNat 32 l.val)) : EReal)
    = (((256 * c.val + l.val + 1 : ℕ) : ℝ) : EReal) := by
  refine Eq.trans (b := (((IntOp.addi (Scalar.addi (Scalar.muli (BitVec.ofNat 32 c.val) 256#32) 1#32) (BitVec.ofNat 32 l.val)).toInt : ℝ) : EReal)) rfl ?_
  rw [count_word]
  simp

/-- The branch pooled over 2 tokens at an entry. -/
theorem pool0_at (i : grid0.Coords) (a0 a1 : Vec Ideal S256x256 .f32) (w : Vec Ideal S1x256x256 .bf16) (s : Vec Ideal S1x256 .f32) (l q : Fin 256)
    (f : ℕ → Fin 256 → EReal) (n : ℕ) (hn : n = 256 * (i 1).val + l.val)
    (h0 : ∀ q, a0 (ix2 l q) = delay 0 (fun m => f m q) n) (h1 : ∀ q, a1 (ix2 l q) = delay 1 (fun m => f m q) n) :
    k0_pay9 (k0_pay8 i a0 a1) w s (ix2 l q) = (∑ c : Fin 256, (Ideal.div (∑ k ∈ Finset.range (wlen 0), delay k (fun m => f m c) n) (min (((n + 1 : ℕ) : ℝ) : EReal) (wword 0))
      - f n c) * w (ix3 0 c q)) * s (ix2 0 q) := by
  have hf : ∀ c, f n c = delay 0 (fun m => f m c) n := fun c => (if_pos (Nat.zero_le _)).symm
  have hc : (FloatOps.sitofp (F := Ideal) FTy.f32 (IntOp.addi (Scalar.addi (Scalar.muli (BitVec.ofNat 32 (i 1).val) 256#32) 1#32) (BitVec.ofNat 32 l.val)) : EReal)
    = (((n + 1 : ℕ) : ℝ) : EReal) := by rw [hn]; exact count_at (i 1) l
  rw [show wlen 0 = 2 from rfl]
  pointwise [k0_pay9, k0_pay8, k0_pay7]
  simp only [hf, h0, h1, hc, Finset.sum_range_succ, Finset.sum_range_zero, zero_add]
  rfl

/-- The branch pooled over 4 tokens at an entry. -/
theorem pool1_at (i : grid0.Coords) (a0 a1 a2 a3 : Vec Ideal S256x256 .f32) (w : Vec Ideal S1x256x256 .bf16) (s : Vec Ideal S1x256 .f32) (l q : Fin 256)
    (f : ℕ → Fin 256 → EReal) (n : ℕ) (hn : n = 256 * (i 1).val + l.val)
    (h0 : ∀ q, a0 (ix2 l q) = delay 0 (fun m => f m q) n) (h1 : ∀ q, a1 (ix2 l q) = delay 1 (fun m => f m q) n) (h2 : ∀ q, a2 (ix2 l q) = delay 2 (fun m => f m q) n) (h3 : ∀ q, a3 (ix2 l q) = delay 3 (fun m => f m q) n) :
    k0_pay10 (k0_pay7 i) a0 a1 a2 a3 w s (ix2 l q) = (∑ c : Fin 256, (Ideal.div (∑ k ∈ Finset.range (wlen 1), delay k (fun m => f m c) n) (min (((n + 1 : ℕ) : ℝ) : EReal) (wword 1))
      - f n c) * w (ix3 0 c q)) * s (ix2 0 q) := by
  have hf : ∀ c, f n c = delay 0 (fun m => f m c) n := fun c => (if_pos (Nat.zero_le _)).symm
  have hc : (FloatOps.sitofp (F := Ideal) FTy.f32 (IntOp.addi (Scalar.addi (Scalar.muli (BitVec.ofNat 32 (i 1).val) 256#32) 1#32) (BitVec.ofNat 32 l.val)) : EReal)
    = (((n + 1 : ℕ) : ℝ) : EReal) := by rw [hn]; exact count_at (i 1) l
  rw [show wlen 1 = 4 from rfl]
  pointwise [k0_pay10, k0_pay7]
  simp only [hf, h0, h1, h2, h3, hc, Finset.sum_range_succ, Finset.sum_range_zero, zero_add]
  rfl

/-- The branch pooled over 8 tokens at an entry. -/
theorem pool2_at (i : grid0.Coords) (a0 a1 a2 a3 a4 a5 a6 a7 : Vec Ideal S256x256 .f32) (w : Vec Ideal S1x256x256 .bf16) (s : Vec Ideal S1x256 .f32) (l q : Fin 256)
    (f : ℕ → Fin 256 → EReal) (n : ℕ) (hn : n = 256 * (i 1).val + l.val)
    (h0 : ∀ q, a0 (ix2 l q) = delay 0 (fun m => f m q) n) (h1 : ∀ q, a1 (ix2 l q) = delay 1 (fun m => f m q) n) (h2 : ∀ q, a2 (ix2 l q) = delay 2 (fun m => f m q) n) (h3 : ∀ q, a3 (ix2 l q) = delay 3 (fun m => f m q) n) (h4 : ∀ q, a4 (ix2 l q) = delay 4 (fun m => f m q) n) (h5 : ∀ q, a5 (ix2 l q) = delay 5 (fun m => f m q) n) (h6 : ∀ q, a6 (ix2 l q) = delay 6 (fun m => f m q) n) (h7 : ∀ q, a7 (ix2 l q) = delay 7 (fun m => f m q) n) :
    k0_pay11 (k0_pay7 i) a0 a1 a2 a3 a4 a5 a6 a7 w s (ix2 l q) = (∑ c : Fin 256, (Ideal.div (∑ k ∈ Finset.range (wlen 2), delay k (fun m => f m c) n) (min (((n + 1 : ℕ) : ℝ) : EReal) (wword 2))
      - f n c) * w (ix3 0 c q)) * s (ix2 0 q) := by
  have hf : ∀ c, f n c = delay 0 (fun m => f m c) n := fun c => (if_pos (Nat.zero_le _)).symm
  have hc : (FloatOps.sitofp (F := Ideal) FTy.f32 (IntOp.addi (Scalar.addi (Scalar.muli (BitVec.ofNat 32 (i 1).val) 256#32) 1#32) (BitVec.ofNat 32 l.val)) : EReal)
    = (((n + 1 : ℕ) : ℝ) : EReal) := by rw [hn]; exact count_at (i 1) l
  rw [show wlen 2 = 8 from rfl]
  pointwise [k0_pay11, k0_pay7]
  simp only [hf, h0, h1, h2, h3, h4, h5, h6, h7, hc, Finset.sum_range_succ, Finset.sum_range_zero, zero_add]
  rfl

/-- The branch pooled over 16 tokens at an entry. -/
theorem pool3_at (i : grid0.Coords) (a0 a1 a2 a3 a4 a5 a6 a7 a8 a9 a10 a11 a12 a13 a14 a15 : Vec Ideal S256x256 .f32) (w : Vec Ideal S1x256x256 .bf16) (s : Vec Ideal S1x256 .f32) (l q : Fin 256)
    (f : ℕ → Fin 256 → EReal) (n : ℕ) (hn : n = 256 * (i 1).val + l.val)
    (h0 : ∀ q, a0 (ix2 l q) = delay 0 (fun m => f m q) n) (h1 : ∀ q, a1 (ix2 l q) = delay 1 (fun m => f m q) n) (h2 : ∀ q, a2 (ix2 l q) = delay 2 (fun m => f m q) n) (h3 : ∀ q, a3 (ix2 l q) = delay 3 (fun m => f m q) n) (h4 : ∀ q, a4 (ix2 l q) = delay 4 (fun m => f m q) n) (h5 : ∀ q, a5 (ix2 l q) = delay 5 (fun m => f m q) n) (h6 : ∀ q, a6 (ix2 l q) = delay 6 (fun m => f m q) n) (h7 : ∀ q, a7 (ix2 l q) = delay 7 (fun m => f m q) n) (h8 : ∀ q, a8 (ix2 l q) = delay 8 (fun m => f m q) n) (h9 : ∀ q, a9 (ix2 l q) = delay 9 (fun m => f m q) n) (h10 : ∀ q, a10 (ix2 l q) = delay 10 (fun m => f m q) n) (h11 : ∀ q, a11 (ix2 l q) = delay 11 (fun m => f m q) n) (h12 : ∀ q, a12 (ix2 l q) = delay 12 (fun m => f m q) n) (h13 : ∀ q, a13 (ix2 l q) = delay 13 (fun m => f m q) n) (h14 : ∀ q, a14 (ix2 l q) = delay 14 (fun m => f m q) n) (h15 : ∀ q, a15 (ix2 l q) = delay 15 (fun m => f m q) n) :
    k0_pay14 a0 (k0_pay12 a0 a1 a2 a3 a4 a5 a6 a7 a8 a9 a10 a11 a12 a13 a14 a15) (k0_pay13 (k0_pay7 i)) w s (ix2 l q) = (∑ c : Fin 256, (Ideal.div (∑ k ∈ Finset.range (wlen 3), delay k (fun m => f m c) n) (min (((n + 1 : ℕ) : ℝ) : EReal) (wword 3))
      - f n c) * w (ix3 0 c q)) * s (ix2 0 q) := by
  have hf : ∀ c, f n c = delay 0 (fun m => f m c) n := fun c => (if_pos (Nat.zero_le _)).symm
  have hc : (FloatOps.sitofp (F := Ideal) FTy.f32 (IntOp.addi (Scalar.addi (Scalar.muli (BitVec.ofNat 32 (i 1).val) 256#32) 1#32) (BitVec.ofNat 32 l.val)) : EReal)
    = (((n + 1 : ℕ) : ℝ) : EReal) := by rw [hn]; exact count_at (i 1) l
  rw [show wlen 3 = 16 from rfl]
  pointwise [k0_pay14, k0_pay12, k0_pay13, k0_pay7]
  simp only [hf, h0, h1, h2, h3, h4, h5, h6, h7, h8, h9, h10, h11, h12, h13, h14, h15, hc, Finset.sum_range_succ, Finset.sum_range_zero, zero_add]
  rfl

/-- The pooled branch of chunk `c`, once the scratch holds the chunk's projections and the tokens before. -/
theorem pool_at (p : Par) (X : ℕ → Fin 1024 → EReal) (i : grid0.Coords) (c : ℕ) (hc : (i 1).val = c) (PB : Vec Ideal S272x1024 .f32) (wp : Vec Ideal S4x256x256 .bf16)
    (ps : Vec Ideal S1x1024 .f32)
    (hP : ∀ (i : Fin 272) (j : Fin 1024), PB (ix2 i j) = delay 16 (fun m => prU p X m j) (256 * c + i.val))
    (hw : ∀ g k q, wp (ix3 g k q) = p.wp g k q) (hs : ∀ j, ps (ix2 0 j) = p.ps j) (l : Fin 256) (j : Fin 1024) :
    View.canon (poolP i PB wp ps) (ix2 l j) = yPool p X (256 * c + l.val) j := by
  have hS : ∀ (k : ℕ) (i : Fin 272) (j : Fin 1024), k ≤ 16 → i.val + k = 16 + l.val →
      PB (ix2 i j) = delay k (fun m => prU p X m j) (256 * c + l.val) := by
    intro k i j hk hi
    rw [hP]
    unfold delay
    by_cases h : k ≤ 256 * c + l.val
    · rw [if_pos h, if_pos (by omega)]
      exact congrArg (fun m => prU p X m j) (by omega)
    · rw [if_neg h, if_neg (by omega)]
  clear hP
  unfold poolP
  canon_tiles x h
  case piece0 =>
    idx_vars x
    change l.val = x0.val at h0
    change j.val = 768 + x1.val at h1
    obtain rfl : l = x0 := Fin.ext h0
    obtain rfl : j = ⟨768 + x1.val, by clear h1; omega⟩ := Fin.ext h1
    refine (pool3_at i _ _ _ _ _ _ _ _ _ _ _ _ _ _ _ _ _ _ l x1 (fun m q => prU p X m ⟨768 + q.val, by omega⟩) (256 * c + l.val) (by rw [hc])
      (fun q => (show _ = _ by pointwise; exact hS 0 ⟨16 + l.val, by omega⟩ ⟨768 + q.val, by omega⟩ (by omega) (by dsimp only; omega))) (fun q => (show _ = _ by pointwise; exact hS 1 ⟨15 + l.val, by omega⟩ ⟨768 + q.val, by omega⟩ (by omega) (by dsimp only; omega))) (fun q => (show _ = _ by pointwise; exact hS 2 ⟨14 + l.val, by omega⟩ ⟨768 + q.val, by omega⟩ (by omega) (by dsimp only; omega))) (fun q => (show _ = _ by pointwise; exact hS 3 ⟨13 + l.val, by omega⟩ ⟨768 + q.val, by omega⟩ (by omega) (by dsimp only; omega))) (fun q => (show _ = _ by pointwise; exact hS 4 ⟨12 + l.val, by omega⟩ ⟨768 + q.val, by omega⟩ (by omega) (by dsimp only; omega))) (fun q => (show _ = _ by pointwise; exact hS 5 ⟨11 + l.val, by omega⟩ ⟨768 + q.val, by omega⟩ (by omega) (by dsimp only; omega))) (fun q => (show _ = _ by pointwise; exact hS 6 ⟨10 + l.val, by omega⟩ ⟨768 + q.val, by omega⟩ (by omega) (by dsimp only; omega))) (fun q => (show _ = _ by pointwise; exact hS 7 ⟨9 + l.val, by omega⟩ ⟨768 + q.val, by omega⟩ (by omega) (by dsimp only; omega))) (fun q => (show _ = _ by pointwise; exact hS 8 ⟨8 + l.val, by omega⟩ ⟨768 + q.val, by omega⟩ (by omega) (by dsimp only; omega))) (fun q => (show _ = _ by pointwise; exact hS 9 ⟨7 + l.val, by omega⟩ ⟨768 + q.val, by omega⟩ (by omega) (by dsimp only; omega))) (fun q => (show _ = _ by pointwise; exact hS 10 ⟨6 + l.val, by omega⟩ ⟨768 + q.val, by omega⟩ (by omega) (by dsimp only; omega))) (fun q => (show _ = _ by pointwise; exact hS 11 ⟨5 + l.val, by omega⟩ ⟨768 + q.val, by omega⟩ (by omega) (by dsimp only; omega))) (fun q => (show _ = _ by pointwise; exact hS 12 ⟨4 + l.val, by omega⟩ ⟨768 + q.val, by omega⟩ (by omega) (by dsimp only; omega))) (fun q => (show _ = _ by pointwise; exact hS 13 ⟨3 + l.val, by omega⟩ ⟨768 + q.val, by omega⟩ (by omega) (by dsimp only; omega))) (fun q => (show _ = _ by pointwise; exact hS 14 ⟨2 + l.val, by omega⟩ ⟨768 + q.val, by omega⟩ (by omega) (by dsimp only; omega))) (fun q => (show _ = _ by pointwise; exact hS 15 ⟨1 + l.val, by omega⟩ ⟨768 + q.val, by omega⟩ (by omega) (by dsimp only; omega)))).trans ?_
    have eg : (768 + x1.val) / 256 = 3 := by omega
    have em : (768 + x1.val) % 256 = x1.val := by omega
    unfold yPool pooled
    simp only [eg, em]
    pointwise [hw, hs]
    try rfl
  case piece1 =>
    idx_vars x
    change l.val = x0.val at h0
    change j.val = 512 + x1.val at h1
    obtain rfl : l = x0 := Fin.ext h0
    obtain rfl : j = ⟨512 + x1.val, by clear h1; omega⟩ := Fin.ext h1
    refine (pool2_at i _ _ _ _ _ _ _ _ _ _ l x1 (fun m q => prU p X m ⟨512 + q.val, by omega⟩) (256 * c + l.val) (by rw [hc])
      (fun q => (show _ = _ by pointwise; exact hS 0 ⟨16 + l.val, by omega⟩ ⟨512 + q.val, by omega⟩ (by omega) (by dsimp only; omega))) (fun q => (show _ = _ by pointwise; exact hS 1 ⟨15 + l.val, by omega⟩ ⟨512 + q.val, by omega⟩ (by omega) (by dsimp only; omega))) (fun q => (show _ = _ by pointwise; exact hS 2 ⟨14 + l.val, by omega⟩ ⟨512 + q.val, by omega⟩ (by omega) (by dsimp only; omega))) (fun q => (show _ = _ by pointwise; exact hS 3 ⟨13 + l.val, by omega⟩ ⟨512 + q.val, by omega⟩ (by omega) (by dsimp only; omega))) (fun q => (show _ = _ by pointwise; exact hS 4 ⟨12 + l.val, by omega⟩ ⟨512 + q.val, by omega⟩ (by omega) (by dsimp only; omega))) (fun q => (show _ = _ by pointwise; exact hS 5 ⟨11 + l.val, by omega⟩ ⟨512 + q.val, by omega⟩ (by omega) (by dsimp only; omega))) (fun q => (show _ = _ by pointwise; exact hS 6 ⟨10 + l.val, by omega⟩ ⟨512 + q.val, by omega⟩ (by omega) (by dsimp only; omega))) (fun q => (show _ = _ by pointwise; exact hS 7 ⟨9 + l.val, by omega⟩ ⟨512 + q.val, by omega⟩ (by omega) (by dsimp only; omega)))).trans ?_
    have eg : (512 + x1.val) / 256 = 2 := by omega
    have em : (512 + x1.val) % 256 = x1.val := by omega
    unfold yPool pooled
    simp only [eg, em]
    pointwise [hw, hs]
    try rfl
  case piece2 =>
    idx_vars x
    change l.val = x0.val at h0
    change j.val = 256 + x1.val at h1
    obtain rfl : l = x0 := Fin.ext h0
    obtain rfl : j = ⟨256 + x1.val, by clear h1; omega⟩ := Fin.ext h1
    refine (pool1_at i _ _ _ _ _ _ l x1 (fun m q => prU p X m ⟨256 + q.val, by omega⟩) (256 * c + l.val) (by rw [hc])
      (fun q => (show _ = _ by pointwise; exact hS 0 ⟨16 + l.val, by omega⟩ ⟨256 + q.val, by omega⟩ (by omega) (by dsimp only; omega))) (fun q => (show _ = _ by pointwise; exact hS 1 ⟨15 + l.val, by omega⟩ ⟨256 + q.val, by omega⟩ (by omega) (by dsimp only; omega))) (fun q => (show _ = _ by pointwise; exact hS 2 ⟨14 + l.val, by omega⟩ ⟨256 + q.val, by omega⟩ (by omega) (by dsimp only; omega))) (fun q => (show _ = _ by pointwise; exact hS 3 ⟨13 + l.val, by omega⟩ ⟨256 + q.val, by omega⟩ (by omega) (by dsimp only; omega)))).trans ?_
    have eg : (256 + x1.val) / 256 = 1 := by omega
    have em : (256 + x1.val) % 256 = x1.val := by omega
    unfold yPool pooled
    simp only [eg, em]
    pointwise [hw, hs]
    try rfl
  case piece3 =>
    idx_vars x
    change l.val = x0.val at h0
    change j.val = x1.val at h1
    obtain rfl : l = x0 := Fin.ext h0
    obtain rfl : j = ⟨x1.val, by clear h1; omega⟩ := Fin.ext h1
    refine (pool0_at i _ _ _ _ l x1 (fun m q => prU p X m ⟨q.val, by omega⟩) (256 * c + l.val) (by rw [hc])
      (fun q => (show _ = _ by pointwise; exact hS 0 ⟨16 + l.val, by omega⟩ ⟨q.val, by omega⟩ (by omega) (by dsimp only; omega))) (fun q => (show _ = _ by pointwise; exact hS 1 ⟨15 + l.val, by omega⟩ ⟨q.val, by omega⟩ (by omega) (by dsimp only; omega)))).trans ?_
    have eg : (x1.val) / 256 = 0 := by omega
    have em : (x1.val) % 256 = x1.val := by omega
    unfold yPool pooled
    simp only [eg, em]
    pointwise [hw, hs]
    try rfl

end Cert.Mix
end
-- ==== Proof.MixGrpAt.lean ====
/- The mixing kernel's groups read at an entry. -/
module

public import proofs.«01_k».proof.Proof.MixStage
public import proofs.«01_k».proof.Proof.MixSpec
public import Idealize.ShloMosaic.Lib.Pointwise

@[expose] public section

set_option maxRecDepth 16384

noncomputable section

namespace Cert.Mix

open Idealize Idealize.ShloMosaic Idealize.ShloMosaic.TcCoe Idealize.ShloMosaic.Tactic
open Cert.KernelIdeal Cert.KernelIdeal.Gen

/-- The products between a chunk's tokens. -/
theorem cb43_at (b c : Vec Ideal S256x128 .f32) (l s : Fin 256) : k0_pay43 b c (ix2 l s) = ∑ n : Fin 128, c (ix2 l n) * b (ix2 s n) := by
  pointwise [k0_pay43, k0_pay42, k0_pay41]

/-- A transposed direction. -/
theorem bt_at (b : Vec Ideal S256x128 .f32) (n : Fin 128) (s : Fin 256) : k0_pay41 b (ix2 n s) = b (ix2 s n) := by
  pointwise [k0_pay41]

/-- A rounded direction is the direction. -/
theorem cm_at (c : Vec Ideal S256x128 .f32) (l : Fin 256) (n : Fin 128) : k0_pay42 c (ix2 l n) = c (ix2 l n) := by
  pointwise [k0_pay42]

/-- The running sums transposed. -/
theorem cst_at (cs : FVec Ideal S256x128 .f32) (h : Fin 128) (s : Fin 256) : k0_pay35 cs (ix2 h s) = cs (ix2 s h) := by
  pointwise [k0_pay35]

/-- The steps transposed. -/
theorem dtt_at (dt : FVec Ideal S256x128 .f32) (h : Fin 128) (s : Fin 256) : k0_pay36 dt (ix2 h s) = dt (ix2 s h) := by
  pointwise [k0_pay36]

/-- The steps times the decay to the chunk's end. -/
theorem wgt_at (dt cs : FVec Ideal S256x128 .f32) (h : Fin 128) (s : Fin 256) :
    k0_pay37 dt cs (ix2 h s) = dt (ix2 s h) * Ideal.exp (cs (ix2 255 h) - cs (ix2 s h)) := by
  pointwise [k0_pay37, k0_pay36, k0_pay35]

/-- The decays. -/
theorem ecs_at (cs : FVec Ideal S256x128 .f32) (l : Fin 256) (h : Fin 128) : k0_pay38 cs (ix2 l h) = Ideal.exp (cs (ix2 l h)) := by
  pointwise [k0_pay38]

/-- Entries of one column are equal. -/
theorem col0_ext {R C : ℕ} {a : Fin R} {b c : Fin C} {q : ℕ} (hb : b.val = q) (hc : c.val = 256 * 0 + q) : ix2 a b = ix2 a c := by
  rw [show b = c from Fin.ext (by omega)]

/-- A head's place among the padded heads. -/
abbrev hp (h : Fin 32) : Fin 128 := ⟨h.val, by omega⟩

/-- Group 0's columns of a chunk's table. -/
def cc0 (v : FVec Ideal S256x128 .f32) : Fin 4 → FVec Ideal S256x1 .f32 := ![extractStridedSlice S256x1 ![0, 0] v slices_S256x128_o0_0_S256x1, extractStridedSlice S256x1 ![0, 1] v slices_S256x128_o0_1_S256x1, extractStridedSlice S256x1 ![0, 2] v slices_S256x128_o0_2_S256x1, extractStridedSlice S256x1 ![0, 3] v slices_S256x128_o0_3_S256x1]

/-- Group 0's columns at an entry. -/
theorem cc0_at (v : FVec Ideal S256x128 .f32) (q l : Fin 256) : cc0 v (hd q) (ix2 l 0) = v (ix2 l (hp (hcol 0 q))) := by
  have h : ∀ r : Fin 4, cc0 v r (ix2 l 0) = v (ix2 l ⟨4 * 0 + r.val, by omega⟩) := fun r => by
    unfold cc0
    fin_cases r
    all_goals (pointwise; try first | rfl | exact congrArg _ (col0_ext rfl rfl))
  exact h (hd q)

/-- Group 0's rows of a chunk's transposed table. -/
def rr0 (v : FVec Ideal S128x256 .f32) : Fin 4 → FVec Ideal S1x256 .f32 := ![extractStridedSlice S1x256 ![0, 0] v slices_S128x256_o0_0_S1x256, extractStridedSlice S1x256 ![1, 0] v slices_S128x256_o1_0_S1x256, extractStridedSlice S1x256 ![2, 0] v slices_S128x256_o2_0_S1x256, extractStridedSlice S1x256 ![3, 0] v slices_S128x256_o3_0_S1x256]

/-- Group 0's rows at an entry. -/
theorem rr0_at (v : FVec Ideal S128x256 .f32) (q s : Fin 256) : rr0 v (hd q) (ix2 0 s) = v (ix2 (hp (hcol 0 q)) s) := by
  have h : ∀ r : Fin 4, rr0 v r (ix2 0 s) = v (ix2 ⟨4 * 0 + r.val, by omega⟩ s) := fun r => by
    unfold rr0
    fin_cases r
    all_goals (pointwise; try first | rfl | exact congrArg _ (col0_ext rfl rfl))
  exact h (hd q)

/-- Group 0's decays at an entry. -/
theorem gE0_at (cs : FVec Ideal S256x128 .f32) (l q : Fin 256) : gE0 cs (ix2 l q) = Ideal.exp (cs (ix2 l (hp (hcol 0 q)))) := by
  rw [← ecs_at, ← cc0_at (k0_pay38 cs)]
  exact grpE_at (cc0 (k0_pay38 cs)) l q

/-- Group 0's output before the gate. -/
theorem gP0_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 0 q))) (hb : ∀ s n, b (ix2 s n) = act (ix2 s (bcol 0 n))) (hc : ∀ s n, c (ix2 s n) = act (ix2 s (ccol 0 n)))
    (hs : ∀ n q, s1 (ix3 0 n q) = st (ix3 0 n q)) (hd1 : ∀ q, d1 (ix2 0 q) = dx (ix2 0 (icol 0 q))) (l q : Fin 256) :
    grpPre (gY0 dt cs xs b c) (gE0 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 0 l q := by
  have hY : gY0 dt cs xs b c (ix2 l q) = _ := grpY_at (k0_pay43 b c) xs (cc0 cs) (rr0 (k0_pay35 cs)) (rr0 (k0_pay36 dt)) l q
  rw [grpPre_at, hY, gE0_at]
  unfold preC
  simp only [cc0_at, rr0_at, cst_at, dtt_at, cb43_at, cm_at, hx, hb, hc, hs, hd1]

/-- Group 0's gated output at an entry. -/
theorem gO0_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 0 q))) (hb : ∀ s n, b (ix2 s n) = act (ix2 s (bcol 0 n))) (hc : ∀ s n, c (ix2 s n) = act (ix2 s (ccol 0 n)))
    (hs : ∀ n q, s1 (ix3 0 n q) = st (ix3 0 n q)) (hd1 : ∀ q, d1 (ix2 0 q) = dx (ix2 0 (icol 0 q)))
    (hwz : ∀ k q, wz1 (ix2 k q) = wz (ix2 k (icol 0 q))) (hnw : ∀ q, nw1 (ix2 0 q) = nw (ix2 0 (icol 0 q))) (l q : Fin 256) :
    gO0 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 0 l q)
          (fun q => ∑ k : Fin 1024, xb (ix2 l k) * wz (ix2 k (icol 0 q))) (fun q => nw (ix2 0 (icol 0 q))) q := by
  unfold gO0
  rw [grpNorm_at]
  simp only [gP0_at dt cs act st dx xs b c s1 d1 hx hb hc hs hd1, hwz, hnw]

/-- Group 0's state after the chunk at an entry. -/
theorem gT0_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 0 q))) (hb : ∀ s n, b (ix2 s n) = act (ix2 s (bcol 0 n)))
    (hs : ∀ n q, s1 (ix3 0 n q) = st (ix3 0 n q)) (n : Fin 128) (q : Fin 256) :
    gT0 dt cs xs b s1 (ix3 0 n q)
      = stC (fun l h => dt (ix2 l (hp h))) (fun l h => cs (ix2 l (hp h))) (fun l j => act (ix2 l j)) (fun g n q => st (ix3 g n q)) 0 n q := by
  have hS : gS0 dt cs xs b (ix2 n q) = _ := grpS_at (k0_pay41 b) xs (rr0 (k0_pay37 dt cs)) n q
  unfold gT0
  rw [grpState_at, hS, gE0_at]
  unfold stC
  simp only [rr0_at, wgt_at, bt_at, hx, hb, hs]

/-- Group 1's columns of a chunk's table. -/
def cc1 (v : FVec Ideal S256x128 .f32) : Fin 4 → FVec Ideal S256x1 .f32 := ![extractStridedSlice S256x1 ![0, 4] v slices_S256x128_o0_4_S256x1, extractStridedSlice S256x1 ![0, 5] v slices_S256x128_o0_5_S256x1, extractStridedSlice S256x1 ![0, 6] v slices_S256x128_o0_6_S256x1, extractStridedSlice S256x1 ![0, 7] v slices_S256x128_o0_7_S256x1]

/-- Group 1's columns at an entry. -/
theorem cc1_at (v : FVec Ideal S256x128 .f32) (q l : Fin 256) : cc1 v (hd q) (ix2 l 0) = v (ix2 l (hp (hcol 1 q))) := by
  have h : ∀ r : Fin 4, cc1 v r (ix2 l 0) = v (ix2 l ⟨4 * 1 + r.val, by omega⟩) := fun r => by
    unfold cc1
    fin_cases r
    all_goals (pointwise; try first | rfl | exact congrArg _ (col0_ext rfl rfl))
  exact h (hd q)

/-- Group 1's rows of a chunk's transposed table. -/
def rr1 (v : FVec Ideal S128x256 .f32) : Fin 4 → FVec Ideal S1x256 .f32 := ![extractStridedSlice S1x256 ![4, 0] v slices_S128x256_o4_0_S1x256, extractStridedSlice S1x256 ![5, 0] v slices_S128x256_o5_0_S1x256, extractStridedSlice S1x256 ![6, 0] v slices_S128x256_o6_0_S1x256, extractStridedSlice S1x256 ![7, 0] v slices_S128x256_o7_0_S1x256]

/-- Group 1's rows at an entry. -/
theorem rr1_at (v : FVec Ideal S128x256 .f32) (q s : Fin 256) : rr1 v (hd q) (ix2 0 s) = v (ix2 (hp (hcol 1 q)) s) := by
  have h : ∀ r : Fin 4, rr1 v r (ix2 0 s) = v (ix2 ⟨4 * 1 + r.val, by omega⟩ s) := fun r => by
    unfold rr1
    fin_cases r
    all_goals (pointwise; try first | rfl | exact congrArg _ (col0_ext rfl rfl))
  exact h (hd q)

/-- Group 1's decays at an entry. -/
theorem gE1_at (cs : FVec Ideal S256x128 .f32) (l q : Fin 256) : gE1 cs (ix2 l q) = Ideal.exp (cs (ix2 l (hp (hcol 1 q)))) := by
  rw [← ecs_at, ← cc1_at (k0_pay38 cs)]
  exact grpE_at (cc1 (k0_pay38 cs)) l q

/-- Group 1's output before the gate. -/
theorem gP1_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 1 q))) (hb : ∀ s n, b (ix2 s n) = act (ix2 s (bcol 1 n))) (hc : ∀ s n, c (ix2 s n) = act (ix2 s (ccol 1 n)))
    (hs : ∀ n q, s1 (ix3 0 n q) = st (ix3 1 n q)) (hd1 : ∀ q, d1 (ix2 0 q) = dx (ix2 0 (icol 1 q))) (l q : Fin 256) :
    grpPre (gY1 dt cs xs b c) (gE1 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 1 l q := by
  have hY : gY1 dt cs xs b c (ix2 l q) = _ := grpY_at (k0_pay43 b c) xs (cc1 cs) (rr1 (k0_pay35 cs)) (rr1 (k0_pay36 dt)) l q
  rw [grpPre_at, hY, gE1_at]
  unfold preC
  simp only [cc1_at, rr1_at, cst_at, dtt_at, cb43_at, cm_at, hx, hb, hc, hs, hd1]

/-- Group 1's gated output at an entry. -/
theorem gO1_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 1 q))) (hb : ∀ s n, b (ix2 s n) = act (ix2 s (bcol 1 n))) (hc : ∀ s n, c (ix2 s n) = act (ix2 s (ccol 1 n)))
    (hs : ∀ n q, s1 (ix3 0 n q) = st (ix3 1 n q)) (hd1 : ∀ q, d1 (ix2 0 q) = dx (ix2 0 (icol 1 q)))
    (hwz : ∀ k q, wz1 (ix2 k q) = wz (ix2 k (icol 1 q))) (hnw : ∀ q, nw1 (ix2 0 q) = nw (ix2 0 (icol 1 q))) (l q : Fin 256) :
    gO1 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 1 l q)
          (fun q => ∑ k : Fin 1024, xb (ix2 l k) * wz (ix2 k (icol 1 q))) (fun q => nw (ix2 0 (icol 1 q))) q := by
  unfold gO1
  rw [grpNorm_at]
  simp only [gP1_at dt cs act st dx xs b c s1 d1 hx hb hc hs hd1, hwz, hnw]

/-- Group 1's state after the chunk at an entry. -/
theorem gT1_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 1 q))) (hb : ∀ s n, b (ix2 s n) = act (ix2 s (bcol 1 n)))
    (hs : ∀ n q, s1 (ix3 0 n q) = st (ix3 1 n q)) (n : Fin 128) (q : Fin 256) :
    gT1 dt cs xs b s1 (ix3 0 n q)
      = stC (fun l h => dt (ix2 l (hp h))) (fun l h => cs (ix2 l (hp h))) (fun l j => act (ix2 l j)) (fun g n q => st (ix3 g n q)) 1 n q := by
  have hS : gS1 dt cs xs b (ix2 n q) = _ := grpS_at (k0_pay41 b) xs (rr1 (k0_pay37 dt cs)) n q
  unfold gT1
  rw [grpState_at, hS, gE1_at]
  unfold stC
  simp only [rr1_at, wgt_at, bt_at, hx, hb, hs]

/-- Group 2's columns of a chunk's table. -/
def cc2 (v : FVec Ideal S256x128 .f32) : Fin 4 → FVec Ideal S256x1 .f32 := ![extractStridedSlice S256x1 ![0, 8] v slices_S256x128_o0_8_S256x1, extractStridedSlice S256x1 ![0, 9] v slices_S256x128_o0_9_S256x1, extractStridedSlice S256x1 ![0, 10] v slices_S256x128_o0_10_S256x1, extractStridedSlice S256x1 ![0, 11] v slices_S256x128_o0_11_S256x1]

/-- Group 2's columns at an entry. -/
theorem cc2_at (v : FVec Ideal S256x128 .f32) (q l : Fin 256) : cc2 v (hd q) (ix2 l 0) = v (ix2 l (hp (hcol 2 q))) := by
  have h : ∀ r : Fin 4, cc2 v r (ix2 l 0) = v (ix2 l ⟨4 * 2 + r.val, by omega⟩) := fun r => by
    unfold cc2
    fin_cases r
    all_goals (pointwise; try first | rfl | exact congrArg _ (col0_ext rfl rfl))
  exact h (hd q)

/-- Group 2's rows of a chunk's transposed table. -/
def rr2 (v : FVec Ideal S128x256 .f32) : Fin 4 → FVec Ideal S1x256 .f32 := ![extractStridedSlice S1x256 ![8, 0] v slices_S128x256_o8_0_S1x256, extractStridedSlice S1x256 ![9, 0] v slices_S128x256_o9_0_S1x256, extractStridedSlice S1x256 ![10, 0] v slices_S128x256_o10_0_S1x256, extractStridedSlice S1x256 ![11, 0] v slices_S128x256_o11_0_S1x256]

/-- Group 2's rows at an entry. -/
theorem rr2_at (v : FVec Ideal S128x256 .f32) (q s : Fin 256) : rr2 v (hd q) (ix2 0 s) = v (ix2 (hp (hcol 2 q)) s) := by
  have h : ∀ r : Fin 4, rr2 v r (ix2 0 s) = v (ix2 ⟨4 * 2 + r.val, by omega⟩ s) := fun r => by
    unfold rr2
    fin_cases r
    all_goals (pointwise; try first | rfl | exact congrArg _ (col0_ext rfl rfl))
  exact h (hd q)

/-- Group 2's decays at an entry. -/
theorem gE2_at (cs : FVec Ideal S256x128 .f32) (l q : Fin 256) : gE2 cs (ix2 l q) = Ideal.exp (cs (ix2 l (hp (hcol 2 q)))) := by
  rw [← ecs_at, ← cc2_at (k0_pay38 cs)]
  exact grpE_at (cc2 (k0_pay38 cs)) l q

/-- Group 2's output before the gate. -/
theorem gP2_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 2 q))) (hb : ∀ s n, b (ix2 s n) = act (ix2 s (bcol 2 n))) (hc : ∀ s n, c (ix2 s n) = act (ix2 s (ccol 2 n)))
    (hs : ∀ n q, s1 (ix3 0 n q) = st (ix3 2 n q)) (hd1 : ∀ q, d1 (ix2 0 q) = dx (ix2 0 (icol 2 q))) (l q : Fin 256) :
    grpPre (gY2 dt cs xs b c) (gE2 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 2 l q := by
  have hY : gY2 dt cs xs b c (ix2 l q) = _ := grpY_at (k0_pay43 b c) xs (cc2 cs) (rr2 (k0_pay35 cs)) (rr2 (k0_pay36 dt)) l q
  rw [grpPre_at, hY, gE2_at]
  unfold preC
  simp only [cc2_at, rr2_at, cst_at, dtt_at, cb43_at, cm_at, hx, hb, hc, hs, hd1]

/-- Group 2's gated output at an entry. -/
theorem gO2_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 2 q))) (hb : ∀ s n, b (ix2 s n) = act (ix2 s (bcol 2 n))) (hc : ∀ s n, c (ix2 s n) = act (ix2 s (ccol 2 n)))
    (hs : ∀ n q, s1 (ix3 0 n q) = st (ix3 2 n q)) (hd1 : ∀ q, d1 (ix2 0 q) = dx (ix2 0 (icol 2 q)))
    (hwz : ∀ k q, wz1 (ix2 k q) = wz (ix2 k (icol 2 q))) (hnw : ∀ q, nw1 (ix2 0 q) = nw (ix2 0 (icol 2 q))) (l q : Fin 256) :
    gO2 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 2 l q)
          (fun q => ∑ k : Fin 1024, xb (ix2 l k) * wz (ix2 k (icol 2 q))) (fun q => nw (ix2 0 (icol 2 q))) q := by
  unfold gO2
  rw [grpNorm_at]
  simp only [gP2_at dt cs act st dx xs b c s1 d1 hx hb hc hs hd1, hwz, hnw]

/-- Group 2's state after the chunk at an entry. -/
theorem gT2_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 2 q))) (hb : ∀ s n, b (ix2 s n) = act (ix2 s (bcol 2 n)))
    (hs : ∀ n q, s1 (ix3 0 n q) = st (ix3 2 n q)) (n : Fin 128) (q : Fin 256) :
    gT2 dt cs xs b s1 (ix3 0 n q)
      = stC (fun l h => dt (ix2 l (hp h))) (fun l h => cs (ix2 l (hp h))) (fun l j => act (ix2 l j)) (fun g n q => st (ix3 g n q)) 2 n q := by
  have hS : gS2 dt cs xs b (ix2 n q) = _ := grpS_at (k0_pay41 b) xs (rr2 (k0_pay37 dt cs)) n q
  unfold gT2
  rw [grpState_at, hS, gE2_at]
  unfold stC
  simp only [rr2_at, wgt_at, bt_at, hx, hb, hs]

/-- Group 3's columns of a chunk's table. -/
def cc3 (v : FVec Ideal S256x128 .f32) : Fin 4 → FVec Ideal S256x1 .f32 := ![extractStridedSlice S256x1 ![0, 12] v slices_S256x128_o0_12_S256x1, extractStridedSlice S256x1 ![0, 13] v slices_S256x128_o0_13_S256x1, extractStridedSlice S256x1 ![0, 14] v slices_S256x128_o0_14_S256x1, extractStridedSlice S256x1 ![0, 15] v slices_S256x128_o0_15_S256x1]

/-- Group 3's columns at an entry. -/
theorem cc3_at (v : FVec Ideal S256x128 .f32) (q l : Fin 256) : cc3 v (hd q) (ix2 l 0) = v (ix2 l (hp (hcol 3 q))) := by
  have h : ∀ r : Fin 4, cc3 v r (ix2 l 0) = v (ix2 l ⟨4 * 3 + r.val, by omega⟩) := fun r => by
    unfold cc3
    fin_cases r
    all_goals (pointwise; try first | rfl | exact congrArg _ (col0_ext rfl rfl))
  exact h (hd q)

/-- Group 3's rows of a chunk's transposed table. -/
def rr3 (v : FVec Ideal S128x256 .f32) : Fin 4 → FVec Ideal S1x256 .f32 := ![extractStridedSlice S1x256 ![12, 0] v slices_S128x256_o12_0_S1x256, extractStridedSlice S1x256 ![13, 0] v slices_S128x256_o13_0_S1x256, extractStridedSlice S1x256 ![14, 0] v slices_S128x256_o14_0_S1x256, extractStridedSlice S1x256 ![15, 0] v slices_S128x256_o15_0_S1x256]

/-- Group 3's rows at an entry. -/
theorem rr3_at (v : FVec Ideal S128x256 .f32) (q s : Fin 256) : rr3 v (hd q) (ix2 0 s) = v (ix2 (hp (hcol 3 q)) s) := by
  have h : ∀ r : Fin 4, rr3 v r (ix2 0 s) = v (ix2 ⟨4 * 3 + r.val, by omega⟩ s) := fun r => by
    unfold rr3
    fin_cases r
    all_goals (pointwise; try first | rfl | exact congrArg _ (col0_ext rfl rfl))
  exact h (hd q)

/-- Group 3's decays at an entry. -/
theorem gE3_at (cs : FVec Ideal S256x128 .f32) (l q : Fin 256) : gE3 cs (ix2 l q) = Ideal.exp (cs (ix2 l (hp (hcol 3 q)))) := by
  rw [← ecs_at, ← cc3_at (k0_pay38 cs)]
  exact grpE_at (cc3 (k0_pay38 cs)) l q

/-- Group 3's output before the gate. -/
theorem gP3_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 3 q))) (hb : ∀ s n, b (ix2 s n) = act (ix2 s (bcol 3 n))) (hc : ∀ s n, c (ix2 s n) = act (ix2 s (ccol 3 n)))
    (hs : ∀ n q, s1 (ix3 0 n q) = st (ix3 3 n q)) (hd1 : ∀ q, d1 (ix2 0 q) = dx (ix2 0 (icol 3 q))) (l q : Fin 256) :
    grpPre (gY3 dt cs xs b c) (gE3 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 3 l q := by
  have hY : gY3 dt cs xs b c (ix2 l q) = _ := grpY_at (k0_pay43 b c) xs (cc3 cs) (rr3 (k0_pay35 cs)) (rr3 (k0_pay36 dt)) l q
  rw [grpPre_at, hY, gE3_at]
  unfold preC
  simp only [cc3_at, rr3_at, cst_at, dtt_at, cb43_at, cm_at, hx, hb, hc, hs, hd1]

/-- Group 3's gated output at an entry. -/
theorem gO3_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 3 q))) (hb : ∀ s n, b (ix2 s n) = act (ix2 s (bcol 3 n))) (hc : ∀ s n, c (ix2 s n) = act (ix2 s (ccol 3 n)))
    (hs : ∀ n q, s1 (ix3 0 n q) = st (ix3 3 n q)) (hd1 : ∀ q, d1 (ix2 0 q) = dx (ix2 0 (icol 3 q)))
    (hwz : ∀ k q, wz1 (ix2 k q) = wz (ix2 k (icol 3 q))) (hnw : ∀ q, nw1 (ix2 0 q) = nw (ix2 0 (icol 3 q))) (l q : Fin 256) :
    gO3 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 3 l q)
          (fun q => ∑ k : Fin 1024, xb (ix2 l k) * wz (ix2 k (icol 3 q))) (fun q => nw (ix2 0 (icol 3 q))) q := by
  unfold gO3
  rw [grpNorm_at]
  simp only [gP3_at dt cs act st dx xs b c s1 d1 hx hb hc hs hd1, hwz, hnw]

/-- Group 3's state after the chunk at an entry. -/
theorem gT3_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 3 q))) (hb : ∀ s n, b (ix2 s n) = act (ix2 s (bcol 3 n)))
    (hs : ∀ n q, s1 (ix3 0 n q) = st (ix3 3 n q)) (n : Fin 128) (q : Fin 256) :
    gT3 dt cs xs b s1 (ix3 0 n q)
      = stC (fun l h => dt (ix2 l (hp h))) (fun l h => cs (ix2 l (hp h))) (fun l j => act (ix2 l j)) (fun g n q => st (ix3 g n q)) 3 n q := by
  have hS : gS3 dt cs xs b (ix2 n q) = _ := grpS_at (k0_pay41 b) xs (rr3 (k0_pay37 dt cs)) n q
  unfold gT3
  rw [grpState_at, hS, gE3_at]
  unfold stC
  simp only [rr3_at, wgt_at, bt_at, hx, hb, hs]

/-- Group 4's columns of a chunk's table. -/
def cc4 (v : FVec Ideal S256x128 .f32) : Fin 4 → FVec Ideal S256x1 .f32 := ![extractStridedSlice S256x1 ![0, 16] v slices_S256x128_o0_16_S256x1, extractStridedSlice S256x1 ![0, 17] v slices_S256x128_o0_17_S256x1, extractStridedSlice S256x1 ![0, 18] v slices_S256x128_o0_18_S256x1, extractStridedSlice S256x1 ![0, 19] v slices_S256x128_o0_19_S256x1]

/-- Group 4's columns at an entry. -/
theorem cc4_at (v : FVec Ideal S256x128 .f32) (q l : Fin 256) : cc4 v (hd q) (ix2 l 0) = v (ix2 l (hp (hcol 4 q))) := by
  have h : ∀ r : Fin 4, cc4 v r (ix2 l 0) = v (ix2 l ⟨4 * 4 + r.val, by omega⟩) := fun r => by
    unfold cc4
    fin_cases r
    all_goals (pointwise; try first | rfl | exact congrArg _ (col0_ext rfl rfl))
  exact h (hd q)

/-- Group 4's rows of a chunk's transposed table. -/
def rr4 (v : FVec Ideal S128x256 .f32) : Fin 4 → FVec Ideal S1x256 .f32 := ![extractStridedSlice S1x256 ![16, 0] v slices_S128x256_o16_0_S1x256, extractStridedSlice S1x256 ![17, 0] v slices_S128x256_o17_0_S1x256, extractStridedSlice S1x256 ![18, 0] v slices_S128x256_o18_0_S1x256, extractStridedSlice S1x256 ![19, 0] v slices_S128x256_o19_0_S1x256]

/-- Group 4's rows at an entry. -/
theorem rr4_at (v : FVec Ideal S128x256 .f32) (q s : Fin 256) : rr4 v (hd q) (ix2 0 s) = v (ix2 (hp (hcol 4 q)) s) := by
  have h : ∀ r : Fin 4, rr4 v r (ix2 0 s) = v (ix2 ⟨4 * 4 + r.val, by omega⟩ s) := fun r => by
    unfold rr4
    fin_cases r
    all_goals (pointwise; try first | rfl | exact congrArg _ (col0_ext rfl rfl))
  exact h (hd q)

/-- Group 4's decays at an entry. -/
theorem gE4_at (cs : FVec Ideal S256x128 .f32) (l q : Fin 256) : gE4 cs (ix2 l q) = Ideal.exp (cs (ix2 l (hp (hcol 4 q)))) := by
  rw [← ecs_at, ← cc4_at (k0_pay38 cs)]
  exact grpE_at (cc4 (k0_pay38 cs)) l q

/-- Group 4's output before the gate. -/
theorem gP4_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 4 q))) (hb : ∀ s n, b (ix2 s n) = act (ix2 s (bcol 4 n))) (hc : ∀ s n, c (ix2 s n) = act (ix2 s (ccol 4 n)))
    (hs : ∀ n q, s1 (ix3 0 n q) = st (ix3 4 n q)) (hd1 : ∀ q, d1 (ix2 0 q) = dx (ix2 0 (icol 4 q))) (l q : Fin 256) :
    grpPre (gY4 dt cs xs b c) (gE4 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 4 l q := by
  have hY : gY4 dt cs xs b c (ix2 l q) = _ := grpY_at (k0_pay43 b c) xs (cc4 cs) (rr4 (k0_pay35 cs)) (rr4 (k0_pay36 dt)) l q
  rw [grpPre_at, hY, gE4_at]
  unfold preC
  simp only [cc4_at, rr4_at, cst_at, dtt_at, cb43_at, cm_at, hx, hb, hc, hs, hd1]

/-- Group 4's gated output at an entry. -/
theorem gO4_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 4 q))) (hb : ∀ s n, b (ix2 s n) = act (ix2 s (bcol 4 n))) (hc : ∀ s n, c (ix2 s n) = act (ix2 s (ccol 4 n)))
    (hs : ∀ n q, s1 (ix3 0 n q) = st (ix3 4 n q)) (hd1 : ∀ q, d1 (ix2 0 q) = dx (ix2 0 (icol 4 q)))
    (hwz : ∀ k q, wz1 (ix2 k q) = wz (ix2 k (icol 4 q))) (hnw : ∀ q, nw1 (ix2 0 q) = nw (ix2 0 (icol 4 q))) (l q : Fin 256) :
    gO4 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 4 l q)
          (fun q => ∑ k : Fin 1024, xb (ix2 l k) * wz (ix2 k (icol 4 q))) (fun q => nw (ix2 0 (icol 4 q))) q := by
  unfold gO4
  rw [grpNorm_at]
  simp only [gP4_at dt cs act st dx xs b c s1 d1 hx hb hc hs hd1, hwz, hnw]

/-- Group 4's state after the chunk at an entry. -/
theorem gT4_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 4 q))) (hb : ∀ s n, b (ix2 s n) = act (ix2 s (bcol 4 n)))
    (hs : ∀ n q, s1 (ix3 0 n q) = st (ix3 4 n q)) (n : Fin 128) (q : Fin 256) :
    gT4 dt cs xs b s1 (ix3 0 n q)
      = stC (fun l h => dt (ix2 l (hp h))) (fun l h => cs (ix2 l (hp h))) (fun l j => act (ix2 l j)) (fun g n q => st (ix3 g n q)) 4 n q := by
  have hS : gS4 dt cs xs b (ix2 n q) = _ := grpS_at (k0_pay41 b) xs (rr4 (k0_pay37 dt cs)) n q
  unfold gT4
  rw [grpState_at, hS, gE4_at]
  unfold stC
  simp only [rr4_at, wgt_at, bt_at, hx, hb, hs]

/-- Group 5's columns of a chunk's table. -/
def cc5 (v : FVec Ideal S256x128 .f32) : Fin 4 → FVec Ideal S256x1 .f32 := ![extractStridedSlice S256x1 ![0, 20] v slices_S256x128_o0_20_S256x1, extractStridedSlice S256x1 ![0, 21] v slices_S256x128_o0_21_S256x1, extractStridedSlice S256x1 ![0, 22] v slices_S256x128_o0_22_S256x1, extractStridedSlice S256x1 ![0, 23] v slices_S256x128_o0_23_S256x1]

/-- Group 5's columns at an entry. -/
theorem cc5_at (v : FVec Ideal S256x128 .f32) (q l : Fin 256) : cc5 v (hd q) (ix2 l 0) = v (ix2 l (hp (hcol 5 q))) := by
  have h : ∀ r : Fin 4, cc5 v r (ix2 l 0) = v (ix2 l ⟨4 * 5 + r.val, by omega⟩) := fun r => by
    unfold cc5
    fin_cases r
    all_goals (pointwise; try first | rfl | exact congrArg _ (col0_ext rfl rfl))
  exact h (hd q)

/-- Group 5's rows of a chunk's transposed table. -/
def rr5 (v : FVec Ideal S128x256 .f32) : Fin 4 → FVec Ideal S1x256 .f32 := ![extractStridedSlice S1x256 ![20, 0] v slices_S128x256_o20_0_S1x256, extractStridedSlice S1x256 ![21, 0] v slices_S128x256_o21_0_S1x256, extractStridedSlice S1x256 ![22, 0] v slices_S128x256_o22_0_S1x256, extractStridedSlice S1x256 ![23, 0] v slices_S128x256_o23_0_S1x256]

/-- Group 5's rows at an entry. -/
theorem rr5_at (v : FVec Ideal S128x256 .f32) (q s : Fin 256) : rr5 v (hd q) (ix2 0 s) = v (ix2 (hp (hcol 5 q)) s) := by
  have h : ∀ r : Fin 4, rr5 v r (ix2 0 s) = v (ix2 ⟨4 * 5 + r.val, by omega⟩ s) := fun r => by
    unfold rr5
    fin_cases r
    all_goals (pointwise; try first | rfl | exact congrArg _ (col0_ext rfl rfl))
  exact h (hd q)

/-- Group 5's decays at an entry. -/
theorem gE5_at (cs : FVec Ideal S256x128 .f32) (l q : Fin 256) : gE5 cs (ix2 l q) = Ideal.exp (cs (ix2 l (hp (hcol 5 q)))) := by
  rw [← ecs_at, ← cc5_at (k0_pay38 cs)]
  exact grpE_at (cc5 (k0_pay38 cs)) l q

/-- Group 5's output before the gate. -/
theorem gP5_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 5 q))) (hb : ∀ s n, b (ix2 s n) = act (ix2 s (bcol 5 n))) (hc : ∀ s n, c (ix2 s n) = act (ix2 s (ccol 5 n)))
    (hs : ∀ n q, s1 (ix3 0 n q) = st (ix3 5 n q)) (hd1 : ∀ q, d1 (ix2 0 q) = dx (ix2 0 (icol 5 q))) (l q : Fin 256) :
    grpPre (gY5 dt cs xs b c) (gE5 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 5 l q := by
  have hY : gY5 dt cs xs b c (ix2 l q) = _ := grpY_at (k0_pay43 b c) xs (cc5 cs) (rr5 (k0_pay35 cs)) (rr5 (k0_pay36 dt)) l q
  rw [grpPre_at, hY, gE5_at]
  unfold preC
  simp only [cc5_at, rr5_at, cst_at, dtt_at, cb43_at, cm_at, hx, hb, hc, hs, hd1]

/-- Group 5's gated output at an entry. -/
theorem gO5_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 5 q))) (hb : ∀ s n, b (ix2 s n) = act (ix2 s (bcol 5 n))) (hc : ∀ s n, c (ix2 s n) = act (ix2 s (ccol 5 n)))
    (hs : ∀ n q, s1 (ix3 0 n q) = st (ix3 5 n q)) (hd1 : ∀ q, d1 (ix2 0 q) = dx (ix2 0 (icol 5 q)))
    (hwz : ∀ k q, wz1 (ix2 k q) = wz (ix2 k (icol 5 q))) (hnw : ∀ q, nw1 (ix2 0 q) = nw (ix2 0 (icol 5 q))) (l q : Fin 256) :
    gO5 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 5 l q)
          (fun q => ∑ k : Fin 1024, xb (ix2 l k) * wz (ix2 k (icol 5 q))) (fun q => nw (ix2 0 (icol 5 q))) q := by
  unfold gO5
  rw [grpNorm_at]
  simp only [gP5_at dt cs act st dx xs b c s1 d1 hx hb hc hs hd1, hwz, hnw]

/-- Group 5's state after the chunk at an entry. -/
theorem gT5_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 5 q))) (hb : ∀ s n, b (ix2 s n) = act (ix2 s (bcol 5 n)))
    (hs : ∀ n q, s1 (ix3 0 n q) = st (ix3 5 n q)) (n : Fin 128) (q : Fin 256) :
    gT5 dt cs xs b s1 (ix3 0 n q)
      = stC (fun l h => dt (ix2 l (hp h))) (fun l h => cs (ix2 l (hp h))) (fun l j => act (ix2 l j)) (fun g n q => st (ix3 g n q)) 5 n q := by
  have hS : gS5 dt cs xs b (ix2 n q) = _ := grpS_at (k0_pay41 b) xs (rr5 (k0_pay37 dt cs)) n q
  unfold gT5
  rw [grpState_at, hS, gE5_at]
  unfold stC
  simp only [rr5_at, wgt_at, bt_at, hx, hb, hs]

/-- Group 6's columns of a chunk's table. -/
def cc6 (v : FVec Ideal S256x128 .f32) : Fin 4 → FVec Ideal S256x1 .f32 := ![extractStridedSlice S256x1 ![0, 24] v slices_S256x128_o0_24_S256x1, extractStridedSlice S256x1 ![0, 25] v slices_S256x128_o0_25_S256x1, extractStridedSlice S256x1 ![0, 26] v slices_S256x128_o0_26_S256x1, extractStridedSlice S256x1 ![0, 27] v slices_S256x128_o0_27_S256x1]

/-- Group 6's columns at an entry. -/
theorem cc6_at (v : FVec Ideal S256x128 .f32) (q l : Fin 256) : cc6 v (hd q) (ix2 l 0) = v (ix2 l (hp (hcol 6 q))) := by
  have h : ∀ r : Fin 4, cc6 v r (ix2 l 0) = v (ix2 l ⟨4 * 6 + r.val, by omega⟩) := fun r => by
    unfold cc6
    fin_cases r
    all_goals (pointwise; try first | rfl | exact congrArg _ (col0_ext rfl rfl))
  exact h (hd q)

/-- Group 6's rows of a chunk's transposed table. -/
def rr6 (v : FVec Ideal S128x256 .f32) : Fin 4 → FVec Ideal S1x256 .f32 := ![extractStridedSlice S1x256 ![24, 0] v slices_S128x256_o24_0_S1x256, extractStridedSlice S1x256 ![25, 0] v slices_S128x256_o25_0_S1x256, extractStridedSlice S1x256 ![26, 0] v slices_S128x256_o26_0_S1x256, extractStridedSlice S1x256 ![27, 0] v slices_S128x256_o27_0_S1x256]

/-- Group 6's rows at an entry. -/
theorem rr6_at (v : FVec Ideal S128x256 .f32) (q s : Fin 256) : rr6 v (hd q) (ix2 0 s) = v (ix2 (hp (hcol 6 q)) s) := by
  have h : ∀ r : Fin 4, rr6 v r (ix2 0 s) = v (ix2 ⟨4 * 6 + r.val, by omega⟩ s) := fun r => by
    unfold rr6
    fin_cases r
    all_goals (pointwise; try first | rfl | exact congrArg _ (col0_ext rfl rfl))
  exact h (hd q)

/-- Group 6's decays at an entry. -/
theorem gE6_at (cs : FVec Ideal S256x128 .f32) (l q : Fin 256) : gE6 cs (ix2 l q) = Ideal.exp (cs (ix2 l (hp (hcol 6 q)))) := by
  rw [← ecs_at, ← cc6_at (k0_pay38 cs)]
  exact grpE_at (cc6 (k0_pay38 cs)) l q

/-- Group 6's output before the gate. -/
theorem gP6_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 6 q))) (hb : ∀ s n, b (ix2 s n) = act (ix2 s (bcol 6 n))) (hc : ∀ s n, c (ix2 s n) = act (ix2 s (ccol 6 n)))
    (hs : ∀ n q, s1 (ix3 0 n q) = st (ix3 6 n q)) (hd1 : ∀ q, d1 (ix2 0 q) = dx (ix2 0 (icol 6 q))) (l q : Fin 256) :
    grpPre (gY6 dt cs xs b c) (gE6 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 6 l q := by
  have hY : gY6 dt cs xs b c (ix2 l q) = _ := grpY_at (k0_pay43 b c) xs (cc6 cs) (rr6 (k0_pay35 cs)) (rr6 (k0_pay36 dt)) l q
  rw [grpPre_at, hY, gE6_at]
  unfold preC
  simp only [cc6_at, rr6_at, cst_at, dtt_at, cb43_at, cm_at, hx, hb, hc, hs, hd1]

/-- Group 6's gated output at an entry. -/
theorem gO6_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 6 q))) (hb : ∀ s n, b (ix2 s n) = act (ix2 s (bcol 6 n))) (hc : ∀ s n, c (ix2 s n) = act (ix2 s (ccol 6 n)))
    (hs : ∀ n q, s1 (ix3 0 n q) = st (ix3 6 n q)) (hd1 : ∀ q, d1 (ix2 0 q) = dx (ix2 0 (icol 6 q)))
    (hwz : ∀ k q, wz1 (ix2 k q) = wz (ix2 k (icol 6 q))) (hnw : ∀ q, nw1 (ix2 0 q) = nw (ix2 0 (icol 6 q))) (l q : Fin 256) :
    gO6 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 6 l q)
          (fun q => ∑ k : Fin 1024, xb (ix2 l k) * wz (ix2 k (icol 6 q))) (fun q => nw (ix2 0 (icol 6 q))) q := by
  unfold gO6
  rw [grpNorm_at]
  simp only [gP6_at dt cs act st dx xs b c s1 d1 hx hb hc hs hd1, hwz, hnw]

/-- Group 6's state after the chunk at an entry. -/
theorem gT6_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 6 q))) (hb : ∀ s n, b (ix2 s n) = act (ix2 s (bcol 6 n)))
    (hs : ∀ n q, s1 (ix3 0 n q) = st (ix3 6 n q)) (n : Fin 128) (q : Fin 256) :
    gT6 dt cs xs b s1 (ix3 0 n q)
      = stC (fun l h => dt (ix2 l (hp h))) (fun l h => cs (ix2 l (hp h))) (fun l j => act (ix2 l j)) (fun g n q => st (ix3 g n q)) 6 n q := by
  have hS : gS6 dt cs xs b (ix2 n q) = _ := grpS_at (k0_pay41 b) xs (rr6 (k0_pay37 dt cs)) n q
  unfold gT6
  rw [grpState_at, hS, gE6_at]
  unfold stC
  simp only [rr6_at, wgt_at, bt_at, hx, hb, hs]

/-- Group 7's columns of a chunk's table. -/
def cc7 (v : FVec Ideal S256x128 .f32) : Fin 4 → FVec Ideal S256x1 .f32 := ![extractStridedSlice S256x1 ![0, 28] v slices_S256x128_o0_28_S256x1, extractStridedSlice S256x1 ![0, 29] v slices_S256x128_o0_29_S256x1, extractStridedSlice S256x1 ![0, 30] v slices_S256x128_o0_30_S256x1, extractStridedSlice S256x1 ![0, 31] v slices_S256x128_o0_31_S256x1]

/-- Group 7's columns at an entry. -/
theorem cc7_at (v : FVec Ideal S256x128 .f32) (q l : Fin 256) : cc7 v (hd q) (ix2 l 0) = v (ix2 l (hp (hcol 7 q))) := by
  have h : ∀ r : Fin 4, cc7 v r (ix2 l 0) = v (ix2 l ⟨4 * 7 + r.val, by omega⟩) := fun r => by
    unfold cc7
    fin_cases r
    all_goals (pointwise; try first | rfl | exact congrArg _ (col0_ext rfl rfl))
  exact h (hd q)

/-- Group 7's rows of a chunk's transposed table. -/
def rr7 (v : FVec Ideal S128x256 .f32) : Fin 4 → FVec Ideal S1x256 .f32 := ![extractStridedSlice S1x256 ![28, 0] v slices_S128x256_o28_0_S1x256, extractStridedSlice S1x256 ![29, 0] v slices_S128x256_o29_0_S1x256, extractStridedSlice S1x256 ![30, 0] v slices_S128x256_o30_0_S1x256, extractStridedSlice S1x256 ![31, 0] v slices_S128x256_o31_0_S1x256]

/-- Group 7's rows at an entry. -/
theorem rr7_at (v : FVec Ideal S128x256 .f32) (q s : Fin 256) : rr7 v (hd q) (ix2 0 s) = v (ix2 (hp (hcol 7 q)) s) := by
  have h : ∀ r : Fin 4, rr7 v r (ix2 0 s) = v (ix2 ⟨4 * 7 + r.val, by omega⟩ s) := fun r => by
    unfold rr7
    fin_cases r
    all_goals (pointwise; try first | rfl | exact congrArg _ (col0_ext rfl rfl))
  exact h (hd q)

/-- Group 7's decays at an entry. -/
theorem gE7_at (cs : FVec Ideal S256x128 .f32) (l q : Fin 256) : gE7 cs (ix2 l q) = Ideal.exp (cs (ix2 l (hp (hcol 7 q)))) := by
  rw [← ecs_at, ← cc7_at (k0_pay38 cs)]
  exact grpE_at (cc7 (k0_pay38 cs)) l q

/-- Group 7's output before the gate. -/
theorem gP7_at (dt cs : FVec Ideal S256x128 .f32) (act : Vec Ideal S256x4096 .f32) (st : Vec Ideal S8x128x256 .f32) (dx : Vec Ideal S1x2048 .f32)
    (xs : Vec Ideal S256x256 .f32) (b c : Vec Ideal S256x128 .f32) (s1 : Vec Ideal S1x128x256 .f32) (d1 : Vec Ideal S1x256 .f32)
    (hx : ∀ s q, xs (ix2 s q) = act (ix2 s (xcol 7 q))) (hb : ∀ s n, b (ix2 s n) = act (ix2 s (bcol 7 n))) (hc : ∀ s n, c (ix2 s n) = act (ix2 s (ccol 7 n)))
    (hs : ∀ n q, s1 (ix3 0 n q) = st (ix3 7 n q)) (hd1 : ∀ q, d1 (ix2 0 q) = dx (ix2 0 (icol 7 q))) (l q : Fin 256) :
    grpPre (gY7 dt cs xs b c) (gE7 cs) (k0_pay42 c) s1 d1 xs (ix2 l q)
      = preC (fun l h => dt (ix2 l (hp h))) (fun l h => cs (ix2 l (hp h))) (fun l j => act (ix2 l j)) (fun g n q => st (ix3 g n q)) (fun j => dx (ix2 0 j)) 7 l q := by
  have hY : gY7 dt cs xs b c (ix2 l q) = _ := grpY_at (k0_pay43 b c) xs (cc7 cs) (rr7 (k0_pay35 cs)) (rr7 (k0_pay36 dt)) l q
  rw [grpPre_at, hY, gE7_at]
  unfold preC
  simp only [cc7_at, rr7_at, cst_at, dtt_at, cb43_at, cm_at, hx, hb, hc, hs, hd1]

/-- Group 7's gated output at an entry. -/
theorem gO7_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (xs : Vec Ideal S256x256 .f32) (b c : Vec Ideal S256x128 .f32) (s1 : Vec Ideal S1x128x256 .f32) (d1 : Vec Ideal S1x256 .f32)
    (wz1 : Vec Ideal S1024x256 .bf16) (nw1 : Vec Ideal S1x256 .f32)
    (hx : ∀ s q, xs (ix2 s q) = act (ix2 s (xcol 7 q))) (hb : ∀ s n, b (ix2 s n) = act (ix2 s (bcol 7 n))) (hc : ∀ s n, c (ix2 s n) = act (ix2 s (ccol 7 n)))
    (hs : ∀ n q, s1 (ix3 0 n q) = st (ix3 7 n q)) (hd1 : ∀ q, d1 (ix2 0 q) = dx (ix2 0 (icol 7 q)))
    (hwz : ∀ k q, wz1 (ix2 k q) = wz (ix2 k (icol 7 q))) (hnw : ∀ q, nw1 (ix2 0 q) = nw (ix2 0 (icol 7 q))) (l q : Fin 256) :
    gO7 xb dt cs xs b c s1 d1 wz1 nw1 (ix2 l q)
      = normRow (fun q => preC (fun l h => dt (ix2 l (hp h))) (fun l h => cs (ix2 l (hp h))) (fun l j => act (ix2 l j)) (fun g n q => st (ix3 g n q)) (fun j => dx (ix2 0 j)) 7 l q)
          (fun q => ∑ k : Fin 1024, xb (ix2 l k) * wz (ix2 k (icol 7 q))) (fun q => nw (ix2 0 (icol 7 q))) q := by
  unfold gO7
  rw [grpNorm_at]
  simp only [gP7_at dt cs act st dx xs b c s1 d1 hx hb hc hs hd1, hwz, hnw]

/-- Group 7's state after the chunk at an entry. -/
theorem gT7_at (dt cs : FVec Ideal S256x128 .f32) (act : Vec Ideal S256x4096 .f32) (st : Vec Ideal S8x128x256 .f32)
    (xs : Vec Ideal S256x256 .f32) (b : Vec Ideal S256x128 .f32) (s1 : Vec Ideal S1x128x256 .f32)
    (hx : ∀ s q, xs (ix2 s q) = act (ix2 s (xcol 7 q))) (hb : ∀ s n, b (ix2 s n) = act (ix2 s (bcol 7 n)))
    (hs : ∀ n q, s1 (ix3 0 n q) = st (ix3 7 n q)) (n : Fin 128) (q : Fin 256) :
    gT7 dt cs xs b s1 (ix3 0 n q)
      = stC (fun l h => dt (ix2 l (hp h))) (fun l h => cs (ix2 l (hp h))) (fun l j => act (ix2 l j)) (fun g n q => st (ix3 g n q)) 7 n q := by
  have hS : gS7 dt cs xs b (ix2 n q) = _ := grpS_at (k0_pay41 b) xs (rr7 (k0_pay37 dt cs)) n q
  unfold gT7
  rw [grpState_at, hS, gE7_at]
  unfold stC
  simp only [rr7_at, wgt_at, bt_at, hx, hb, hs]

/-- The groups' outputs at an entry. -/
theorem yn_at (xb : Vec Ideal S256x1024 .bf16) (dt cs : FVec Ideal S256x128 .f32) (act : Vec Ideal S256x4096 .f32) (st : Vec Ideal S8x128x256 .f32) (dx nw : Vec Ideal S1x2048 .f32)
    (wz : Vec Ideal S1024x2048 .bf16) (l : Fin 256) (j : Fin 2048) :
    View.canon (ynP xb dt cs act st dx nw wz) (ix2 l j)
      = normRow (fun q => preC (fun l h => dt (ix2 l (hp h))) (fun l h => cs (ix2 l (hp h))) (fun l j => act (ix2 l j)) (fun g n q => st (ix3 g n q)) (fun j => dx (ix2 0 j)) ⟨j.val / 256, by omega⟩ l q)
          (fun q => ∑ k : Fin 1024, xb (ix2 l k) * wz (ix2 k (icol ⟨j.val / 256, by omega⟩ q))) (fun q => nw (ix2 0 (icol ⟨j.val / 256, by omega⟩ q))) ⟨j.val % 256, by omega⟩ := by
  unfold ynP
  canon_tiles x h
  case piece0 =>
    idx_vars x
    change l.val = x0.val at h0
    change j.val = 1792 + x1.val at h1
    obtain rfl : l = x0 := Fin.ext h0
    obtain rfl : j = ⟨1792 + x1.val, by clear h1; omega⟩ := Fin.ext h1
    refine (gO7_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(1792 + x1.val) / 256, by omega⟩ : Fin 8) = 7 := Fin.ext (by show (1792 + x1.val) / 256 = 7; omega)
      have em : (⟨(1792 + x1.val) % 256, by omega⟩ : Fin 256) = x1 := Fin.ext (by show (1792 + x1.val) % 256 = x1.val; omega)
      simp only [eg, em]
    all_goals (pointwise; try first | rfl | exact congrArg _ (col0_ext rfl rfl))
  case piece1 =>
    idx_vars x
    change l.val = x0.val at h0
    change j.val = 1536 + x1.val at h1
    obtain rfl : l = x0 := Fin.ext h0
    obtain rfl : j = ⟨1536 + x1.val, by clear h1; omega⟩ := Fin.ext h1
    refine (gO6_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(1536 + x1.val) / 256, by omega⟩ : Fin 8) = 6 := Fin.ext (by show (1536 + x1.val) / 256 = 6; omega)
      have em : (⟨(1536 + x1.val) % 256, by omega⟩ : Fin 256) = x1 := Fin.ext (by show (1536 + x1.val) % 256 = x1.val; omega)
      simp only [eg, em]
    all_goals (pointwise; try first | rfl | exact congrArg _ (col0_ext rfl rfl))
  case piece2 =>
    idx_vars x
    change l.val = x0.val at h0
    change j.val = 1280 + x1.val at h1
    obtain rfl : l = x0 := Fin.ext h0
    obtain rfl : j = ⟨1280 + x1.val, by clear h1; omega⟩ := Fin.ext h1
    refine (gO5_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(1280 + x1.val) / 256, by omega⟩ : Fin 8) = 5 := Fin.ext (by show (1280 + x1.val) / 256 = 5; omega)
      have em : (⟨(1280 + x1.val) % 256, by omega⟩ : Fin 256) = x1 := Fin.ext (by show (1280 + x1.val) % 256 = x1.val; omega)
      simp only [eg, em]
    all_goals (pointwise; try first | rfl | exact congrArg _ (col0_ext rfl rfl))
  case piece3 =>
    idx_vars x
    change l.val = x0.val at h0
    change j.val = 1024 + x1.val at h1
    obtain rfl : l = x0 := Fin.ext h0
    obtain rfl : j = ⟨1024 + x1.val, by clear h1; omega⟩ := Fin.ext h1
    refine (gO4_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(1024 + x1.val) / 256, by omega⟩ : Fin 8) = 4 := Fin.ext (by show (1024 + x1.val) / 256 = 4; omega)
      have em : (⟨(1024 + x1.val) % 256, by omega⟩ : Fin 256) = x1 := Fin.ext (by show (1024 + x1.val) % 256 = x1.val; omega)
      simp only [eg, em]
    all_goals (pointwise; try first | rfl | exact congrArg _ (col0_ext rfl rfl))
  case piece4 =>
    idx_vars x
    change l.val = x0.val at h0
    change j.val = 768 + x1.val at h1
    obtain rfl : l = x0 := Fin.ext h0
    obtain rfl : j = ⟨768 + x1.val, by clear h1; omega⟩ := Fin.ext h1
    refine (gO3_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(768 + x1.val) / 256, by omega⟩ : Fin 8) = 3 := Fin.ext (by show (768 + x1.val) / 256 = 3; omega)
      have em : (⟨(768 + x1.val) % 256, by omega⟩ : Fin 256) = x1 := Fin.ext (by show (768 + x1.val) % 256 = x1.val; omega)
      simp only [eg, em]
    all_goals (pointwise; try first | rfl | exact congrArg _ (col0_ext rfl rfl))
  case piece5 =>
    idx_vars x
    change l.val = x0.val at h0
    change j.val = 512 + x1.val at h1
    obtain rfl : l = x0 := Fin.ext h0
    obtain rfl : j = ⟨512 + x1.val, by clear h1; omega⟩ := Fin.ext h1
    refine (gO2_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(512 + x1.val) / 256, by omega⟩ : Fin 8) = 2 := Fin.ext (by show (512 + x1.val) / 256 = 2; omega)
      have em : (⟨(512 + x1.val) % 256, by omega⟩ : Fin 256) = x1 := Fin.ext (by show (512 + x1.val) % 256 = x1.val; omega)
      simp only [eg, em]
    all_goals (pointwise; try first | rfl | exact congrArg _ (col0_ext rfl rfl))
  case piece6 =>
    idx_vars x
    change l.val = x0.val at h0
    change j.val = 256 + x1.val at h1
    obtain rfl : l = x0 := Fin.ext h0
    obtain rfl : j = ⟨256 + x1.val, by clear h1; omega⟩ := Fin.ext h1
    refine (gO1_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(256 + x1.val) / 256, by omega⟩ : Fin 8) = 1 := Fin.ext (by show (256 + x1.val) / 256 = 1; omega)
      have em : (⟨(256 + x1.val) % 256, by omega⟩ : Fin 256) = x1 := Fin.ext (by show (256 + x1.val) % 256 = x1.val; omega)
      simp only [eg, em]
    all_goals (pointwise; try first | rfl | exact congrArg _ (col0_ext rfl rfl))
  case piece7 =>
    idx_vars x
    change l.val = x0.val at h0
    change j.val = x1.val at h1
    obtain rfl : l = x0 := Fin.ext h0
    obtain rfl : j = ⟨x1.val, by clear h1; omega⟩ := Fin.ext h1
    refine (gO0_at xb dt cs act st dx nw wz _ _ _ _ _ _ _ (fun s q => ?_) (fun s q => ?_) (fun s q => ?_) (fun s q => ?_) (fun q => ?_) (fun s q => ?_) (fun q => ?_) l x1).trans ?_
    rotate_right
    · have eg : (⟨(x1.val) / 256, by omega⟩ : Fin 8) = 0 := Fin.ext (by show (x1.val) / 256 = 0; omega)
      have em : (⟨(x1.val) % 256, by omega⟩ : Fin 256) = x1 := Fin.ext (by show (x1.val) % 256 = x1.val; omega)
      simp only [eg, em]
    all_goals (pointwise; try first | rfl | exact congrArg _ (col0_ext rfl rfl))

/-- The groups' states at an entry. -/
theorem stV_at (dt cs : FVec Ideal S256x128 .f32) (act : Vec Ideal S256x4096 .f32) (st : Vec Ideal S8x128x256 .f32)
    (a : Fin 8) (n : Fin 128) (q : Fin 256) :
    View.canon (stP dt cs act st) (ix3 a n q)
      = stC (fun l h => dt (ix2 l (hp h))) (fun l h => cs (ix2 l (hp h))) (fun l j => act (ix2 l j)) (fun g n q => st (ix3 g n q)) a n q := by
  unfold stP
  canon_tiles x h
  case piece0 =>
    idx_vars x
    change a.val = 7 + x0.val at h0
    change n.val = x1.val at h1
    change q.val = x2.val at h2
    obtain rfl : x0 = 0 := by omega
    obtain rfl : n = x1 := Fin.ext h1
    obtain rfl : q = x2 := Fin.ext h2
    obtain rfl : a = 7 := Fin.ext h0
    refine gT7_at dt cs act st _ _ _ (fun s q => ?_) (fun s q => ?_) (fun s q => ?_) n q
    all_goals (pointwise; try first | rfl | exact congrArg _ (col0_ext rfl rfl))
  case piece1 =>
    idx_vars x
    change a.val = 6 + x0.val at h0
    change n.val = x1.val at h1
    change q.val = x2.val at h2
    obtain rfl : x0 = 0 := by omega
    obtain rfl : n = x1 := Fin.ext h1
    obtain rfl : q = x2 := Fin.ext h2
    obtain rfl : a = 6 := Fin.ext h0
    refine gT6_at dt cs act st _ _ _ (fun s q => ?_) (fun s q => ?_) (fun s q => ?_) n q
    all_goals (pointwise; try first | rfl | exact congrArg _ (col0_ext rfl rfl))
  case piece2 =>
    idx_vars x
    change a.val = 5 + x0.val at h0
    change n.val = x1.val at h1
    change q.val = x2.val at h2
    obtain rfl : x0 = 0 := by omega
    obtain rfl : n = x1 := Fin.ext h1
    obtain rfl : q = x2 := Fin.ext h2
    obtain rfl : a = 5 := Fin.ext h0
    refine gT5_at dt cs act st _ _ _ (fun s q => ?_) (fun s q => ?_) (fun s q => ?_) n q
    all_goals (pointwise; try first | rfl | exact congrArg _ (col0_ext rfl rfl))
  case piece3 =>
    idx_vars x
    change a.val = 4 + x0.val at h0
    change n.val = x1.val at h1
    change q.val = x2.val at h2
    obtain rfl : x0 = 0 := by omega
    obtain rfl : n = x1 := Fin.ext h1
    obtain rfl : q = x2 := Fin.ext h2
    obtain rfl : a = 4 := Fin.ext h0
    refine gT4_at dt cs act st _ _ _ (fun s q => ?_) (fun s q => ?_) (fun s q => ?_) n q
    all_goals (pointwise; try first | rfl | exact congrArg _ (col0_ext rfl rfl))
  case piece4 =>
    idx_vars x
    change a.val = 3 + x0.val at h0
    change n.val = x1.val at h1
    change q.val = x2.val at h2
    obtain rfl : x0 = 0 := by omega
    obtain rfl : n = x1 := Fin.ext h1
    obtain rfl : q = x2 := Fin.ext h2
    obtain rfl : a = 3 := Fin.ext h0
    refine gT3_at dt cs act st _ _ _ (fun s q => ?_) (fun s q => ?_) (fun s q => ?_) n q
    all_goals (pointwise; try first | rfl | exact congrArg _ (col0_ext rfl rfl))
  case piece5 =>
    idx_vars x
    change a.val = 2 + x0.val at h0
    change n.val = x1.val at h1
    change q.val = x2.val at h2
    obtain rfl : x0 = 0 := by omega
    obtain rfl : n = x1 := Fin.ext h1
    obtain rfl : q = x2 := Fin.ext h2
    obtain rfl : a = 2 := Fin.ext h0
    refine gT2_at dt cs act st _ _ _ (fun s q => ?_) (fun s q => ?_) (fun s q => ?_) n q
    all_goals (pointwise; try first | rfl | exact congrArg _ (col0_ext rfl rfl))
  case piece6 =>
    idx_vars x
    change a.val = 1 + x0.val at h0
    change n.val = x1.val at h1
    change q.val = x2.val at h2
    obtain rfl : x0 = 0 := by omega
    obtain rfl : n = x1 := Fin.ext h1
    obtain rfl : q = x2 := Fin.ext h2
    obtain rfl : a = 1 := Fin.ext h0
    refine gT1_at dt cs act st _ _ _ (fun s q => ?_) (fun s q => ?_) (fun s q => ?_) n q
    all_goals (pointwise; try first | rfl | exact congrArg _ (col0_ext rfl rfl))
  case piece7 =>
    idx_vars x
    change a.val = x0.val at h0
    change n.val = x1.val at h1
    change q.val = x2.val at h2
    obtain rfl : x0 = 0 := by omega
    obtain rfl : n = x1 := Fin.ext h1
    obtain rfl : q = x2 := Fin.ext h2
    obtain rfl : a = 0 := Fin.ext h0
    refine gT0_at dt cs act st _ _ _ (fun s q => ?_) (fun s q => ?_) (fun s q => ?_) n q
    all_goals (pointwise; try first | rfl | exact congrArg _ (col0_ext rfl rfl))

end Cert.Mix
end
-- ==== Proof.MixStep.lean ====
/- One point of the mixing kernel: from the windows' contents and what the chunk before left, the chunk's output and what it leaves. -/
module

public import proofs.«01_k».proof.Proof.MixAt
public import proofs.«01_k».proof.Proof.MixGrpAt

@[expose] public section

set_option maxRecDepth 16384

noncomputable section

namespace Cert.Mix

open Idealize Idealize.ShloMosaic Idealize.ShloMosaic.TcCoe Idealize.ShloMosaic.Tactic
open Cert.KernelIdeal Cert.KernelIdeal.Gen

/-- What the windows of chunk `c` hold. -/
structure Win (p : Par) (X : ℕ → Fin 1024 → EReal) (c : ℕ) (x0 : Vec Ideal S1x256x1024 .f32) (x1 : Vec Ideal S1024x1024 .bf16)
    (x2 : Vec Ideal S1024x2048 .bf16) (x3 : Vec Ideal S1024x4096 .bf16) (x4 : Vec Ideal S1024x128 .bf16) (x5 : Vec Ideal S1024x2048 .bf16)
    (x6 : Vec Ideal S4x256x256 .bf16) (x7 : Vec Ideal S2048x1024 .bf16) (x8 : Vec Ideal S1024x1024 .bf16) (x9 : Vec Ideal S1x2048 .f32)
    (x10 : Vec Ideal S4x4096 .f32) (x11 : Vec Ideal S1x4096 .f32) (x12 x13 : Vec Ideal S1x128 .f32) (x14 x15 : Vec Ideal S1x2048 .f32)
    (x16 x17 x18 : Vec Ideal S1x1024 .f32) : Prop where
  /-- The tokens. -/
  x : ∀ (l : Fin 256) k, x0 (ix3 0 l k) = X (256 * c + l.val) k
  /-- The pooled branch's input columns. -/
  wpi : ∀ k (j : Fin 1024), x1 (ix2 k j) = p.wi k ⟨j.val, by omega⟩
  /-- The gate's input columns. -/
  wz : ∀ k (j : Fin 2048), x2 (ix2 k j) = p.wi k ⟨1024 + j.val, by omega⟩
  /-- The convolution's input columns. -/
  wxbc : ∀ k (j : Fin 4096), x3 (ix2 k j) = p.wi k ⟨3072 + j.val, by omega⟩
  /-- The steps' input columns. -/
  wdt : ∀ k (h : Fin 32), x4 (ix2 k (hp h)) = p.wi k ⟨7168 + h.val, by omega⟩
  /-- The merge gates' input columns. -/
  wg : ∀ k (j : Fin 2048), x5 (ix2 k j) = p.wi k ⟨7200 + j.val, by omega⟩
  /-- The pooled branch's projections. -/
  wpg : ∀ g k q, x6 (ix3 g k q) = p.wp g k q
  /-- The state branch's projection. -/
  wssd : ∀ i j, x7 (ix2 i j) = p.ws i j
  /-- The output projection. -/
  wout : ∀ i j, x8 (ix2 i j) = p.wo i j
  /-- The merge gates' offsets. -/
  bg : ∀ j, x9 (ix2 0 j) = p.bg j
  /-- The taps. -/
  cw : ∀ k j, x10 (ix2 k j) = p.cw k j
  /-- The convolution's offsets. -/
  cb : ∀ j, x11 (ix2 0 j) = p.cb j
  /-- The steps' offsets. -/
  dtb : ∀ h : Fin 32, x12 (ix2 0 (hp h)) = p.dtb h
  /-- The rates. -/
  al : ∀ h : Fin 32, x13 (ix2 0 (hp h)) = p.al h
  /-- The skips, repeated over a head's columns. -/
  dx : ∀ j : Fin 2048, x14 (ix2 0 j) = p.dk ⟨j.val / 64, by omega⟩
  /-- The inner gain. -/
  nw : ∀ j, x15 (ix2 0 j) = p.nw j
  /-- The pooled branch's scale. -/
  ps : ∀ j, x16 (ix2 0 j) = p.ps j
  /-- The gain. -/
  g : ∀ j, x17 (ix2 0 j) = p.g j
  /-- The offset. -/
  b : ∀ j, x18 (ix2 0 j) = p.b j

/-- What the chunks before `c` leave. -/
structure Carry (p : Par) (X : ℕ → Fin 1024 → EReal) (c : ℕ) (H1 : Vec Ideal S272x1024 .f32) (H2 : Vec Ideal S264x4096 .f32) (H6 : Vec Ideal S8x128x256 .f32) : Prop where
  /-- The pooled branch's last tokens. -/
  pb : ∀ (i : Fin 272) (j : Fin 1024), i.val < 16 → H1 (ix2 i j) = delay 16 (fun m => prU p X m j) (256 * c + i.val)
  /-- The convolution's last tokens. -/
  cb : ∀ (i : Fin 264) (j : Fin 4096), i.val < 8 → H2 (ix2 i j) = delay 8 (fun m => prC p X m j) (256 * c + i.val)
  /-- The state. -/
  st : ∀ g n q, H6 (ix3 g n q) = stS p X c g n q

/-- The point's result at an entry. -/
theorem outV_at (xb : Vec Ideal S256x1024 .bf16) (x : Vec Ideal S1x256x1024 .f32) (yn : Vec Ideal S256x2048 .bf16) (pool : Vec Ideal S256x1024 .f32)
    (wg : Vec Ideal S1024x2048 .bf16) (wssd : Vec Ideal S2048x1024 .bf16) (wout : Vec Ideal S1024x1024 .bf16) (bg : Vec Ideal S1x2048 .f32)
    (g1 b1 : Vec Ideal S1x1024 .f32) (l : Fin 256) (j : Fin 1024) :
    outV xb x yn pool wg wssd wout bg g1 b1 (ix3 0 l j)
      = outRow (fun k => x (ix3 0 l k)) (fun j => (∑ k : Fin 1024, xb (ix2 l k) * wg (ix2 k ⟨j.val, by omega⟩)) + bg (ix2 0 ⟨j.val, by omega⟩))
          (fun j => (∑ k : Fin 1024, xb (ix2 l k) * wg (ix2 k ⟨1024 + j.val, by omega⟩)) + bg (ix2 0 ⟨1024 + j.val, by omega⟩))
          (fun j => pool (ix2 l j)) (fun j => yn (ix2 l j)) (fun i j => wssd (ix2 i j)) (fun i j => wout (ix2 i j)) (fun j => g1 (ix2 0 j)) (fun j => b1 (ix2 0 j)) j := by
  unfold outRow lnRow mean Cert.Mix.sig
  pointwise [outV, k0_pay1, k0_pay244, k0_pay243, k0_pay242]

/-- Earlier pieces leave a covered entry alone. -/
theorem canon_app {S : Shape} {e : EltTy} : ∀ (A L : List (View.Piece (Elt Ideal) S e)) (y : S.Idx), (∃ p ∈ A, y ∈ p.1.set) →
    View.canon (A ++ L) y = View.canon A y
  | [], _, _, hy => by obtain ⟨p, hp, -⟩ := hy; simp at hp
  | p :: A, L, y, hy => by
    by_cases h : y ∈ p.1.set
    · obtain ⟨x, hx⟩ := p.1.exists_idx_of_mem h
      subst hx
      rw [List.cons_append]
      exact (View.canon_cons_emb p.1 p.2 (A ++ L) x).trans (View.canon_cons_emb p.1 p.2 A x).symm
    · rw [List.cons_append, View.canon_cons_of_not_mem _ _ h, View.canon_cons_of_not_mem _ _ h]
      obtain ⟨p', hp', hy'⟩ := hy
      rcases List.mem_cons.mp hp' with rfl | h'
      · exact absurd hy' h
      · exact canon_app A L y ⟨p', h', hy'⟩

/-- The states' pieces cover the scratch. -/
theorem stP_cover (dt cs : FVec Ideal S256x128 .f32) (act : Vec Ideal S256x4096 .f32) (st : Vec Ideal S8x128x256 .f32) (a : Fin 8) (n : Fin 128) (q : Fin 256) :
    ∃ p ∈ stP dt cs act st, (ix3 a n q : S8x128x256.Idx) ∈ p.1.set := by
  have hm : ∀ (o : ℕ) (inb : ∀ i, (![o, 0, 0] : Fin 3 → ℕ) i + S1x128x256.size i ≤ S8x128x256.size i), a.val = o →
      (ix3 a n q : S8x128x256.Idx) ∈ (Rect.unit (s := S8x128x256) ![o, 0, 0] S1x128x256.size inb).set := by
    intro o inb ho
    rw [Rect.mem_set_unit]
    intro i
    fin_cases i
    · show o ≤ a.val ∧ a.val < o + 1
      omega
    · show 0 ≤ n.val ∧ n.val < 0 + 128
      omega
    · show 0 ≤ q.val ∧ q.val < 0 + 256
      omega
  unfold stP
  have h8 := a.isLt
  rcases (by omega : a.val = 0 ∨ a.val = 1 ∨ a.val = 2 ∨ a.val = 3 ∨ a.val = 4 ∨ a.val = 5 ∨ a.val = 6 ∨ a.val = 7) with h | h | h | h | h | h | h | h
  · exact ⟨_, .tail _ (.tail _ (.tail _ (.tail _ (.tail _ (.tail _ (.tail _ (.head _))))))), hm 0 inb_S8x128x256_S1x128x256_0_0_0 h⟩
  · exact ⟨_, .tail _ (.tail _ (.tail _ (.tail _ (.tail _ (.tail _ (.head _)))))), hm 1 inb_S8x128x256_S1x128x256_1_0_0 h⟩
  · exact ⟨_, .tail _ (.tail _ (.tail _ (.tail _ (.tail _ (.head _))))), hm 2 inb_S8x128x256_S1x128x256_2_0_0 h⟩
  · exact ⟨_, .tail _ (.tail _ (.tail _ (.tail _ (.head _)))), hm 3 inb_S8x128x256_S1x128x256_3_0_0 h⟩
  · exact ⟨_, .tail _ (.tail _ (.tail _ (.head _))), hm 4 inb_S8x128x256_S1x128x256_4_0_0 h⟩
  · exact ⟨_, .tail _ (.tail _ (.head _)), hm 5 inb_S8x128x256_S1x128x256_5_0_0 h⟩
  · exact ⟨_, .tail _ (.head _), hm 6 inb_S8x128x256_S1x128x256_6_0_0 h⟩
  · exact ⟨_, .head _, hm 7 inb_S8x128x256_S1x128x256_7_0_0 h⟩

section
variable {p : Par} {X : ℕ → Fin 1024 → EReal} {c : ℕ} {x0 : Vec Ideal S1x256x1024 .f32} {x1 : Vec Ideal S1024x1024 .bf16}
    {x2 : Vec Ideal S1024x2048 .bf16} {x3 : Vec Ideal S1024x4096 .bf16} {x4 : Vec Ideal S1024x128 .bf16} {x5 : Vec Ideal S1024x2048 .bf16}
    {x6 : Vec Ideal S4x256x256 .bf16} {x7 : Vec Ideal S2048x1024 .bf16} {x8 : Vec Ideal S1024x1024 .bf16} {x9 : Vec Ideal S1x2048 .f32}
    {x10 : Vec Ideal S4x4096 .f32} {x11 : Vec Ideal S1x4096 .f32} {x12 x13 : Vec Ideal S1x128 .f32} {x14 x15 : Vec Ideal S1x2048 .f32}
    {x16 x17 x18 : Vec Ideal S1x1024 .f32} {H1 : Vec Ideal S272x1024 .f32} {H2 : Vec Ideal S264x4096 .f32} {H6 : Vec Ideal S8x128x256 .f32}

/-- The rounded tokens are the tokens. -/
theorem xb_at (hW : Win p X c x0 x1 x2 x3 x4 x5 x6 x7 x8 x9 x10 x11 x12 x13 x14 x15 x16 x17 x18) (l : Fin 256) (k : Fin 1024) :
    k0_pay5 (F := Ideal) x0 (ix2 l k) = X (256 * c + l.val) k := by
  rw [← hW.x]
  pointwise [k0_pay5]

/-- The chunk's steps. -/
theorem dt_at (hW : Win p X c x0 x1 x2 x3 x4 x5 x6 x7 x8 x9 x10 x11 x12 x13 x14 x15 x16 x17 x18) (l : Fin 256) (h : Fin 32) :
    k0_pay31 (k0_pay5 x0) x4 x12 (ix2 l (hp h)) = dtS p X (256 * c + l.val) h := by
  rw [dtV_at]
  unfold dtS pr
  simp only [xb_at hW, hW.wdt, hW.dtb]

/-- The chunk's running sums. -/
theorem cs_at (hW : Win p X c x0 x1 x2 x3 x4 x5 x6 x7 x8 x9 x10 x11 x12 x13 x14 x15 x16 x17 x18) (l : Fin 256) (h : Fin 32) :
    csV (k0_pay5 x0) x4 x12 x13 (ix2 l (hp h)) = csS p X c l.val h :=
  csV_at _ _ _ _ (fun i => dtS p X (256 * c + i) h * (0 - Ideal.exp (p.al h))) (hp h) (fun l => by rw [dt_at hW, hW.al]) l

/-- The chunk's activations. -/
theorem act_step (hW : Win p X c x0 x1 x2 x3 x4 x5 x6 x7 x8 x9 x10 x11 x12 x13 x14 x15 x16 x17 x18) (hC : Carry p X c H1 H2 H6) (l : Fin 256) (j : Fin 4096) :
    View.canon (actP (cbV (k0_pay5 x0) x3 H2) x10 x11) (ix2 l j) = actS p X (256 * c + l.val) j :=
  act_at p X c _ _ _ (cb_at p X c _ _ _ (xb_at hW) hW.wxbc hC.cb) hW.cw hW.cb l j

/-- The chunk's output. -/
theorem out_step (hW : Win p X c x0 x1 x2 x3 x4 x5 x6 x7 x8 x9 x10 x11 x12 x13 x14 x15 x16 x17 x18) (hC : Carry p X c H1 H2 H6) (i : grid0.Coords) (hi : (i 1).val = c)
    (l : Fin 256) (j : Fin 1024) :
    outV (k0_pay5 x0) x0 (View.canon (ynP (k0_pay5 x0) (k0_pay31 (k0_pay5 x0) x4 x12) (csV (k0_pay5 x0) x4 x12 x13)
        (View.canon (actP (cbV (k0_pay5 x0) x3 H2) x10 x11)) H6 x14 x15 x2))
      (View.canon (poolP i (pbV (k0_pay5 x0) x1 H1) x6 x16)) x5 x7 x8 x9 x17 x18 (ix3 0 l j) = outS p X c l j := by
  rw [outV_at]
  unfold outS ynS preS pr
  simp only [pool_at p X i c hi _ _ _ (pb_at p X c _ _ _ (xb_at hW) hW.wpi hC.pb) hW.wpg hW.ps, yn_at, dt_at hW, cs_at hW, act_step hW hC, hC.st,
    xb_at hW, hW.x, hW.wz, hW.wg, hW.wssd, hW.wout, hW.bg, hW.dx, hW.nw, hW.g, hW.b]
  simp only [← Nat.add_assoc, Nat.reduceAdd]

/-- What the chunk leaves of the pooled branch's tokens. -/
theorem pb_step (hW : Win p X c x0 x1 x2 x3 x4 x5 x6 x7 x8 x9 x10 x11 x12 x13 x14 x15 x16 x17 x18) (hC : Carry p X c H1 H2 H6)
    (L : List (View.Piece (Elt Ideal) S272x1024 .f32)) (i : Fin 272) (j : Fin 1024) (h : i.val < 16) :
    View.canon (⟨Rect.unit (s := S272x1024) ![0, 0] S16x1024.size inb_S272x1024_S16x1024_0_0,
      k0_pay15 (View.ld (pbV (k0_pay5 x0) x1 H1) (Rect.unit (s := S272x1024) ![256, 0] S16x1024.size inb_S272x1024_S16x1024_256_0))⟩ :: L) (ix2 i j)
      = delay 16 (fun m => prU p X m j) (256 * (c + 1) + i.val) := by
  have e : (ix2 i j : S272x1024.Idx) = (Rect.unit (s := S272x1024) ![0, 0] S16x1024.size inb_S272x1024_S16x1024_0_0).emb (ix2 (⟨i.val, h⟩ : Fin 16) j) := by blk_ext
  rw [e]
  refine (View.canon_cons_emb _ _ L _).trans ?_
  have e2 : 256 * (c + 1) + i.val = 256 * c + (⟨256 + i.val, by omega⟩ : Fin 272).val := by dsimp only; omega
  rw [e2, ← pb_at p X c _ _ _ (xb_at hW) hW.wpi hC.pb]
  pointwise [k0_pay15]

/-- What the chunk leaves of the convolution's tokens. -/
theorem cb_step (hW : Win p X c x0 x1 x2 x3 x4 x5 x6 x7 x8 x9 x10 x11 x12 x13 x14 x15 x16 x17 x18) (hC : Carry p X c H1 H2 H6)
    (L : List (View.Piece (Elt Ideal) S264x4096 .f32)) (i : Fin 264) (j : Fin 4096) (h : i.val < 8) :
    View.canon (⟨Rect.unit (s := S264x4096) ![0, 0] S8x4096.size inb_S264x4096_S8x4096_0_0,
      k0_pay30 (View.ld (cbV (k0_pay5 x0) x3 H2) (Rect.unit (s := S264x4096) ![256, 0] S8x4096.size inb_S264x4096_S8x4096_256_0))⟩ :: L) (ix2 i j)
      = delay 8 (fun m => prC p X m j) (256 * (c + 1) + i.val) := by
  have e : (ix2 i j : S264x4096.Idx) = (Rect.unit (s := S264x4096) ![0, 0] S8x4096.size inb_S264x4096_S8x4096_0_0).emb (ix2 (⟨i.val, h⟩ : Fin 8) j) := by blk_ext
  rw [e]
  refine (View.canon_cons_emb _ _ L _).trans ?_
  have e2 : 256 * (c + 1) + i.val = 256 * c + (⟨256 + i.val, by omega⟩ : Fin 264).val := by dsimp only; omega
  rw [e2, ← cb_at p X c _ _ _ (xb_at hW) hW.wxbc hC.cb]
  pointwise [k0_pay30]

/-- The state the chunk leaves. -/
theorem st_step (hW : Win p X c x0 x1 x2 x3 x4 x5 x6 x7 x8 x9 x10 x11 x12 x13 x14 x15 x16 x17 x18) (hC : Carry p X c H1 H2 H6)
    (L : List (View.Piece (Elt Ideal) S8x128x256 .f32)) (g : Fin 8) (n : Fin 128) (q : Fin 256) :
    View.canon (stP (k0_pay31 (k0_pay5 x0) x4 x12) (csV (k0_pay5 x0) x4 x12 x13)
        (View.canon (actP (cbV (k0_pay5 x0) x3 H2) x10 x11)) H6 ++ L) (ix3 g n q) = stS p X (c + 1) g n q := by
  rw [canon_app _ _ _ (stP_cover _ _ _ _ g n q), stV_at]
  unfold stS
  simp only [dt_at hW, cs_at hW, act_step hW hC, hC.st]

end

end Cert.Mix
end
-- ==== Proof.MixHost.lean ====
/- The mixing kernel's windows at each point, as the argument arrays' entries. -/
module

public import proofs.«01_k».proof.Proof.MixStep
public import proofs.«01_k».proof.Proof.Gen.KernelIdeal.Frame
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Mix

open Cert.KernelIdeal Cert.KernelIdeal.Gen

/-- The layer's weights, from the arrays that hold them. -/
def parOf (a1 : FVec Ideal S1x1024x9248 .f32) (a2 : FVec Ideal S1x2048 .f32) (a3 : FVec Ideal S1x4x4096 .f32) (a4 : FVec Ideal S1x4096 .f32)
    (a5 a6 a7 : FVec Ideal S1x32 .f32) (a8 : FVec Ideal S1x2048 .f32) (a9 : FVec Ideal S1x2048x1024 .f32) (a10 : FVec Ideal S1x4x256x256 .f32)
    (a11 : FVec Ideal S1x1024 .f32) (a12 : FVec Ideal S1x1024x1024 .f32) (a13 a14 : FVec Ideal S1x1024 .f32) : Par where
  wi k j := a1 (ix3 0 k j)
  bg j := a2 (ix2 0 j)
  cw k j := a3 (ix3 0 k j)
  cb j := a4 (ix2 0 j)
  dtb h := a5 (ix2 0 h)
  al h := a6 (ix2 0 h)
  dk h := a7 (ix2 0 h)
  nw j := a8 (ix2 0 j)
  ws i j := a9 (ix3 0 i j)
  wp g k q := a10 (ix4 0 g k q)
  ps j := a11 (ix2 0 j)
  wo i j := a12 (ix3 0 i j)
  g j := a13 (ix2 0 j)
  b j := a14 (ix2 0 j)

/-- A sequence's tokens, zero past its end. -/
def rowOf (a0 : FVec Ideal S32x2048x1024 .f32) (b : Fin 32) (n : ℕ) (k : Fin 1024) : EReal :=
  if h : n < 2048 then a0 (ix3 b ⟨n, h⟩ k) else 0

variable (m : (ℓ : Loc nD τ Cert.KernelIdeal.sig) → Buf (Elt Ideal) ℓ)

/-- The weights this program's arrays hold. -/
def parM (c : Dev nD) : Par :=
  parOf (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14))

/-- The tokens this program's array holds. -/
def rowM (c : Dev nD) : Fin 32 → ℕ → Fin 1024 → EReal := rowOf (m ((c : Thread nD τ).loc main_arg0))

/-- The windows' block indices: the tokens' and the output's move with the grid point, the others stand. -/
theorem idx : ∀ t : Fin cfg0.N, win0_0.index t = ![t.val / 8, t.val % 8, 0] ∧ win0_1.index t = ![0, 0] ∧ win0_2.index t = ![0, 0] ∧ win0_3.index t = ![0, 0] ∧ win0_4.index t = ![0, 0] ∧ win0_5.index t = ![0, 0] ∧ win0_6.index t = ![0, 0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0]
    ∧ win0_19.index t = ![t.val / 8, t.val % 8, 0] :=
  (by decide +kernel : ∀ t : Fin grid0.N, _)

/-- The token window's block. -/
theorem x_win (c : Dev nD) (t : Fin cfg0.N) (ht : t.val < 256) (l : Fin 256) (k : Fin 1024) :
    (iblk m c 0 t : FVec Ideal S1x256x1024 .f32) (ix3 0 l k) = rowM m c ⟨t.val / 8, by omega⟩ (256 * (t.val % 8) + l.val) k := by
  unfold rowM rowOf
  rw [dif_pos (by omega)]
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 1: the pooled branch's input columns. -/
theorem wpi_win (c : Dev nD) (t : Fin cfg0.N) : ∀ k (j : Fin 1024), (iblk m c 1 t : FVec Ideal S1024x1024 .bf16) (ix2 k j) = (parM m c).wi k ⟨j.val, by omega⟩ := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 2: the gate's input columns. -/
theorem wz_win (c : Dev nD) (t : Fin cfg0.N) : ∀ k (j : Fin 2048), (iblk m c 2 t : FVec Ideal S1024x2048 .bf16) (ix2 k j) = (parM m c).wi k ⟨1024 + j.val, by omega⟩ := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 3: the convolution's input columns. -/
theorem wxbc_win (c : Dev nD) (t : Fin cfg0.N) : ∀ k (j : Fin 4096), (iblk m c 3 t : FVec Ideal S1024x4096 .bf16) (ix2 k j) = (parM m c).wi k ⟨3072 + j.val, by omega⟩ := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 4: the steps' input columns. -/
theorem wdt_win (c : Dev nD) (t : Fin cfg0.N) : ∀ k (h : Fin 32), (iblk m c 4 t : FVec Ideal S1024x128 .bf16) (ix2 k (hp h)) = (parM m c).wi k ⟨7168 + h.val, by omega⟩ := by
  intro k h
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  have e : (win0_4.blk t).view.emb (ix2 k (hp h)) = ix2 k (hp h) := by blk_ext [idx t]
  rw [e]
  refine (pad_apply_of_inside ![0, 0] ![0, 96] ![0, 0] _ _ pads_S1024x32_S1024x128_000_0960 h_S_ (ix2 k (hp h)) (ix2 k h) (fun a => ?_)).trans ?_
  · match a with
    | ⟨0, _⟩ => simp [ix2, hp]
    | ⟨1, _⟩ => simp [ix2, hp]
  · refine Eq.trans (show _ = extractStridedSlice S1024x32 ![0, 7168] (fun i : S1024x9248.Idx => m (c, Proc.tc.devRef main_arg1) (ix3 0 (i 0) (i 1))) slices_S1024x9248_S1024x32_0_7168 (ix2 k h) from rfl) ?_
    refine (extractStridedSlice_apply ![0, 7168] _ slices_S1024x9248_S1024x32_0_7168 (ix2 k h) (ix2 k ⟨7168 + h.val, by omega⟩) (fun a => ?_)).trans rfl
    match a with
    | ⟨0, _⟩ => simp [ix2]
    | ⟨1, _⟩ => simp [ix2]

/-- Window 5: the merge gates' input columns. -/
theorem wg_win (c : Dev nD) (t : Fin cfg0.N) : ∀ k (j : Fin 2048), (iblk m c 5 t : FVec Ideal S1024x2048 .bf16) (ix2 k j) = (parM m c).wi k ⟨7200 + j.val, by omega⟩ := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 6: the pooled branch's projections. -/
theorem wpg_win (c : Dev nD) (t : Fin cfg0.N) : ∀ g k q, (iblk m c 6 t : FVec Ideal S4x256x256 .bf16) (ix3 g k q) = (parM m c).wp g k q := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 7: the state branch's projection. -/
theorem wssd_win (c : Dev nD) (t : Fin cfg0.N) : ∀ i j, (iblk m c 7 t : FVec Ideal S2048x1024 .bf16) (ix2 i j) = (parM m c).ws i j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 8: the output projection. -/
theorem wout_win (c : Dev nD) (t : Fin cfg0.N) : ∀ i j, (iblk m c 8 t : FVec Ideal S1024x1024 .bf16) (ix2 i j) = (parM m c).wo i j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 9: the merge gates' offsets. -/
theorem bg_win (c : Dev nD) (t : Fin cfg0.N) : ∀ j, (iblk m c 9 t : FVec Ideal S1x2048 .f32) (ix2 0 j) = (parM m c).bg j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 10: the taps. -/
theorem cw_win (c : Dev nD) (t : Fin cfg0.N) : ∀ k j, (iblk m c 10 t : FVec Ideal S4x4096 .f32) (ix2 k j) = (parM m c).cw k j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 11: the convolution's offsets. -/
theorem cb_win (c : Dev nD) (t : Fin cfg0.N) : ∀ j, (iblk m c 11 t : FVec Ideal S1x4096 .f32) (ix2 0 j) = (parM m c).cb j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 12: the steps' offsets. -/
theorem dtb_win (c : Dev nD) (t : Fin cfg0.N) : ∀ (h : Fin 32), (iblk m c 12 t : FVec Ideal S1x128 .f32) (ix2 0 (hp h)) = (parM m c).dtb h := by
  intro h
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  have e : (win0_12.blk t).view.emb (ix2 0 (hp h)) = ix2 0 (hp h) := by blk_ext [idx t]
  rw [e]
  refine (pad_apply_of_inside ![0, 0] ![0, 96] ![0, 0] _ _ pads_S1x32_S1x128_000_0960 h_S_ (ix2 0 (hp h)) (ix2 0 h) (fun a => ?_)).trans ?_
  · match a with
    | ⟨0, _⟩ => simp [ix2, hp]
    | ⟨1, _⟩ => simp [ix2, hp]
  · pointwise
    rfl

/-- Window 13: the rates. -/
theorem al_win (c : Dev nD) (t : Fin cfg0.N) : ∀ (h : Fin 32), (iblk m c 13 t : FVec Ideal S1x128 .f32) (ix2 0 (hp h)) = (parM m c).al h := by
  intro h
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  have e : (win0_13.blk t).view.emb (ix2 0 (hp h)) = ix2 0 (hp h) := by blk_ext [idx t]
  rw [e]
  refine (pad_apply_of_inside ![0, 0] ![0, 96] ![0, 0] _ _ pads_S1x32_S1x128_000_0960 h_S_ (ix2 0 (hp h)) (ix2 0 h) (fun a => ?_)).trans ?_
  · match a with
    | ⟨0, _⟩ => simp [ix2, hp]
    | ⟨1, _⟩ => simp [ix2, hp]
  · pointwise
    rfl

/-- Window 14: the skips over a head's columns. -/
theorem dx_win (c : Dev nD) (t : Fin cfg0.N) : ∀ (j : Fin 2048), (iblk m c 14 t : FVec Ideal S1x2048 .f32) (ix2 0 j) = (parM m c).dk ⟨j.val / 64, by omega⟩ := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 15: the inner gain. -/
theorem nw_win (c : Dev nD) (t : Fin cfg0.N) : ∀ j, (iblk m c 15 t : FVec Ideal S1x2048 .f32) (ix2 0 j) = (parM m c).nw j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 16: the pooled branch's scale. -/
theorem ps_win (c : Dev nD) (t : Fin cfg0.N) : ∀ j, (iblk m c 16 t : FVec Ideal S1x1024 .f32) (ix2 0 j) = (parM m c).ps j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 17: the gain. -/
theorem g_win (c : Dev nD) (t : Fin cfg0.N) : ∀ j, (iblk m c 17 t : FVec Ideal S1x1024 .f32) (ix2 0 j) = (parM m c).g j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- Window 18: the offset. -/
theorem b_win (c : Dev nD) (t : Fin cfg0.N) : ∀ j, (iblk m c 18 t : FVec Ideal S1x1024 .f32) (ix2 0 j) = (parM m c).b j := by
  intros
  unfold parM parOf
  blk_simp [iblk, idx t]
  unfold V
  simp only [hostOps0, hostOps0_1, hostOps0_2, hostOps0_3, hostOps0_4, hostOps0_5, hostOps0_6, List.flatten_cons, List.flatten_nil, List.cons_append, List.nil_append, List.append_nil]
  entry_read
  pointwise
  blk_ext [idx t]

/-- The windows at a point. -/
theorem win_at (c : Dev nD) (t : Fin cfg0.N) (ht : t.val < 256) :
    Win (parM m c) (rowM m c ⟨t.val / 8, by omega⟩) (t.val % 8) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) (iblk m c 14 t)
      (iblk m c 15 t) (iblk m c 16 t) (iblk m c 17 t) (iblk m c 18 t) :=
  ⟨x_win m c t ht, wpi_win m c t, wz_win m c t, wxbc_win m c t, wdt_win m c t, wg_win m c t, wpg_win m c t, wssd_win m c t, wout_win m c t, bg_win m c t, cw_win m c t, cb_win m c t, dtb_win m c t, al_win m c t, dx_win m c t, nw_win m c t, ps_win m c t, g_win m c t, b_win m c t⟩

end Cert.Mix
end
-- ==== Proof.MixA.lean ====
/- The first half of the kernel's stages as the layer's formulas at an index. -/
module

public import proofs.«01_k».proof.Proof.MixStage
public import proofs.«01_k».proof.Proof.Gen.KernelIdeal.Frame

@[expose] public section

set_option maxRecDepth 16384

noncomputable section

namespace Cert.Mix

open Idealize Idealize.ShloMosaic Idealize.ShloMosaic.TcCoe Idealize.ShloMosaic.Tactic
open Cert.KernelIdeal Cert.KernelIdeal.Gen

variable {F : FTy → Type} [FloatOps F]

/-- The chunk's tokens, as stored. -/
theorem xb_A (c : Dev nD) (arg2 : Memref Cert.KernelIdeal.sig .tc .vmem S1x256x1024 .f32) (harg2 : arg2.IsWhole) (arg22 : Memref Cert.KernelIdeal.sig .tc .vmem S256x1024 .bf16) (x0 : Vec F S1x256x1024 .f32) :
    (kernelRun0_A.sl.v9 c arg2 harg2 arg22 x0) =
      k0_pay5 x0 := by
  unfold kernelRun0_A.sl.v9 kernelRun0_A.sl.HS0_1
  simp (disch := decide) only [View.readCov_unit_lit', View.readAt_eq_ld, Memref.IsWhole.read_unread, View.ld_unit_lit']

/-- The step sizes. -/
theorem dt_A (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg22 : Memref Cert.KernelIdeal.sig .tc .vmem S256x1024 .bf16) (x0 : Vec F S1x256x1024 .f32) (x4 : Vec F S1024x128 .bf16) (x12 : Vec F S1x128 .f32) :
    (kernelRun0_A.sl.r_9 c arg2 harg2 arg6 harg6 arg14 harg14 arg22 x0 x4 x12) =
      k0_pay31 (kernelRun0_A.sl.v9 c arg2 harg2 arg22 x0) (View.ld (arg6.view.read (Elt F) (harg6.unread x4)) (Rect.unit (s := S1024x128) ![0, 0] S1024x128.size inb_S1024x128_S1024x128_0_0)) (View.ld (arg14.view.read (Elt F) (harg14.unread x12)) (Rect.unit (s := S1x128) ![0, 0] S1x128.size inb_S1x128_S1x128_0_0)) := rfl

/-- The running sums. -/
theorem cs_A (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (x0 : Vec F S1x256x1024 .f32) (x4 : Vec F S1024x128 .bf16) (x12 : Vec F S1x128 .f32) (x13 : Vec F S1x128 .f32) :
    (kernelRun0_A.sl.r_11 c arg2 harg2 arg6 harg6 arg14 harg14 arg15 harg15 arg22 x0 x4 x12 x13) =
      csV (kernelRun0_A.sl.v9 c arg2 harg2 arg22 x0) (View.ld (arg6.view.read (Elt F) (harg6.unread x4)) (Rect.unit (s := S1024x128) ![0, 0] S1024x128.size inb_S1024x128_S1024x128_0_0)) (View.ld (arg14.view.read (Elt F) (harg14.unread x12)) (Rect.unit (s := S1x128) ![0, 0] S1x128.size inb_S1x128_S1x128_0_0)) (View.ld (arg15.view.read (Elt F) (harg15.unread x13)) (Rect.unit (s := S1x128) ![0, 0] S1x128.size inb_S1x128_S1x128_0_0)) := rfl

/-- The convolved channels' pieces. -/
theorem act_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg12 : Memref Cert.KernelIdeal.sig .tc .vmem S4x4096 .f32) (harg12 : arg12.IsWhole) (arg13 : Memref Cert.KernelIdeal.sig .tc .vmem S1x4096 .f32) (harg13 : arg13.IsWhole) (arg22 : Memref Cert.KernelIdeal.sig .tc .vmem S256x1024 .bf16) (arg24 : Memref Cert.KernelIdeal.sig .tc .vmem S264x4096 .f32) (x0 : Vec F S1x256x1024 .f32) (x3 : Vec F S1024x4096 .bf16) (x10 : Vec F S4x4096 .f32) (x11 : Vec F S1x4096 .f32) :
    (kernelRun0_A.sl.HS3_8 c arg2 harg2 arg5 harg5 arg12 harg12 arg13 harg13 arg22 arg24 x0 x3 x10 x11) =
      actP (arg24.view.read (Elt F) (arg24.view.writes (Elt F) arg24.view.junk (kernelRun0_A.sl.HS2_2 c arg2 harg2 arg5 harg5 arg22 x0 x3))) (arg12.view.read (Elt F) (harg12.unread x10)) (arg13.view.read (Elt F) (harg13.unread x11)) := rfl

/-- The pooled channels' pieces. -/
theorem pool_A (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg8 : Memref Cert.KernelIdeal.sig .tc .vmem S4x256x256 .bf16) (harg8 : arg8.IsWhole) (arg18 : Memref Cert.KernelIdeal.sig .tc .vmem S1x1024 .f32) (harg18 : arg18.IsWhole) (arg22 : Memref Cert.KernelIdeal.sig .tc .vmem S256x1024 .bf16) (arg23 : Memref Cert.KernelIdeal.sig .tc .vmem S272x1024 .f32) (x0 : Vec F S1x256x1024 .f32) (x1 : Vec F S1024x1024 .bf16) (x6 : Vec F S4x256x256 .bf16) (x16 : Vec F S1x1024 .f32) :
    (kernelRun0_A.sl.HS4_4 c i arg2 harg2 arg3 harg3 arg8 harg8 arg18 harg18 arg22 arg23 x0 x1 x6 x16) =
      poolP i (arg23.view.read (Elt F) (arg23.view.writes (Elt F) arg23.view.junk (kernelRun0_A.sl.HS1_2 c arg2 harg2 arg3 harg3 arg22 x0 x1))) (arg8.view.read (Elt F) (harg8.unread x6)) (arg18.view.read (Elt F) (harg18.unread x16)) := rfl

/-- The state of a group, as its load finds it. -/
theorem st1_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v926 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![1, 0, 0] S1x128x256.size inb_S8x128x256_S1x128x256_1_0_0) := by
  unfold kernelRun0_A.sl.v926 kernelRun0_A.sl.HS6_2
  simp (disch := decide) only [View.readCov_skip]
  rfl

/-- The state of a group, as its load finds it. -/
theorem st2_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v1129 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![2, 0, 0] S1x128x256.size inb_S8x128x256_S1x128x256_2_0_0) := by
  unfold kernelRun0_A.sl.v1129 kernelRun0_A.sl.HS6_3 kernelRun0_A.sl.HS6_2
  simp (disch := decide) only [View.readCov_skip]
  rfl

/-- The state of a group, as its load finds it. -/
theorem st3_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v1332 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![3, 0, 0] S1x128x256.size inb_S8x128x256_S1x128x256_3_0_0) := by
  unfold kernelRun0_A.sl.v1332 kernelRun0_A.sl.HS6_4 kernelRun0_A.sl.HS6_3 kernelRun0_A.sl.HS6_2
  simp (disch := decide) only [View.readCov_skip]
  rfl

/-- The state of a group, as its load finds it. -/
theorem st4_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v1535 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![4, 0, 0] S1x128x256.size inb_S8x128x256_S1x128x256_4_0_0) := by
  unfold kernelRun0_A.sl.v1535 kernelRun0_A.sl.HS6_5 kernelRun0_A.sl.HS6_4 kernelRun0_A.sl.HS6_3 kernelRun0_A.sl.HS6_2
  simp (disch := decide) only [View.readCov_skip]
  rfl

/-- The state of a group, as its load finds it. -/
theorem st5_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v1738 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![5, 0, 0] S1x128x256.size inb_S8x128x256_S1x128x256_5_0_0) := by
  unfold kernelRun0_A.sl.v1738 kernelRun0_A.sl.HS6_6 kernelRun0_A.sl.HS6_5 kernelRun0_A.sl.HS6_4 kernelRun0_A.sl.HS6_3 kernelRun0_A.sl.HS6_2
  simp (disch := decide) only [View.readCov_skip]
  rfl

/-- The state of a group, as its load finds it. -/
theorem st6_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v1941 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![6, 0, 0] S1x128x256.size inb_S8x128x256_S1x128x256_6_0_0) := by
  unfold kernelRun0_A.sl.v1941 kernelRun0_A.sl.HS6_7 kernelRun0_A.sl.HS6_6 kernelRun0_A.sl.HS6_5 kernelRun0_A.sl.HS6_4 kernelRun0_A.sl.HS6_3 kernelRun0_A.sl.HS6_2
  simp (disch := decide) only [View.readCov_skip]
  rfl

/-- The state of a group, as its load finds it. -/
theorem st7_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x3 : Vec F S1024x4096 .bf16) (x4 : Vec F S1024x128 .bf16) (x10 : Vec F S4x4096 .f32) (x11 : Vec F S1x4096 .f32) (x12 : Vec F S1x128 .f32) (x13 : Vec F S1x128 .f32) :
    (kernelRun0_A.sl.v2144 c arg2 harg2 arg5 harg5 arg6 harg6 arg12 harg12 arg13 harg13 arg14 harg14 arg15 harg15 arg22 arg24 arg25 arg28 x0 x3 x4 x10 x11 x12 x13) =
      View.ld (arg28.view.read (Elt F) (arg28.view.writes (Elt F) arg28.view.junk (kernelRun0_A.sl.HS6_1 ))) (Rect.unit (s := S8x128x256) ![7, 0, 0] S1x128x256.size inb_S8x128x256_S1x128x256_7_0_0) := by
  unfold kernelRun0_A.sl.v2144 kernelRun0_A.sl.HS6_8 kernelRun0_A.sl.HS6_7 kernelRun0_A.sl.HS6_6 kernelRun0_A.sl.HS6_5 kernelRun0_A.sl.HS6_4 kernelRun0_A.sl.HS6_3 kernelRun0_A.sl.HS6_2
  simp (disch := decide) only [View.readCov_skip]
  rfl

/-- The groups' pieces, over the loads as found. -/
theorem yn0_A (c : Dev nD) (arg2 : Memref Cert.KernelIdeal.sig .tc .vmem S1x256x1024 .f32) (harg2 : arg2.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x2 : Vec F S1024x2048 .bf16) (x3 : Vec F S1024x4096 .bf16) (x4 : Vec F S1024x128 .bf16) (x10 : Vec F S4x4096 .f32) (x11 : Vec F S1x4096 .f32) (x12 : Vec F S1x128 .f32) (x13 : Vec F S1x128 .f32) (x14 : Vec F S1x2048 .f32) (x15 : Vec F S1x2048 .f32) :
    (kernelRun0_A.sl.HS5_8 c arg2 harg2 arg4 harg4 arg5 harg5 arg6 harg6 arg12 harg12 arg13 harg13 arg14 harg14 arg15 harg15 arg16 harg16 arg17 harg17 arg22 arg24 arg25 arg28 x0 x2 x3 x4 x10 x11 x12 x13 x14 x15) =
      [⟨(Rect.unit (s := S256x2048) ![0, 1792] S256x256.size inb_S256x2048_S256x256_0_1792), gO7 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1990 c arg2 harg2 arg5 harg5 arg12 harg12 arg13 harg13 arg22 arg24 arg25 x0 x3 x10 x11) (kernelRun0_A.sl.v1991 c arg2 harg2 arg5 harg5 arg12 harg12 arg13 harg13 arg22 arg24 arg25 x0 x3 x10 x11) (kernelRun0_A.sl.v1993 c arg2 harg2 arg5 harg5 arg12 harg12 arg13 harg13 arg22 arg24 arg25 x0 x3 x10 x11) (kernelRun0_A.sl.v2144 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 1792] S1x256.size inb_S1x2048_S1x256_0_1792)) (View.ld (arg4.view.read (Elt F) (harg4.unread x2)) (Rect.unit (s := S1024x2048) ![0, 1792] S1024x256.size inb_S1024x2048_S1024x256_0_1792)) (View.ld (arg17.view.read (Elt F) (harg17.unread x15)) (Rect.unit (s := S1x2048) ![0, 1792] S1x256.size inb_S1x2048_S1x256_0_1792))⟩,
 ⟨(Rect.unit (s := S256x2048) ![0, 1536] S256x256.size inb_S256x2048_S256x256_0_1536), gO6 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1787 c arg2 harg2 arg5 harg5 arg12 harg12 arg13 harg13 arg22 arg24 arg25 x0 x3 x10 x11) (kernelRun0_A.sl.v1788 c arg2 harg2 arg5 harg5 arg12 harg12 arg13 harg13 arg22 arg24 arg25 x0 x3 x10 x11) (kernelRun0_A.sl.v1790 c arg2 harg2 arg5 harg5 arg12 harg12 arg13 harg13 arg22 arg24 arg25 x0 x3 x10 x11) (kernelRun0_A.sl.v1941 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 1536] S1x256.size inb_S1x2048_S1x256_0_1536)) (View.ld (arg4.view.read (Elt F) (harg4.unread x2)) (Rect.unit (s := S1024x2048) ![0, 1536] S1024x256.size inb_S1024x2048_S1024x256_0_1536)) (View.ld (arg17.view.read (Elt F) (harg17.unread x15)) (Rect.unit (s := S1x2048) ![0, 1536] S1x256.size inb_S1x2048_S1x256_0_1536))⟩,
 ⟨(Rect.unit (s := S256x2048) ![0, 1280] S256x256.size inb_S256x2048_S256x256_0_1280), gO5 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1584 c arg2 harg2 arg5 harg5 arg12 harg12 arg13 harg13 arg22 arg24 arg25 x0 x3 x10 x11) (kernelRun0_A.sl.v1585 c arg2 harg2 arg5 harg5 arg12 harg12 arg13 harg13 arg22 arg24 arg25 x0 x3 x10 x11) (kernelRun0_A.sl.v1587 c arg2 harg2 arg5 harg5 arg12 harg12 arg13 harg13 arg22 arg24 arg25 x0 x3 x10 x11) (kernelRun0_A.sl.v1738 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 1280] S1x256.size inb_S1x2048_S1x256_0_1280)) (View.ld (arg4.view.read (Elt F) (harg4.unread x2)) (Rect.unit (s := S1024x2048) ![0, 1280] S1024x256.size inb_S1024x2048_S1024x256_0_1280)) (View.ld (arg17.view.read (Elt F) (harg17.unread x15)) (Rect.unit (s := S1x2048) ![0, 1280] S1x256.size inb_S1x2048_S1x256_0_1280))⟩,
 ⟨(Rect.unit (s := S256x2048) ![0, 1024] S256x256.size inb_S256x2048_S256x256_0_1024), gO4 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1381 c arg2 harg2 arg5 harg5 arg12 harg12 arg13 harg13 arg22 arg24 arg25 x0 x3 x10 x11) (kernelRun0_A.sl.v1382 c arg2 harg2 arg5 harg5 arg12 harg12 arg13 harg13 arg22 arg24 arg25 x0 x3 x10 x11) (kernelRun0_A.sl.v1384 c arg2 harg2 arg5 harg5 arg12 harg12 arg13 harg13 arg22 arg24 arg25 x0 x3 x10 x11) (kernelRun0_A.sl.v1535 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 1024] S1x256.size inb_S1x2048_S1x256_0_1024)) (View.ld (arg4.view.read (Elt F) (harg4.unread x2)) (Rect.unit (s := S1024x2048) ![0, 1024] S1024x256.size inb_S1024x2048_S1024x256_0_1024)) (View.ld (arg17.view.read (Elt F) (harg17.unread x15)) (Rect.unit (s := S1x2048) ![0, 1024] S1x256.size inb_S1x2048_S1x256_0_1024))⟩,
 ⟨(Rect.unit (s := S256x2048) ![0, 768] S256x256.size inb_S256x2048_S256x256_0_768), gO3 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1178 c arg2 harg2 arg5 harg5 arg12 harg12 arg13 harg13 arg22 arg24 arg25 x0 x3 x10 x11) (kernelRun0_A.sl.v1179 c arg2 harg2 arg5 harg5 arg12 harg12 arg13 harg13 arg22 arg24 arg25 x0 x3 x10 x11) (kernelRun0_A.sl.v1181 c arg2 harg2 arg5 harg5 arg12 harg12 arg13 harg13 arg22 arg24 arg25 x0 x3 x10 x11) (kernelRun0_A.sl.v1332 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 768] S1x256.size inb_S1x2048_S1x256_0_768)) (View.ld (arg4.view.read (Elt F) (harg4.unread x2)) (Rect.unit (s := S1024x2048) ![0, 768] S1024x256.size inb_S1024x2048_S1024x256_0_768)) (View.ld (arg17.view.read (Elt F) (harg17.unread x15)) (Rect.unit (s := S1x2048) ![0, 768] S1x256.size inb_S1x2048_S1x256_0_768))⟩,
 ⟨(Rect.unit (s := S256x2048) ![0, 512] S256x256.size inb_S256x2048_S256x256_0_512), gO2 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v975 c arg2 harg2 arg5 harg5 arg12 harg12 arg13 harg13 arg22 arg24 arg25 x0 x3 x10 x11) (kernelRun0_A.sl.v976 c arg2 harg2 arg5 harg5 arg12 harg12 arg13 harg13 arg22 arg24 arg25 x0 x3 x10 x11) (kernelRun0_A.sl.v978 c arg2 harg2 arg5 harg5 arg12 harg12 arg13 harg13 arg22 arg24 arg25 x0 x3 x10 x11) (kernelRun0_A.sl.v1129 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 512] S1x256.size inb_S1x2048_S1x256_0_512)) (View.ld (arg4.view.read (Elt F) (harg4.unread x2)) (Rect.unit (s := S1024x2048) ![0, 512] S1024x256.size inb_S1024x2048_S1024x256_0_512)) (View.ld (arg17.view.read (Elt F) (harg17.unread x15)) (Rect.unit (s := S1x2048) ![0, 512] S1x256.size inb_S1x2048_S1x256_0_512))⟩,
 ⟨(Rect.unit (s := S256x2048) ![0, 256] S256x256.size inb_S256x2048_S256x256_0_256), gO1 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v772 c arg2 harg2 arg5 harg5 arg12 harg12 arg13 harg13 arg22 arg24 arg25 x0 x3 x10 x11) (kernelRun0_A.sl.v773 c arg2 harg2 arg5 harg5 arg12 harg12 arg13 harg13 arg22 arg24 arg25 x0 x3 x10 x11) (kernelRun0_A.sl.v775 c arg2 harg2 arg5 harg5 arg12 harg12 arg13 harg13 arg22 arg24 arg25 x0 x3 x10 x11) (kernelRun0_A.sl.v926 c arg2 harg2 arg5 harg5 arg6 harg6 arg12 harg12 arg13 harg13 arg14 harg14 arg15 harg15 arg22 arg24 arg25 arg28 x0 x3 x4 x10 x11 x12 x13) (View.ld (arg16.view.read (Elt F) (harg16.unread x14)) (Rect.unit (s := S1x2048) ![0, 256] S1x256.size inb_S1x2048_S1x256_0_256)) (View.ld (arg4.view.read (Elt F) (harg4.unread x2)) (Rect.unit (s := S1024x2048) ![0, 256] S1024x256.size inb_S1024x2048_S1024x256_0_256)) (View.ld (arg17.view.read (Elt F) (harg17.unread x15)) (Rect.unit (s := S1x2048) ![0, 256] S1x256.size inb_S1x2048_S1x256_0_256))⟩,
 ⟨(Rect.unit (s := S256x2048) ![0, 0] S256x256.size inb_S256x2048_S256x256_0_0), gO0 (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v569 c arg2 harg2 arg5 harg5 arg12 harg12 arg13 harg13 arg22 arg24 arg25 x0 x3 x10 x11) (kernelRun0_A.sl.v570 c arg2 harg2 arg5 harg5 arg12 harg12 arg13 harg13 arg22 arg24 arg25 x0 x3 x10 x11) (kernelRun0_A.sl.v572 c arg2 harg2 arg5 harg5 arg12 harg12 arg13 harg13 arg22 arg24 arg25 x0 x3 x10 x11) (kernelRun0_A.sl.v723 c arg28) (View.ld (arg16.view.read (Elt F) (harg16.unread x14)) (Rect.unit (s := S1x2048) ![0, 0] S1x256.size inb_S1x2048_S1x256_0_0)) (View.ld (arg4.view.read (Elt F) (harg4.unread x2)) (Rect.unit (s := S1024x2048) ![0, 0] S1024x256.size inb_S1024x2048_S1024x256_0_0)) (View.ld (arg17.view.read (Elt F) (harg17.unread x15)) (Rect.unit (s := S1x2048) ![0, 0] S1x256.size inb_S1x2048_S1x256_0_0))⟩] := rfl

/-- The groups' pieces. -/
theorem yn_A (c : Dev nD) (arg2 : Memref Cert.KernelIdeal.sig .tc .vmem S1x256x1024 .f32) (harg2 : arg2.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg28 : Memref Cert.KernelIdeal.sig .tc .vmem S8x128x256 .f32) (x0 : Vec F S1x256x1024 .f32) (x2 : Vec F S1024x2048 .bf16) (x3 : Vec F S1024x4096 .bf16) (x4 : Vec F S1024x128 .bf16) (x10 : Vec F S4x4096 .f32) (x11 : Vec F S1x4096 .f32) (x12 : Vec F S1x128 .f32) (x13 : Vec F S1x128 .f32) (x14 : Vec F S1x2048 .f32) (x15 : Vec F S1x2048 .f32) :
    (kernelRun0_A.sl.HS5_8 c arg2 harg2 arg4 harg4 arg5 harg5 arg6 harg6 arg12 harg12 arg13 harg13 arg14 harg14 arg15 harg15 arg16 harg16 arg17 harg17 arg22 arg24 arg25 arg28 x0 x2 x3 x4 x10 x11 x12 x13 x14 x15) =
      ynP (kernelRun0_A.sl.v9 c arg2 harg2 arg22 x0) (kernelRun0_A.sl.r_9 c arg2 harg2 arg6 harg6 arg14 harg14 arg22 x0 x4 x12) (kernelRun0_A.sl.r_11 c arg2 harg2 arg6 harg6 arg14 harg14 arg15 harg15 arg22 x0 x4 x12 x13) (arg25.view.read (Elt F) (arg25.view.writes (Elt F) arg25.view.junk (kernelRun0_A.sl.HS3_8 c arg2 harg2 arg5 harg5 arg12 harg12 arg13 harg13 arg22 arg24 x0 x3 x10 x11))) (arg28.view.read (Elt F) (arg28.view.writes (Elt F) arg28.view.junk (kernelRun0_A.sl.HS6_1 ))) (arg16.view.read (Elt F) (harg16.unread x14)) (arg17.view.read (Elt F) (harg17.unread x15)) (arg4.view.read (Elt F) (harg4.unread x2)) := by
  rw [yn0_A, st7_A, st6_A, st5_A, st4_A, st3_A, st2_A, st1_A]
  rfl

/-- A branch's scratch. -/
theorem pbx_A (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (x0 : Vec F S1x256x1024 .f32) (x1 : Vec F S1024x1024 .bf16) :
    (arg23.view.read (Elt F) (arg23.view.writes (Elt F) arg23.view.junk (kernelRun0_A.sl.HS1_2 c arg2 harg2 arg3 harg3 arg22 x0 x1))) =
      pbV (k0_pay5 x0) x1 (View.canon [⟨Rect.unit (s := S272x1024) ![0, 0] S16x1024.size inb_S272x1024_S16x1024_0_0, k0_pay2⟩]) := by
  unfold kernelRun0_A.sl.HS1_2
  rw [View.read_writes_junk_eq_canon, xb_A, View.readAt_eq_ld, Memref.IsWhole.read_unread]
  simp (disch := decide) only [View.ld_unit_lit']
  rfl

/-- A branch's scratch. -/
theorem cbx_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (x0 : Vec F S1x256x1024 .f32) (x3 : Vec F S1024x4096 .bf16) :
    (arg24.view.read (Elt F) (arg24.view.writes (Elt F) arg24.view.junk (kernelRun0_A.sl.HS2_2 c arg2 harg2 arg5 harg5 arg22 x0 x3))) =
      cbV (k0_pay5 x0) x3 (View.canon [⟨Rect.unit (s := S264x4096) ![0, 0] S8x4096.size inb_S264x4096_S8x4096_0_0, k0_pay3⟩]) := by
  unfold kernelRun0_A.sl.HS2_2
  rw [View.read_writes_junk_eq_canon, xb_A, View.readAt_eq_ld, Memref.IsWhole.read_unread]
  simp (disch := decide) only [View.ld_unit_lit']
  rfl

/-- The states a sequence begins with. -/
theorem stx_A (arg28 : Memref Cert.KernelIdeal.sig .tc .vmem S8x128x256 .f32) :
    (arg28.view.read (Elt F) (arg28.view.writes (Elt F) arg28.view.junk (kernelRun0_A.sl.HS6_1 ))) =
      k0_pay4 := by
  unfold kernelRun0_A.sl.HS6_1
  rw [View.read_writes_junk_eq_canon]
  exact View.canon_cons_unit_lit' _ _ _ (by decide)

/-- The step sizes. -/
theorem dtv_A (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg22 : Memref Cert.KernelIdeal.sig .tc .vmem S256x1024 .bf16) (x0 : Vec F S1x256x1024 .f32) (x4 : Vec F S1024x128 .bf16) (x12 : Vec F S1x128 .f32) :
    (kernelRun0_A.sl.r_9 c arg2 harg2 arg6 harg6 arg14 harg14 arg22 x0 x4 x12) =
      (k0_pay31 (k0_pay5 x0) x4 x12) := by
  rw [dt_A, xb_A]
  simp (disch := decide) only [Memref.IsWhole.read_unread, View.ld_unit_lit']

/-- The running sums. -/
theorem csv_A (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (x0 : Vec F S1x256x1024 .f32) (x4 : Vec F S1024x128 .bf16) (x12 : Vec F S1x128 .f32) (x13 : Vec F S1x128 .f32) :
    (kernelRun0_A.sl.r_11 c arg2 harg2 arg6 harg6 arg14 harg14 arg15 harg15 arg22 x0 x4 x12 x13) =
      (csV (k0_pay5 x0) x4 x12 x13) := by
  rw [cs_A, xb_A]
  simp (disch := decide) only [Memref.IsWhole.read_unread, View.ld_unit_lit']

/-- The activated channels. -/
theorem actv_A (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg12 : Memref Cert.KernelIdeal.sig .tc .vmem S4x4096 .f32) (harg12 : arg12.IsWhole) (arg13 : Memref Cert.KernelIdeal.sig .tc .vmem S1x4096 .f32) (harg13 : arg13.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (x0 : Vec F S1x256x1024 .f32) (x3 : Vec F S1024x4096 .bf16) (x10 : Vec F S4x4096 .f32) (x11 : Vec F S1x4096 .f32) :
    (arg25.view.read (Elt F) (arg25.view.writes (Elt F) arg25.view.junk (kernelRun0_A.sl.HS3_8 c arg2 harg2 arg5 harg5 arg12 harg12 arg13 harg13 arg22 arg24 x0 x3 x10 x11))) =
      (View.canon (actP (cbV (k0_pay5 x0) x3 (View.canon [⟨Rect.unit (s := S264x4096) ![0, 0] S8x4096.size inb_S264x4096_S8x4096_0_0, k0_pay3⟩])) x10 x11)) := by
  rw [View.read_writes_junk_eq_canon, act_A, cbx_A]
  simp (disch := decide) only [Memref.IsWhole.read_unread, View.ld_unit_lit']

/-- The normalised groups. -/
theorem ynv_A (c : Dev nD) (arg2 : Memref Cert.KernelIdeal.sig .tc .vmem S1x256x1024 .f32) (harg2 : arg2.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg22 : Memref Cert.KernelIdeal.sig .tc .vmem S256x1024 .bf16) (arg24 : Memref Cert.KernelIdeal.sig .tc .vmem S264x4096 .f32) (arg25 : Memref Cert.KernelIdeal.sig .tc .vmem S256x4096 .f32) (arg27 : Memref Cert.KernelIdeal.sig .tc .vmem S256x2048 .bf16) (arg28 : Memref Cert.KernelIdeal.sig .tc .vmem S8x128x256 .f32) (x0 : Vec F S1x256x1024 .f32) (x2 : Vec F S1024x2048 .bf16) (x3 : Vec F S1024x4096 .bf16) (x4 : Vec F S1024x128 .bf16) (x10 : Vec F S4x4096 .f32) (x11 : Vec F S1x4096 .f32) (x12 : Vec F S1x128 .f32) (x13 : Vec F S1x128 .f32) (x14 : Vec F S1x2048 .f32) (x15 : Vec F S1x2048 .f32) :
    (kernelRun0_A.sl.v2193 c arg2 harg2 arg4 harg4 arg5 harg5 arg6 harg6 arg12 harg12 arg13 harg13 arg14 harg14 arg15 harg15 arg16 harg16 arg17 harg17 arg22 arg24 arg25 arg27 arg28 x0 x2 x3 x4 x10 x11 x12 x13 x14 x15) =
      View.canon (ynP (k0_pay5 x0) (k0_pay31 (k0_pay5 x0) x4 x12) (csV (k0_pay5 x0) x4 x12 x13) (View.canon (actP (cbV (k0_pay5 x0) x3 (View.canon [⟨Rect.unit (s := S264x4096) ![0, 0] S8x4096.size inb_S264x4096_S8x4096_0_0, k0_pay3⟩])) x10 x11)) k0_pay4 x14 x15 x2) := by
  unfold kernelRun0_A.sl.v2193
  rw [rc, yn_A, xb_A, dtv_A, csv_A, actv_A, stx_A]
  simp (disch := decide) only [Memref.IsWhole.read_unread, View.ld_unit_lit']

/-- The pooled channels. -/
theorem poolv_A (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg8 : Memref Cert.KernelIdeal.sig .tc .vmem S4x256x256 .bf16) (harg8 : arg8.IsWhole) (arg18 : Memref Cert.KernelIdeal.sig .tc .vmem S1x1024 .f32) (harg18 : arg18.IsWhole) (arg22 : Memref Cert.KernelIdeal.sig .tc .vmem S256x1024 .bf16) (arg23 : Memref Cert.KernelIdeal.sig .tc .vmem S272x1024 .f32) (arg26 : Memref Cert.KernelIdeal.sig .tc .vmem S256x1024 .f32) (x0 : Vec F S1x256x1024 .f32) (x1 : Vec F S1024x1024 .bf16) (x6 : Vec F S4x256x256 .bf16) (x16 : Vec F S1x1024 .f32) :
    (kernelRun0_A.sl.v2212 c i arg2 harg2 arg3 harg3 arg8 harg8 arg18 harg18 arg22 arg23 arg26 x0 x1 x6 x16) =
      View.canon (poolP i (pbV (k0_pay5 x0) x1 (View.canon [⟨Rect.unit (s := S272x1024) ![0, 0] S16x1024.size inb_S272x1024_S16x1024_0_0, k0_pay2⟩])) x6 x16) := by
  unfold kernelRun0_A.sl.v2212
  rw [rc, pool_A, pbx_A]
  simp (disch := decide) only [Memref.IsWhole.read_unread, View.ld_unit_lit']

/-- The point's result. -/
theorem out_A (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 =
      outV (k0_pay5 x0) x0 (View.canon (ynP (k0_pay5 x0) (k0_pay31 (k0_pay5 x0) x4 x12) (csV (k0_pay5 x0) x4 x12 x13) (View.canon (actP (cbV (k0_pay5 x0) x3 (View.canon [⟨Rect.unit (s := S264x4096) ![0, 0] S8x4096.size inb_S264x4096_S8x4096_0_0, k0_pay3⟩])) x10 x11)) k0_pay4 x14 x15 x2)) (View.canon (poolP i (pbV (k0_pay5 x0) x1 (View.canon [⟨Rect.unit (s := S272x1024) ![0, 0] S16x1024.size inb_S272x1024_S16x1024_0_0, k0_pay2⟩])) x6 x16)) x5 x7 x8 x9 x17 x18 := by
  unfold out0_A_19
  rw [View.read_writes_junk_eq_canon]
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18).1 = [⟨Rect.unit (s := S1x256x1024) ![0, 0, 0] S1x256x1024.size inb_S1x256x1024_S1x256x1024_0_0_0,
      outV (kernelRun0_A.sl.v9 c arg2 harg2 arg22 x0) (View.ld (arg2.view.read (Elt F) (harg2.unread x0)) (Rect.unit (s := S1x256x1024) ![0, 0, 0] S1x256x1024.size inb_S1x256x1024_S1x256x1024_0_0_0)) (kernelRun0_A.sl.v2193 c arg2 harg2 arg4 harg4 arg5 harg5 arg6 harg6 arg12 harg12 arg13 harg13 arg14 harg14 arg15 harg15 arg16 harg16 arg17 harg17 arg22 arg24 arg25 arg27 arg28 x0 x2 x3 x4 x10 x11 x12 x13 x14 x15) (kernelRun0_A.sl.v2212 c i arg2 harg2 arg3 harg3 arg8 harg8 arg18 harg18 arg22 arg23 arg26 x0 x1 x6 x16) (arg7.view.read (Elt F) (harg7.unread x5)) (View.ld (arg9.view.read (Elt F) (harg9.unread x7)) (Rect.unit (s := S2048x1024) ![0, 0] S2048x1024.size inb_S2048x1024_S2048x1024_0_0)) (View.ld (arg10.view.read (Elt F) (harg10.unread x8)) (Rect.unit (s := S1024x1024) ![0, 0] S1024x1024.size inb_S1024x1024_S1024x1024_0_0)) (arg11.view.read (Elt F) (harg11.unread x9)) (View.ld (arg19.view.read (Elt F) (harg19.unread x17)) (Rect.unit (s := S1x1024) ![0, 0] S1x1024.size inb_S1x1024_S1x1024_0_0)) (View.ld (arg20.view.read (Elt F) (harg20.unread x18)) (Rect.unit (s := S1x1024) ![0, 0] S1x1024.size inb_S1x1024_S1x1024_0_0))⟩] := rfl
  rw [e, View.canon_cons_unit_lit' _ _ _ (by decide), ynv_A, poolv_A, xb_A]
  simp (disch := decide) only [Memref.IsWhole.read_unread, View.ld_unit_lit']

/-- What the chunk leaves for the next. -/
theorem s1_A (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) :
    ∃ L, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 =
      View.canon (⟨(Rect.unit (s := S272x1024) ![0, 0] S16x1024.size inb_S272x1024_S16x1024_0_0), k0_pay15 (View.ld (pbV (k0_pay5 x0) x1 (View.canon [⟨Rect.unit (s := S272x1024) ![0, 0] S16x1024.size inb_S272x1024_S16x1024_0_0, k0_pay2⟩])) (Rect.unit (s := S272x1024) ![256, 0] S16x1024.size inb_S272x1024_S16x1024_256_0))⟩ :: L) := by
  have h : (kernelRun0_A.sl.v142 c arg2 harg2 arg3 harg3 arg22 arg23 x0 x1) = View.ld (pbV (k0_pay5 x0) x1 (View.canon [⟨Rect.unit (s := S272x1024) ![0, 0] S16x1024.size inb_S272x1024_S16x1024_0_0, k0_pay2⟩])) (Rect.unit (s := S272x1024) ![256, 0] S16x1024.size inb_S272x1024_S16x1024_256_0) := by
      unfold kernelRun0_A.sl.v142
      rw [rc]
      exact congrArg (fun z => View.ld z _) ((View.read_writes_junk_eq_canon _ _).symm.trans (pbx_A c arg2 harg2 arg3 harg3 arg22 arg23 x0 x1))
  refine ⟨(kernelRun0_A.sl.HS1_2 c arg2 harg2 arg3 harg3 arg22 x0 x1), ?_⟩
  unfold sout0_A_1
  rw [View.read_writes_junk_eq_canon, ← h]
  rfl

/-- What the chunk leaves for the next. -/
theorem s2_A (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) :
    ∃ L, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 =
      View.canon (⟨(Rect.unit (s := S264x4096) ![0, 0] S8x4096.size inb_S264x4096_S8x4096_0_0), k0_pay30 (View.ld (cbV (k0_pay5 x0) x3 (View.canon [⟨Rect.unit (s := S264x4096) ![0, 0] S8x4096.size inb_S264x4096_S8x4096_0_0, k0_pay3⟩])) (Rect.unit (s := S264x4096) ![256, 0] S8x4096.size inb_S264x4096_S8x4096_256_0))⟩ :: L) := by
  have h : (kernelRun0_A.sl.v457 c arg2 harg2 arg5 harg5 arg22 arg24 x0 x3) = View.ld (cbV (k0_pay5 x0) x3 (View.canon [⟨Rect.unit (s := S264x4096) ![0, 0] S8x4096.size inb_S264x4096_S8x4096_0_0, k0_pay3⟩])) (Rect.unit (s := S264x4096) ![256, 0] S8x4096.size inb_S264x4096_S8x4096_256_0) := by
      unfold kernelRun0_A.sl.v457
      rw [rc]
      exact congrArg (fun z => View.ld z _) ((View.read_writes_junk_eq_canon _ _).symm.trans (cbx_A c arg2 harg2 arg5 harg5 arg22 arg24 x0 x3))
  refine ⟨(kernelRun0_A.sl.HS2_2 c arg2 harg2 arg5 harg5 arg22 x0 x3), ?_⟩
  unfold sout0_A_2
  rw [View.read_writes_junk_eq_canon, ← h]
  rfl

/-- The states the chunk leaves. -/
theorem s6_A (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) :
    ∃ L, sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 =
      View.canon (stP (k0_pay31 (k0_pay5 x0) x4 x12) (csV (k0_pay5 x0) x4 x12 x13) (View.canon (actP (cbV (k0_pay5 x0) x3 (View.canon [⟨Rect.unit (s := S264x4096) ![0, 0] S8x4096.size inb_S264x4096_S8x4096_0_0, k0_pay3⟩])) x10 x11)) k0_pay4 ++ L) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18).2.2.2.1 = [⟨(Rect.unit (s := S8x128x256) ![7, 0, 0] S1x128x256.size inb_S8x128x256_S1x128x256_7_0_0), gT7 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1990 c arg2 harg2 arg5 harg5 arg12 harg12 arg13 harg13 arg22 arg24 arg25 x0 x3 x10 x11) (kernelRun0_A.sl.v1991 c arg2 harg2 arg5 harg5 arg12 harg12 arg13 harg13 arg22 arg24 arg25 x0 x3 x10 x11) (kernelRun0_A.sl.v2144 c arg2 harg2 arg5 harg5 arg6 harg6 arg12 harg12 arg13 harg13 arg14 harg14 arg15 harg15 arg22 arg24 arg25 arg28 x0 x3 x4 x10 x11 x12 x13)⟩, ⟨(Rect.unit (s := S8x128x256) ![6, 0, 0] S1x128x256.size inb_S8x128x256_S1x128x256_6_0_0), gT6 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1787 c arg2 harg2 arg5 harg5 arg12 harg12 arg13 harg13 arg22 arg24 arg25 x0 x3 x10 x11) (kernelRun0_A.sl.v1788 c arg2 harg2 arg5 harg5 arg12 harg12 arg13 harg13 arg22 arg24 arg25 x0 x3 x10 x11) (kernelRun0_A.sl.v1941 c arg2 harg2 arg5 harg5 arg6 harg6 arg12 harg12 arg13 harg13 arg14 harg14 arg15 harg15 arg22 arg24 arg25 arg28 x0 x3 x4 x10 x11 x12 x13)⟩, ⟨(Rect.unit (s := S8x128x256) ![5, 0, 0] S1x128x256.size inb_S8x128x256_S1x128x256_5_0_0), gT5 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1584 c arg2 harg2 arg5 harg5 arg12 harg12 arg13 harg13 arg22 arg24 arg25 x0 x3 x10 x11) (kernelRun0_A.sl.v1585 c arg2 harg2 arg5 harg5 arg12 harg12 arg13 harg13 arg22 arg24 arg25 x0 x3 x10 x11) (kernelRun0_A.sl.v1738 c arg2 harg2 arg5 harg5 arg6 harg6 arg12 harg12 arg13 harg13 arg14 harg14 arg15 harg15 arg22 arg24 arg25 arg28 x0 x3 x4 x10 x11 x12 x13)⟩, ⟨(Rect.unit (s := S8x128x256) ![4, 0, 0] S1x128x256.size inb_S8x128x256_S1x128x256_4_0_0), gT4 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1381 c arg2 harg2 arg5 harg5 arg12 harg12 arg13 harg13 arg22 arg24 arg25 x0 x3 x10 x11) (kernelRun0_A.sl.v1382 c arg2 harg2 arg5 harg5 arg12 harg12 arg13 harg13 arg22 arg24 arg25 x0 x3 x10 x11) (kernelRun0_A.sl.v1535 c arg2 harg2 arg5 harg5 arg6 harg6 arg12 harg12 arg13 harg13 arg14 harg14 arg15 harg15 arg22 arg24 arg25 arg28 x0 x3 x4 x10 x11 x12 x13)⟩, ⟨(Rect.unit (s := S8x128x256) ![3, 0, 0] S1x128x256.size inb_S8x128x256_S1x128x256_3_0_0), gT3 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v1178 c arg2 harg2 arg5 harg5 arg12 harg12 arg13 harg13 arg22 arg24 arg25 x0 x3 x10 x11) (kernelRun0_A.sl.v1179 c arg2 harg2 arg5 harg5 arg12 harg12 arg13 harg13 arg22 arg24 arg25 x0 x3 x10 x11) (kernelRun0_A.sl.v1332 c arg2 harg2 arg5 harg5 arg6 harg6 arg12 harg12 arg13 harg13 arg14 harg14 arg15 harg15 arg22 arg24 arg25 arg28 x0 x3 x4 x10 x11 x12 x13)⟩, ⟨(Rect.unit (s := S8x128x256) ![2, 0, 0] S1x128x256.size inb_S8x128x256_S1x128x256_2_0_0), gT2 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v975 c arg2 harg2 arg5 harg5 arg12 harg12 arg13 harg13 arg22 arg24 arg25 x0 x3 x10 x11) (kernelRun0_A.sl.v976 c arg2 harg2 arg5 harg5 arg12 harg12 arg13 harg13 arg22 arg24 arg25 x0 x3 x10 x11) (kernelRun0_A.sl.v1129 c arg2 harg2 arg5 harg5 arg6 harg6 arg12 harg12 arg13 harg13 arg14 harg14 arg15 harg15 arg22 arg24 arg25 arg28 x0 x3 x4 x10 x11 x12 x13)⟩, ⟨(Rect.unit (s := S8x128x256) ![1, 0, 0] S1x128x256.size inb_S8x128x256_S1x128x256_1_0_0), gT1 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v772 c arg2 harg2 arg5 harg5 arg12 harg12 arg13 harg13 arg22 arg24 arg25 x0 x3 x10 x11) (kernelRun0_A.sl.v773 c arg2 harg2 arg5 harg5 arg12 harg12 arg13 harg13 arg22 arg24 arg25 x0 x3 x10 x11) (kernelRun0_A.sl.v926 c arg2 harg2 arg5 harg5 arg6 harg6 arg12 harg12 arg13 harg13 arg14 harg14 arg15 harg15 arg22 arg24 arg25 arg28 x0 x3 x4 x10 x11 x12 x13)⟩, ⟨(Rect.unit (s := S8x128x256) ![0, 0, 0] S1x128x256.size inb_S8x128x256_S1x128x256_0_0_0), gT0 (kernelRun0_A.sl.r_9 c arg2 harg2 arg6 harg6 arg14 harg14 arg22 x0 x4 x12) (kernelRun0_A.sl.r_11 c arg2 harg2 arg6 harg6 arg14 harg14 arg15 harg15 arg22 x0 x4 x12 x13) (kernelRun0_A.sl.v569 c arg2 harg2 arg5 harg5 arg12 harg12 arg13 harg13 arg22 arg24 arg25 x0 x3 x10 x11) (kernelRun0_A.sl.v570 c arg2 harg2 arg5 harg5 arg12 harg12 arg13 harg13 arg22 arg24 arg25 x0 x3 x10 x11) (kernelRun0_A.sl.v723 c arg28)⟩] ++ (kernelRun0_A.sl.HS6_1 ) := rfl
  have e2 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18).2.2.2.1 = stP (kernelRun0_A.sl.r_9 c arg2 harg2 arg6 harg6 arg14 harg14 arg22 x0 x4 x12) (kernelRun0_A.sl.r_11 c arg2 harg2 arg6 harg6 arg14 harg14 arg15 harg15 arg22 x0 x4 x12 x13) (arg25.view.read (Elt F) (arg25.view.writes (Elt F) arg25.view.junk (kernelRun0_A.sl.HS3_8 c arg2 harg2 arg5 harg5 arg12 harg12 arg13 harg13 arg22 arg24 x0 x3 x10 x11))) (arg28.view.read (Elt F) (arg28.view.writes (Elt F) arg28.view.junk (kernelRun0_A.sl.HS6_1 ))) ++ (kernelRun0_A.sl.HS6_1 ) := by
    rw [e, st7_A, st6_A, st5_A, st4_A, st3_A, st2_A, st1_A]; rfl
  refine ⟨(kernelRun0_A.sl.HS6_1 ), ?_⟩
  unfold sout0_A_6
  rw [View.read_writes_junk_eq_canon, e2, dtv_A, csv_A, actv_A, stx_A]

end Cert.Mix
-- ==== Proof.MixB.lean ====
/- The second half of the kernel's stages as the layer's formulas at an index. -/
module

public import proofs.«01_k».proof.Proof.MixStage
public import proofs.«01_k».proof.Proof.Gen.KernelIdeal.Frame

@[expose] public section

set_option maxRecDepth 16384

noncomputable section

namespace Cert.Mix

open Idealize Idealize.ShloMosaic Idealize.ShloMosaic.TcCoe Idealize.ShloMosaic.Tactic
open Cert.KernelIdeal Cert.KernelIdeal.Gen

variable {F : FTy → Type} [FloatOps F]

/-- The chunk's tokens, as stored. -/
theorem xb_B (c : Dev nD) (arg2 : Memref Cert.KernelIdeal.sig .tc .vmem S1x256x1024 .f32) (harg2 : arg2.IsWhole) (arg22 : Memref Cert.KernelIdeal.sig .tc .vmem S256x1024 .bf16) (x0 : Vec F S1x256x1024 .f32) :
    (kernelRun0_B.sl.v9 c arg2 harg2 arg22 x0) =
      k0_pay5 x0 := by
  unfold kernelRun0_B.sl.v9 kernelRun0_B.sl.HS0_1
  simp (disch := decide) only [View.readCov_unit_lit', View.readAt_eq_ld, Memref.IsWhole.read_unread, View.ld_unit_lit']

/-- The step sizes. -/
theorem dt_B (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg22 : Memref Cert.KernelIdeal.sig .tc .vmem S256x1024 .bf16) (x0 : Vec F S1x256x1024 .f32) (x4 : Vec F S1024x128 .bf16) (x12 : Vec F S1x128 .f32) :
    (kernelRun0_B.sl.r_14 c arg2 harg2 arg6 harg6 arg14 harg14 arg22 x0 x4 x12) =
      k0_pay31 (kernelRun0_B.sl.v9 c arg2 harg2 arg22 x0) (View.ld (arg6.view.read (Elt F) (harg6.unread x4)) (Rect.unit (s := S1024x128) ![0, 0] S1024x128.size inb_S1024x128_S1024x128_0_0)) (View.ld (arg14.view.read (Elt F) (harg14.unread x12)) (Rect.unit (s := S1x128) ![0, 0] S1x128.size inb_S1x128_S1x128_0_0)) := rfl

/-- The running sums. -/
theorem cs_B (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (x0 : Vec F S1x256x1024 .f32) (x4 : Vec F S1024x128 .bf16) (x12 : Vec F S1x128 .f32) (x13 : Vec F S1x128 .f32) :
    (kernelRun0_B.sl.r_16 c arg2 harg2 arg6 harg6 arg14 harg14 arg15 harg15 arg22 x0 x4 x12 x13) =
      csV (kernelRun0_B.sl.v9 c arg2 harg2 arg22 x0) (View.ld (arg6.view.read (Elt F) (harg6.unread x4)) (Rect.unit (s := S1024x128) ![0, 0] S1024x128.size inb_S1024x128_S1024x128_0_0)) (View.ld (arg14.view.read (Elt F) (harg14.unread x12)) (Rect.unit (s := S1x128) ![0, 0] S1x128.size inb_S1x128_S1x128_0_0)) (View.ld (arg15.view.read (Elt F) (harg15.unread x13)) (Rect.unit (s := S1x128) ![0, 0] S1x128.size inb_S1x128_S1x128_0_0)) := rfl

/-- The groups' pieces. -/
theorem yn_B (c : Dev nD) (arg2 : Memref Cert.KernelIdeal.sig .tc .vmem S1x256x1024 .f32) (harg2 : arg2.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg22 : Memref Cert.KernelIdeal.sig .tc .vmem S256x1024 .bf16) (arg24 : Memref Cert.KernelIdeal.sig .tc .vmem S264x4096 .f32) (harg24 : arg24.IsWhole) (arg25 : Memref Cert.KernelIdeal.sig .tc .vmem S256x4096 .f32) (arg28 : Memref Cert.KernelIdeal.sig .tc .vmem S8x128x256 .f32) (harg28 : arg28.IsWhole) (x0 : Vec F S1x256x1024 .f32) (x2 : Vec F S1024x2048 .bf16) (x3 : Vec F S1024x4096 .bf16) (x4 : Vec F S1024x128 .bf16) (x10 : Vec F S4x4096 .f32) (x11 : Vec F S1x4096 .f32) (x12 : Vec F S1x128 .f32) (x13 : Vec F S1x128 .f32) (x14 : Vec F S1x2048 .f32) (x15 : Vec F S1x2048 .f32) (xs2 : Vec F S264x4096 .f32) (xs6 : Vec F S8x128x256 .f32) :
    (kernelRun0_B.sl.HS5_8 c arg2 harg2 arg4 harg4 arg5 harg5 arg6 harg6 arg12 harg12 arg13 harg13 arg14 harg14 arg15 harg15 arg16 harg16 arg17 harg17 arg22 arg24 harg24 arg25 arg28 harg28 x0 x2 x3 x4 x10 x11 x12 x13 x14 x15 xs2 xs6) =
      ynP (kernelRun0_B.sl.v9 c arg2 harg2 arg22 x0) (kernelRun0_B.sl.r_14 c arg2 harg2 arg6 harg6 arg14 harg14 arg22 x0 x4 x12) (kernelRun0_B.sl.r_16 c arg2 harg2 arg6 harg6 arg14 harg14 arg15 harg15 arg22 x0 x4 x12 x13) (arg25.view.read (Elt F) (arg25.view.writes (Elt F) arg25.view.junk (kernelRun0_B.sl.HS3_8 c arg2 harg2 arg5 harg5 arg12 harg12 arg13 harg13 arg22 arg24 harg24 x0 x3 x10 x11 xs2))) (arg28.view.read (Elt F) (harg28.unread xs6)) (arg16.view.read (Elt F) (harg16.unread x14)) (arg17.view.read (Elt F) (harg17.unread x15)) (arg4.view.read (Elt F) (harg4.unread x2)) := rfl

/-- A covered load, as a load of the whole scratch. -/
theorem cv_v_B (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (xs1 : Vec F S272x1024 .f32) :
    (kernelRun0_B.sl.v c arg2 harg2 arg3 harg3 arg22 arg23 x0 x1) =
      View.ld (arg23.view.read (Elt F) (arg23.view.writes (Elt F) (harg23.unread xs1) (kernelRun0_B.sl.HS1_1 c arg2 harg2 arg3 harg3 arg22 x0 x1))) (Rect.unit (s := S272x1024) ![16, 512] S256x256.size inb_S272x1024_S256x256_16_512) := by
  unfold kernelRun0_B.sl.v kernelRun0_B.sl.HS1_1
  exact (View.readAt_writes_of_cover _ _ _ _ fun j => ⟨_, List.mem_singleton.mpr rfl, LoadRect.idx_mem_of_within (by dsimp only; decide) j⟩).symm

/-- A covered load, as a load of the whole scratch. -/
theorem cv_v142_B (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (xs1 : Vec F S272x1024 .f32) :
    (kernelRun0_B.sl.v142 c arg2 harg2 arg3 harg3 arg22 arg23 x0 x1) =
      View.ld (arg23.view.read (Elt F) (arg23.view.writes (Elt F) (harg23.unread xs1) (kernelRun0_B.sl.HS1_1 c arg2 harg2 arg3 harg3 arg22 x0 x1))) (Rect.unit (s := S272x1024) ![256, 0] S16x1024.size inb_S272x1024_S16x1024_256_0) := by
  unfold kernelRun0_B.sl.v142 kernelRun0_B.sl.HS1_1
  exact (View.readAt_writes_of_cover _ _ _ _ fun j => ⟨_, List.mem_singleton.mpr rfl, LoadRect.idx_mem_of_within (by dsimp only; decide) j⟩).symm

/-- A covered load, as a load of the whole scratch. -/
theorem cv_v22_B (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (xs1 : Vec F S272x1024 .f32) :
    (kernelRun0_B.sl.v22 c arg2 harg2 arg3 harg3 arg22 arg23 x0 x1) =
      View.ld (arg23.view.read (Elt F) (arg23.view.writes (Elt F) (harg23.unread xs1) (kernelRun0_B.sl.HS1_1 c arg2 harg2 arg3 harg3 arg22 x0 x1))) (Rect.unit (s := S272x1024) ![16, 0] S256x256.size inb_S272x1024_S256x256_16_0) := by
  unfold kernelRun0_B.sl.v22 kernelRun0_B.sl.HS1_1
  exact (View.readAt_writes_of_cover _ _ _ _ fun j => ⟨_, List.mem_singleton.mpr rfl, LoadRect.idx_mem_of_within (by dsimp only; decide) j⟩).symm

/-- A covered load, as a load of the whole scratch. -/
theorem cv_v41_B (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (xs1 : Vec F S272x1024 .f32) :
    (kernelRun0_B.sl.v41 c arg2 harg2 arg3 harg3 arg22 arg23 x0 x1) =
      View.ld (arg23.view.read (Elt F) (arg23.view.writes (Elt F) (harg23.unread xs1) (kernelRun0_B.sl.HS1_1 c arg2 harg2 arg3 harg3 arg22 x0 x1))) (Rect.unit (s := S272x1024) ![16, 256] S256x256.size inb_S272x1024_S256x256_16_256) := by
  unfold kernelRun0_B.sl.v41 kernelRun0_B.sl.HS1_1
  exact (View.readAt_writes_of_cover _ _ _ _ fun j => ⟨_, List.mem_singleton.mpr rfl, LoadRect.idx_mem_of_within (by dsimp only; decide) j⟩).symm

/-- A covered load, as a load of the whole scratch. -/
theorem cv_v95_B (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (xs1 : Vec F S272x1024 .f32) :
    (kernelRun0_B.sl.v95 c arg2 harg2 arg3 harg3 arg22 arg23 x0 x1) =
      View.ld (arg23.view.read (Elt F) (arg23.view.writes (Elt F) (harg23.unread xs1) (kernelRun0_B.sl.HS1_1 c arg2 harg2 arg3 harg3 arg22 x0 x1))) (Rect.unit (s := S272x1024) ![16, 768] S256x256.size inb_S272x1024_S256x256_16_768) := by
  unfold kernelRun0_B.sl.v95 kernelRun0_B.sl.HS1_1
  exact (View.readAt_writes_of_cover _ _ _ _ fun j => ⟨_, List.mem_singleton.mpr rfl, LoadRect.idx_mem_of_within (by dsimp only; decide) j⟩).symm

/-- A covered load, as a load of the whole scratch. -/
theorem cv_v170_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v170 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 0] S256x512.size inb_S264x4096_S256x512_8_0) := by
  unfold kernelRun0_B.sl.v170 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v208_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v208 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 512] S256x512.size inb_S264x4096_S256x512_8_512) := by
  unfold kernelRun0_B.sl.v208 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v246_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v246 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 1024] S256x512.size inb_S264x4096_S256x512_8_1024) := by
  unfold kernelRun0_B.sl.v246 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v284_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v284 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 1536] S256x512.size inb_S264x4096_S256x512_8_1536) := by
  unfold kernelRun0_B.sl.v284 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v322_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v322 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 2048] S256x512.size inb_S264x4096_S256x512_8_2048) := by
  unfold kernelRun0_B.sl.v322 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v360_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v360 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 2560] S256x512.size inb_S264x4096_S256x512_8_2560) := by
  unfold kernelRun0_B.sl.v360 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v398_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v398 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 3072] S256x512.size inb_S264x4096_S256x512_8_3072) := by
  unfold kernelRun0_B.sl.v398 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v436_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v436 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![8, 3584] S256x512.size inb_S264x4096_S256x512_8_3584) := by
  unfold kernelRun0_B.sl.v436 kernelRun0_B.sl.HS2_1
  exact (View.readAt_writes_of_cover _ _ _ _ fun j => ⟨_, List.mem_singleton.mpr rfl, LoadRect.idx_mem_of_within (by dsimp only; decide) j⟩).symm

/-- A covered load, as a load of the whole scratch. -/
theorem cv_v457_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (kernelRun0_B.sl.v457 c arg2 harg2 arg5 harg5 arg22 arg24 x0 x3) =
      View.ld (arg24.view.read (Elt F) (arg24.view.writes (Elt F) (harg24.unread xs2) (kernelRun0_B.sl.HS2_1 c arg2 harg2 arg5 harg5 arg22 x0 x3))) (Rect.unit (s := S264x4096) ![256, 0] S8x4096.size inb_S264x4096_S8x4096_256_0) := by
  unfold kernelRun0_B.sl.v457 kernelRun0_B.sl.HS2_1
  exact (View.readAt_writes_of_cover _ _ _ _ fun j => ⟨_, List.mem_singleton.mpr rfl, LoadRect.idx_mem_of_within (by dsimp only; decide) j⟩).symm

/-- The convolved channels' pieces. -/
theorem act_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg12 : Memref Cert.KernelIdeal.sig .tc .vmem S4x4096 .f32) (harg12 : arg12.IsWhole) (arg13 : Memref Cert.KernelIdeal.sig .tc .vmem S1x4096 .f32) (harg13 : arg13.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (x10 : Vec F S4x4096 .f32) (x11 : Vec F S1x4096 .f32) (xs2 : Vec F S264x4096 .f32) :
    (kernelRun0_B.sl.HS3_8 c arg2 harg2 arg5 harg5 arg12 harg12 arg13 harg13 arg22 arg24 harg24 x0 x3 x10 x11 xs2) =
      actP (arg24.view.read (Elt F) (arg24.view.writes (Elt F) (harg24.unread xs2) (kernelRun0_B.sl.HS2_1 c arg2 harg2 arg5 harg5 arg22 x0 x3))) (arg12.view.read (Elt F) (harg12.unread x10)) (arg13.view.read (Elt F) (harg13.unread x11)) := by
  have e : (kernelRun0_B.sl.HS3_8 c arg2 harg2 arg5 harg5 arg12 harg12 arg13 harg13 arg22 arg24 harg24 x0 x3 x10 x11 xs2) = [⟨(Rect.unit (s := S256x4096) ![0, 3584] S256x512.size inb_S256x4096_S256x512_0_3584), k0_pay27 (View.ld (arg24.view.read (Elt F) (arg24.view.writes (Elt F) (harg24.unread xs2) (kernelRun0_B.sl.HS2_1 c arg2 harg2 arg5 harg5 arg22 x0 x3))) (Rect.unit (s := S264x4096) ![5, 3584] S256x512.size inb_S264x4096_S256x512_5_3584)) (View.ld (arg12.view.read (Elt F) (harg12.unread x10)) (Rect.unit (s := S4x4096) ![0, 3584] S1x512.size inb_S4x4096_S1x512_0_3584)) (View.ld (arg24.view.read (Elt F) (arg24.view.writes (Elt F) (harg24.unread xs2) (kernelRun0_B.sl.HS2_1 c arg2 harg2 arg5 harg5 arg22 x0 x3))) (Rect.unit (s := S264x4096) ![6, 3584] S256x512.size inb_S264x4096_S256x512_6_3584)) (View.ld (arg12.view.read (Elt F) (harg12.unread x10)) (Rect.unit (s := S4x4096) ![1, 3584] S1x512.size inb_S4x4096_S1x512_1_3584)) (View.ld (arg24.view.read (Elt F) (arg24.view.writes (Elt F) (harg24.unread xs2) (kernelRun0_B.sl.HS2_1 c arg2 harg2 arg5 harg5 arg22 x0 x3))) (Rect.unit (s := S264x4096) ![7, 3584] S256x512.size inb_S264x4096_S256x512_7_3584)) (View.ld (arg12.view.read (Elt F) (harg12.unread x10)) (Rect.unit (s := S4x4096) ![2, 3584] S1x512.size inb_S4x4096_S1x512_2_3584)) (kernelRun0_B.sl.v436 c arg2 harg2 arg5 harg5 arg22 arg24 x0 x3) (View.ld (arg12.view.read (Elt F) (harg12.unread x10)) (Rect.unit (s := S4x4096) ![3, 3584] S1x512.size inb_S4x4096_S1x512_3_3584)) (View.ld (arg13.view.read (Elt F) (harg13.unread x11)) (Rect.unit (s := S1x4096) ![0, 3584] S1x512.size inb_S1x4096_S1x512_0_3584))⟩, ⟨(Rect.unit (s := S256x4096) ![0, 3072] S256x512.size inb_S256x4096_S256x512_0_3072), k0_pay27 (View.ld (arg24.view.read (Elt F) (arg24.view.writes (Elt F) (harg24.unread xs2) (kernelRun0_B.sl.HS2_1 c arg2 harg2 arg5 harg5 arg22 x0 x3))) (Rect.unit (s := S264x4096) ![5, 3072] S256x512.size inb_S264x4096_S256x512_5_3072)) (View.ld (arg12.view.read (Elt F) (harg12.unread x10)) (Rect.unit (s := S4x4096) ![0, 3072] S1x512.size inb_S4x4096_S1x512_0_3072)) (View.ld (arg24.view.read (Elt F) (arg24.view.writes (Elt F) (harg24.unread xs2) (kernelRun0_B.sl.HS2_1 c arg2 harg2 arg5 harg5 arg22 x0 x3))) (Rect.unit (s := S264x4096) ![6, 3072] S256x512.size inb_S264x4096_S256x512_6_3072)) (View.ld (arg12.view.read (Elt F) (harg12.unread x10)) (Rect.unit (s := S4x4096) ![1, 3072] S1x512.size inb_S4x4096_S1x512_1_3072)) (View.ld (arg24.view.read (Elt F) (arg24.view.writes (Elt F) (harg24.unread xs2) (kernelRun0_B.sl.HS2_1 c arg2 harg2 arg5 harg5 arg22 x0 x3))) (Rect.unit (s := S264x4096) ![7, 3072] S256x512.size inb_S264x4096_S256x512_7_3072)) (View.ld (arg12.view.read (Elt F) (harg12.unread x10)) (Rect.unit (s := S4x4096) ![2, 3072] S1x512.size inb_S4x4096_S1x512_2_3072)) (kernelRun0_B.sl.v398 c arg2 harg2 arg5 harg5 arg22 arg24 x0 x3) (View.ld (arg12.view.read (Elt F) (harg12.unread x10)) (Rect.unit (s := S4x4096) ![3, 3072] S1x512.size inb_S4x4096_S1x512_3_3072)) (View.ld (arg13.view.read (Elt F) (harg13.unread x11)) (Rect.unit (s := S1x4096) ![0, 3072] S1x512.size inb_S1x4096_S1x512_0_3072))⟩, ⟨(Rect.unit (s := S256x4096) ![0, 2560] S256x512.size inb_S256x4096_S256x512_0_2560), k0_pay27 (View.ld (arg24.view.read (Elt F) (arg24.view.writes (Elt F) (harg24.unread xs2) (kernelRun0_B.sl.HS2_1 c arg2 harg2 arg5 harg5 arg22 x0 x3))) (Rect.unit (s := S264x4096) ![5, 2560] S256x512.size inb_S264x4096_S256x512_5_2560)) (View.ld (arg12.view.read (Elt F) (harg12.unread x10)) (Rect.unit (s := S4x4096) ![0, 2560] S1x512.size inb_S4x4096_S1x512_0_2560)) (View.ld (arg24.view.read (Elt F) (arg24.view.writes (Elt F) (harg24.unread xs2) (kernelRun0_B.sl.HS2_1 c arg2 harg2 arg5 harg5 arg22 x0 x3))) (Rect.unit (s := S264x4096) ![6, 2560] S256x512.size inb_S264x4096_S256x512_6_2560)) (View.ld (arg12.view.read (Elt F) (harg12.unread x10)) (Rect.unit (s := S4x4096) ![1, 2560] S1x512.size inb_S4x4096_S1x512_1_2560)) (View.ld (arg24.view.read (Elt F) (arg24.view.writes (Elt F) (harg24.unread xs2) (kernelRun0_B.sl.HS2_1 c arg2 harg2 arg5 harg5 arg22 x0 x3))) (Rect.unit (s := S264x4096) ![7, 2560] S256x512.size inb_S264x4096_S256x512_7_2560)) (View.ld (arg12.view.read (Elt F) (harg12.unread x10)) (Rect.unit (s := S4x4096) ![2, 2560] S1x512.size inb_S4x4096_S1x512_2_2560)) (kernelRun0_B.sl.v360 c arg2 harg2 arg5 harg5 arg22 arg24 x0 x3) (View.ld (arg12.view.read (Elt F) (harg12.unread x10)) (Rect.unit (s := S4x4096) ![3, 2560] S1x512.size inb_S4x4096_S1x512_3_2560)) (View.ld (arg13.view.read (Elt F) (harg13.unread x11)) (Rect.unit (s := S1x4096) ![0, 2560] S1x512.size inb_S1x4096_S1x512_0_2560))⟩, ⟨(Rect.unit (s := S256x4096) ![0, 2048] S256x512.size inb_S256x4096_S256x512_0_2048), k0_pay27 (View.ld (arg24.view.read (Elt F) (arg24.view.writes (Elt F) (harg24.unread xs2) (kernelRun0_B.sl.HS2_1 c arg2 harg2 arg5 harg5 arg22 x0 x3))) (Rect.unit (s := S264x4096) ![5, 2048] S256x512.size inb_S264x4096_S256x512_5_2048)) (View.ld (arg12.view.read (Elt F) (harg12.unread x10)) (Rect.unit (s := S4x4096) ![0, 2048] S1x512.size inb_S4x4096_S1x512_0_2048)) (View.ld (arg24.view.read (Elt F) (arg24.view.writes (Elt F) (harg24.unread xs2) (kernelRun0_B.sl.HS2_1 c arg2 harg2 arg5 harg5 arg22 x0 x3))) (Rect.unit (s := S264x4096) ![6, 2048] S256x512.size inb_S264x4096_S256x512_6_2048)) (View.ld (arg12.view.read (Elt F) (harg12.unread x10)) (Rect.unit (s := S4x4096) ![1, 2048] S1x512.size inb_S4x4096_S1x512_1_2048)) (View.ld (arg24.view.read (Elt F) (arg24.view.writes (Elt F) (harg24.unread xs2) (kernelRun0_B.sl.HS2_1 c arg2 harg2 arg5 harg5 arg22 x0 x3))) (Rect.unit (s := S264x4096) ![7, 2048] S256x512.size inb_S264x4096_S256x512_7_2048)) (View.ld (arg12.view.read (Elt F) (harg12.unread x10)) (Rect.unit (s := S4x4096) ![2, 2048] S1x512.size inb_S4x4096_S1x512_2_2048)) (kernelRun0_B.sl.v322 c arg2 harg2 arg5 harg5 arg22 arg24 x0 x3) (View.ld (arg12.view.read (Elt F) (harg12.unread x10)) (Rect.unit (s := S4x4096) ![3, 2048] S1x512.size inb_S4x4096_S1x512_3_2048)) (View.ld (arg13.view.read (Elt F) (harg13.unread x11)) (Rect.unit (s := S1x4096) ![0, 2048] S1x512.size inb_S1x4096_S1x512_0_2048))⟩, ⟨(Rect.unit (s := S256x4096) ![0, 1536] S256x512.size inb_S256x4096_S256x512_0_1536), k0_pay27 (View.ld (arg24.view.read (Elt F) (arg24.view.writes (Elt F) (harg24.unread xs2) (kernelRun0_B.sl.HS2_1 c arg2 harg2 arg5 harg5 arg22 x0 x3))) (Rect.unit (s := S264x4096) ![5, 1536] S256x512.size inb_S264x4096_S256x512_5_1536)) (View.ld (arg12.view.read (Elt F) (harg12.unread x10)) (Rect.unit (s := S4x4096) ![0, 1536] S1x512.size inb_S4x4096_S1x512_0_1536)) (View.ld (arg24.view.read (Elt F) (arg24.view.writes (Elt F) (harg24.unread xs2) (kernelRun0_B.sl.HS2_1 c arg2 harg2 arg5 harg5 arg22 x0 x3))) (Rect.unit (s := S264x4096) ![6, 1536] S256x512.size inb_S264x4096_S256x512_6_1536)) (View.ld (arg12.view.read (Elt F) (harg12.unread x10)) (Rect.unit (s := S4x4096) ![1, 1536] S1x512.size inb_S4x4096_S1x512_1_1536)) (View.ld (arg24.view.read (Elt F) (arg24.view.writes (Elt F) (harg24.unread xs2) (kernelRun0_B.sl.HS2_1 c arg2 harg2 arg5 harg5 arg22 x0 x3))) (Rect.unit (s := S264x4096) ![7, 1536] S256x512.size inb_S264x4096_S256x512_7_1536)) (View.ld (arg12.view.read (Elt F) (harg12.unread x10)) (Rect.unit (s := S4x4096) ![2, 1536] S1x512.size inb_S4x4096_S1x512_2_1536)) (kernelRun0_B.sl.v284 c arg2 harg2 arg5 harg5 arg22 arg24 x0 x3) (View.ld (arg12.view.read (Elt F) (harg12.unread x10)) (Rect.unit (s := S4x4096) ![3, 1536] S1x512.size inb_S4x4096_S1x512_3_1536)) (View.ld (arg13.view.read (Elt F) (harg13.unread x11)) (Rect.unit (s := S1x4096) ![0, 1536] S1x512.size inb_S1x4096_S1x512_0_1536))⟩, ⟨(Rect.unit (s := S256x4096) ![0, 1024] S256x512.size inb_S256x4096_S256x512_0_1024), k0_pay27 (View.ld (arg24.view.read (Elt F) (arg24.view.writes (Elt F) (harg24.unread xs2) (kernelRun0_B.sl.HS2_1 c arg2 harg2 arg5 harg5 arg22 x0 x3))) (Rect.unit (s := S264x4096) ![5, 1024] S256x512.size inb_S264x4096_S256x512_5_1024)) (View.ld (arg12.view.read (Elt F) (harg12.unread x10)) (Rect.unit (s := S4x4096) ![0, 1024] S1x512.size inb_S4x4096_S1x512_0_1024)) (View.ld (arg24.view.read (Elt F) (arg24.view.writes (Elt F) (harg24.unread xs2) (kernelRun0_B.sl.HS2_1 c arg2 harg2 arg5 harg5 arg22 x0 x3))) (Rect.unit (s := S264x4096) ![6, 1024] S256x512.size inb_S264x4096_S256x512_6_1024)) (View.ld (arg12.view.read (Elt F) (harg12.unread x10)) (Rect.unit (s := S4x4096) ![1, 1024] S1x512.size inb_S4x4096_S1x512_1_1024)) (View.ld (arg24.view.read (Elt F) (arg24.view.writes (Elt F) (harg24.unread xs2) (kernelRun0_B.sl.HS2_1 c arg2 harg2 arg5 harg5 arg22 x0 x3))) (Rect.unit (s := S264x4096) ![7, 1024] S256x512.size inb_S264x4096_S256x512_7_1024)) (View.ld (arg12.view.read (Elt F) (harg12.unread x10)) (Rect.unit (s := S4x4096) ![2, 1024] S1x512.size inb_S4x4096_S1x512_2_1024)) (kernelRun0_B.sl.v246 c arg2 harg2 arg5 harg5 arg22 arg24 x0 x3) (View.ld (arg12.view.read (Elt F) (harg12.unread x10)) (Rect.unit (s := S4x4096) ![3, 1024] S1x512.size inb_S4x4096_S1x512_3_1024)) (View.ld (arg13.view.read (Elt F) (harg13.unread x11)) (Rect.unit (s := S1x4096) ![0, 1024] S1x512.size inb_S1x4096_S1x512_0_1024))⟩, ⟨(Rect.unit (s := S256x4096) ![0, 512] S256x512.size inb_S256x4096_S256x512_0_512), k0_pay27 (View.ld (arg24.view.read (Elt F) (arg24.view.writes (Elt F) (harg24.unread xs2) (kernelRun0_B.sl.HS2_1 c arg2 harg2 arg5 harg5 arg22 x0 x3))) (Rect.unit (s := S264x4096) ![5, 512] S256x512.size inb_S264x4096_S256x512_5_512)) (View.ld (arg12.view.read (Elt F) (harg12.unread x10)) (Rect.unit (s := S4x4096) ![0, 512] S1x512.size inb_S4x4096_S1x512_0_512)) (View.ld (arg24.view.read (Elt F) (arg24.view.writes (Elt F) (harg24.unread xs2) (kernelRun0_B.sl.HS2_1 c arg2 harg2 arg5 harg5 arg22 x0 x3))) (Rect.unit (s := S264x4096) ![6, 512] S256x512.size inb_S264x4096_S256x512_6_512)) (View.ld (arg12.view.read (Elt F) (harg12.unread x10)) (Rect.unit (s := S4x4096) ![1, 512] S1x512.size inb_S4x4096_S1x512_1_512)) (View.ld (arg24.view.read (Elt F) (arg24.view.writes (Elt F) (harg24.unread xs2) (kernelRun0_B.sl.HS2_1 c arg2 harg2 arg5 harg5 arg22 x0 x3))) (Rect.unit (s := S264x4096) ![7, 512] S256x512.size inb_S264x4096_S256x512_7_512)) (View.ld (arg12.view.read (Elt F) (harg12.unread x10)) (Rect.unit (s := S4x4096) ![2, 512] S1x512.size inb_S4x4096_S1x512_2_512)) (kernelRun0_B.sl.v208 c arg2 harg2 arg5 harg5 arg22 arg24 x0 x3) (View.ld (arg12.view.read (Elt F) (harg12.unread x10)) (Rect.unit (s := S4x4096) ![3, 512] S1x512.size inb_S4x4096_S1x512_3_512)) (View.ld (arg13.view.read (Elt F) (harg13.unread x11)) (Rect.unit (s := S1x4096) ![0, 512] S1x512.size inb_S1x4096_S1x512_0_512))⟩, ⟨(Rect.unit (s := S256x4096) ![0, 0] S256x512.size inb_S256x4096_S256x512_0_0), k0_pay27 (View.ld (arg24.view.read (Elt F) (arg24.view.writes (Elt F) (harg24.unread xs2) (kernelRun0_B.sl.HS2_1 c arg2 harg2 arg5 harg5 arg22 x0 x3))) (Rect.unit (s := S264x4096) ![5, 0] S256x512.size inb_S264x4096_S256x512_5_0)) (View.ld (arg12.view.read (Elt F) (harg12.unread x10)) (Rect.unit (s := S4x4096) ![0, 0] S1x512.size inb_S4x4096_S1x512_0_0)) (View.ld (arg24.view.read (Elt F) (arg24.view.writes (Elt F) (harg24.unread xs2) (kernelRun0_B.sl.HS2_1 c arg2 harg2 arg5 harg5 arg22 x0 x3))) (Rect.unit (s := S264x4096) ![6, 0] S256x512.size inb_S264x4096_S256x512_6_0)) (View.ld (arg12.view.read (Elt F) (harg12.unread x10)) (Rect.unit (s := S4x4096) ![1, 0] S1x512.size inb_S4x4096_S1x512_1_0)) (View.ld (arg24.view.read (Elt F) (arg24.view.writes (Elt F) (harg24.unread xs2) (kernelRun0_B.sl.HS2_1 c arg2 harg2 arg5 harg5 arg22 x0 x3))) (Rect.unit (s := S264x4096) ![7, 0] S256x512.size inb_S264x4096_S256x512_7_0)) (View.ld (arg12.view.read (Elt F) (harg12.unread x10)) (Rect.unit (s := S4x4096) ![2, 0] S1x512.size inb_S4x4096_S1x512_2_0)) (kernelRun0_B.sl.v170 c arg2 harg2 arg5 harg5 arg22 arg24 x0 x3) (View.ld (arg12.view.read (Elt F) (harg12.unread x10)) (Rect.unit (s := S4x4096) ![3, 0] S1x512.size inb_S4x4096_S1x512_3_0)) (View.ld (arg13.view.read (Elt F) (harg13.unread x11)) (Rect.unit (s := S1x4096) ![0, 0] S1x512.size inb_S1x4096_S1x512_0_0))⟩] := rfl
  rw [e, cv_v436_B, cv_v398_B, cv_v360_B, cv_v322_B, cv_v284_B, cv_v246_B, cv_v208_B, cv_v170_B]
  rfl

/-- The pooled channels' pieces. -/
theorem pool_B (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg8 : Memref Cert.KernelIdeal.sig .tc .vmem S4x256x256 .bf16) (harg8 : arg8.IsWhole) (arg18 : Memref Cert.KernelIdeal.sig .tc .vmem S1x1024 .f32) (harg18 : arg18.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (x6 : Vec F S4x256x256 .bf16) (x16 : Vec F S1x1024 .f32) (xs1 : Vec F S272x1024 .f32) :
    (kernelRun0_B.sl.HS4_4 c i arg2 harg2 arg3 harg3 arg8 harg8 arg18 harg18 arg22 arg23 harg23 x0 x1 x6 x16 xs1) =
      poolP i (arg23.view.read (Elt F) (arg23.view.writes (Elt F) (harg23.unread xs1) (kernelRun0_B.sl.HS1_1 c arg2 harg2 arg3 harg3 arg22 x0 x1))) (arg8.view.read (Elt F) (harg8.unread x6)) (arg18.view.read (Elt F) (harg18.unread x16)) := by
  have e : (kernelRun0_B.sl.HS4_4 c i arg2 harg2 arg3 harg3 arg8 harg8 arg18 harg18 arg22 arg23 harg23 x0 x1 x6 x16 xs1) = [⟨(Rect.unit (s := S256x1024) ![0, 768] S256x256.size inb_S256x1024_S256x256_0_768), k0_pay14 (kernelRun0_B.sl.v95 c arg2 harg2 arg3 harg3 arg22 arg23 x0 x1) (k0_pay12 (kernelRun0_B.sl.v95 c arg2 harg2 arg3 harg3 arg22 arg23 x0 x1) (View.ld (arg23.view.read (Elt F) (arg23.view.writes (Elt F) (harg23.unread xs1) (kernelRun0_B.sl.HS1_1 c arg2 harg2 arg3 harg3 arg22 x0 x1))) (Rect.unit (s := S272x1024) ![15, 768] S256x256.size inb_S272x1024_S256x256_15_768)) (View.ld (arg23.view.read (Elt F) (arg23.view.writes (Elt F) (harg23.unread xs1) (kernelRun0_B.sl.HS1_1 c arg2 harg2 arg3 harg3 arg22 x0 x1))) (Rect.unit (s := S272x1024) ![14, 768] S256x256.size inb_S272x1024_S256x256_14_768)) (View.ld (arg23.view.read (Elt F) (arg23.view.writes (Elt F) (harg23.unread xs1) (kernelRun0_B.sl.HS1_1 c arg2 harg2 arg3 harg3 arg22 x0 x1))) (Rect.unit (s := S272x1024) ![13, 768] S256x256.size inb_S272x1024_S256x256_13_768)) (View.ld (arg23.view.read (Elt F) (arg23.view.writes (Elt F) (harg23.unread xs1) (kernelRun0_B.sl.HS1_1 c arg2 harg2 arg3 harg3 arg22 x0 x1))) (Rect.unit (s := S272x1024) ![12, 768] S256x256.size inb_S272x1024_S256x256_12_768)) (View.ld (arg23.view.read (Elt F) (arg23.view.writes (Elt F) (harg23.unread xs1) (kernelRun0_B.sl.HS1_1 c arg2 harg2 arg3 harg3 arg22 x0 x1))) (Rect.unit (s := S272x1024) ![11, 768] S256x256.size inb_S272x1024_S256x256_11_768)) (View.ld (arg23.view.read (Elt F) (arg23.view.writes (Elt F) (harg23.unread xs1) (kernelRun0_B.sl.HS1_1 c arg2 harg2 arg3 harg3 arg22 x0 x1))) (Rect.unit (s := S272x1024) ![10, 768] S256x256.size inb_S272x1024_S256x256_10_768)) (View.ld (arg23.view.read (Elt F) (arg23.view.writes (Elt F) (harg23.unread xs1) (kernelRun0_B.sl.HS1_1 c arg2 harg2 arg3 harg3 arg22 x0 x1))) (Rect.unit (s := S272x1024) ![9, 768] S256x256.size inb_S272x1024_S256x256_9_768)) (View.ld (arg23.view.read (Elt F) (arg23.view.writes (Elt F) (harg23.unread xs1) (kernelRun0_B.sl.HS1_1 c arg2 harg2 arg3 harg3 arg22 x0 x1))) (Rect.unit (s := S272x1024) ![8, 768] S256x256.size inb_S272x1024_S256x256_8_768)) (View.ld (arg23.view.read (Elt F) (arg23.view.writes (Elt F) (harg23.unread xs1) (kernelRun0_B.sl.HS1_1 c arg2 harg2 arg3 harg3 arg22 x0 x1))) (Rect.unit (s := S272x1024) ![7, 768] S256x256.size inb_S272x1024_S256x256_7_768)) (View.ld (arg23.view.read (Elt F) (arg23.view.writes (Elt F) (harg23.unread xs1) (kernelRun0_B.sl.HS1_1 c arg2 harg2 arg3 harg3 arg22 x0 x1))) (Rect.unit (s := S272x1024) ![6, 768] S256x256.size inb_S272x1024_S256x256_6_768)) (View.ld (arg23.view.read (Elt F) (arg23.view.writes (Elt F) (harg23.unread xs1) (kernelRun0_B.sl.HS1_1 c arg2 harg2 arg3 harg3 arg22 x0 x1))) (Rect.unit (s := S272x1024) ![5, 768] S256x256.size inb_S272x1024_S256x256_5_768)) (View.ld (arg23.view.read (Elt F) (arg23.view.writes (Elt F) (harg23.unread xs1) (kernelRun0_B.sl.HS1_1 c arg2 harg2 arg3 harg3 arg22 x0 x1))) (Rect.unit (s := S272x1024) ![4, 768] S256x256.size inb_S272x1024_S256x256_4_768)) (View.ld (arg23.view.read (Elt F) (arg23.view.writes (Elt F) (harg23.unread xs1) (kernelRun0_B.sl.HS1_1 c arg2 harg2 arg3 harg3 arg22 x0 x1))) (Rect.unit (s := S272x1024) ![3, 768] S256x256.size inb_S272x1024_S256x256_3_768)) (View.ld (arg23.view.read (Elt F) (arg23.view.writes (Elt F) (harg23.unread xs1) (kernelRun0_B.sl.HS1_1 c arg2 harg2 arg3 harg3 arg22 x0 x1))) (Rect.unit (s := S272x1024) ![2, 768] S256x256.size inb_S272x1024_S256x256_2_768)) (View.ld (arg23.view.read (Elt F) (arg23.view.writes (Elt F) (harg23.unread xs1) (kernelRun0_B.sl.HS1_1 c arg2 harg2 arg3 harg3 arg22 x0 x1))) (Rect.unit (s := S272x1024) ![1, 768] S256x256.size inb_S272x1024_S256x256_1_768))) (k0_pay13 (k0_pay7 i)) (View.ld (arg8.view.read (Elt F) (harg8.unread x6)) (Rect.unit (s := S4x256x256) ![3, 0, 0] S1x256x256.size inb_S4x256x256_S1x256x256_3_0_0)) (View.ld (arg18.view.read (Elt F) (harg18.unread x16)) (Rect.unit (s := S1x1024) ![0, 768] S1x256.size inb_S1x1024_S1x256_0_768))⟩, ⟨(Rect.unit (s := S256x1024) ![0, 512] S256x256.size inb_S256x1024_S256x256_0_512), k0_pay11 (k0_pay7 i) (kernelRun0_B.sl.v c arg2 harg2 arg3 harg3 arg22 arg23 x0 x1) (View.ld (arg23.view.read (Elt F) (arg23.view.writes (Elt F) (harg23.unread xs1) (kernelRun0_B.sl.HS1_1 c arg2 harg2 arg3 harg3 arg22 x0 x1))) (Rect.unit (s := S272x1024) ![15, 512] S256x256.size inb_S272x1024_S256x256_15_512)) (View.ld (arg23.view.read (Elt F) (arg23.view.writes (Elt F) (harg23.unread xs1) (kernelRun0_B.sl.HS1_1 c arg2 harg2 arg3 harg3 arg22 x0 x1))) (Rect.unit (s := S272x1024) ![14, 512] S256x256.size inb_S272x1024_S256x256_14_512)) (View.ld (arg23.view.read (Elt F) (arg23.view.writes (Elt F) (harg23.unread xs1) (kernelRun0_B.sl.HS1_1 c arg2 harg2 arg3 harg3 arg22 x0 x1))) (Rect.unit (s := S272x1024) ![13, 512] S256x256.size inb_S272x1024_S256x256_13_512)) (View.ld (arg23.view.read (Elt F) (arg23.view.writes (Elt F) (harg23.unread xs1) (kernelRun0_B.sl.HS1_1 c arg2 harg2 arg3 harg3 arg22 x0 x1))) (Rect.unit (s := S272x1024) ![12, 512] S256x256.size inb_S272x1024_S256x256_12_512)) (View.ld (arg23.view.read (Elt F) (arg23.view.writes (Elt F) (harg23.unread xs1) (kernelRun0_B.sl.HS1_1 c arg2 harg2 arg3 harg3 arg22 x0 x1))) (Rect.unit (s := S272x1024) ![11, 512] S256x256.size inb_S272x1024_S256x256_11_512)) (View.ld (arg23.view.read (Elt F) (arg23.view.writes (Elt F) (harg23.unread xs1) (kernelRun0_B.sl.HS1_1 c arg2 harg2 arg3 harg3 arg22 x0 x1))) (Rect.unit (s := S272x1024) ![10, 512] S256x256.size inb_S272x1024_S256x256_10_512)) (View.ld (arg23.view.read (Elt F) (arg23.view.writes (Elt F) (harg23.unread xs1) (kernelRun0_B.sl.HS1_1 c arg2 harg2 arg3 harg3 arg22 x0 x1))) (Rect.unit (s := S272x1024) ![9, 512] S256x256.size inb_S272x1024_S256x256_9_512)) (View.ld (arg8.view.read (Elt F) (harg8.unread x6)) (Rect.unit (s := S4x256x256) ![2, 0, 0] S1x256x256.size inb_S4x256x256_S1x256x256_2_0_0)) (View.ld (arg18.view.read (Elt F) (harg18.unread x16)) (Rect.unit (s := S1x1024) ![0, 512] S1x256.size inb_S1x1024_S1x256_0_512))⟩, ⟨(Rect.unit (s := S256x1024) ![0, 256] S256x256.size inb_S256x1024_S256x256_0_256), k0_pay10 (k0_pay7 i) (kernelRun0_B.sl.v41 c arg2 harg2 arg3 harg3 arg22 arg23 x0 x1) (View.ld (arg23.view.read (Elt F) (arg23.view.writes (Elt F) (harg23.unread xs1) (kernelRun0_B.sl.HS1_1 c arg2 harg2 arg3 harg3 arg22 x0 x1))) (Rect.unit (s := S272x1024) ![15, 256] S256x256.size inb_S272x1024_S256x256_15_256)) (View.ld (arg23.view.read (Elt F) (arg23.view.writes (Elt F) (harg23.unread xs1) (kernelRun0_B.sl.HS1_1 c arg2 harg2 arg3 harg3 arg22 x0 x1))) (Rect.unit (s := S272x1024) ![14, 256] S256x256.size inb_S272x1024_S256x256_14_256)) (View.ld (arg23.view.read (Elt F) (arg23.view.writes (Elt F) (harg23.unread xs1) (kernelRun0_B.sl.HS1_1 c arg2 harg2 arg3 harg3 arg22 x0 x1))) (Rect.unit (s := S272x1024) ![13, 256] S256x256.size inb_S272x1024_S256x256_13_256)) (View.ld (arg8.view.read (Elt F) (harg8.unread x6)) (Rect.unit (s := S4x256x256) ![1, 0, 0] S1x256x256.size inb_S4x256x256_S1x256x256_1_0_0)) (View.ld (arg18.view.read (Elt F) (harg18.unread x16)) (Rect.unit (s := S1x1024) ![0, 256] S1x256.size inb_S1x1024_S1x256_0_256))⟩, ⟨(Rect.unit (s := S256x1024) ![0, 0] S256x256.size inb_S256x1024_S256x256_0_0), k0_pay9 (k0_pay8 i (kernelRun0_B.sl.v22 c arg2 harg2 arg3 harg3 arg22 arg23 x0 x1) (View.ld (arg23.view.read (Elt F) (arg23.view.writes (Elt F) (harg23.unread xs1) (kernelRun0_B.sl.HS1_1 c arg2 harg2 arg3 harg3 arg22 x0 x1))) (Rect.unit (s := S272x1024) ![15, 0] S256x256.size inb_S272x1024_S256x256_15_0))) (View.ld (arg8.view.read (Elt F) (harg8.unread x6)) (Rect.unit (s := S4x256x256) ![0, 0, 0] S1x256x256.size inb_S4x256x256_S1x256x256_0_0_0)) (View.ld (arg18.view.read (Elt F) (harg18.unread x16)) (Rect.unit (s := S1x1024) ![0, 0] S1x256.size inb_S1x1024_S1x256_0_0))⟩] := rfl
  rw [e, cv_v95_B, cv_v_B, cv_v41_B, cv_v22_B]
  rfl

/-- A branch's scratch. -/
theorem pbx_B (c : Dev nD) (arg2 : Memref Cert.KernelIdeal.sig .tc .vmem S1x256x1024 .f32) (harg2 : arg2.IsWhole) (arg3 : Memref Cert.KernelIdeal.sig .tc .vmem S1024x1024 .bf16) (harg3 : arg3.IsWhole) (arg22 : Memref Cert.KernelIdeal.sig .tc .vmem S256x1024 .bf16) (arg23 : Memref Cert.KernelIdeal.sig .tc .vmem S272x1024 .f32) (harg23 : arg23.IsWhole) (x0 : Vec F S1x256x1024 .f32) (x1 : Vec F S1024x1024 .bf16) (xs1 : Vec F S272x1024 .f32) :
    (arg23.view.read (Elt F) (arg23.view.writes (Elt F) (harg23.unread xs1) (kernelRun0_B.sl.HS1_1 c arg2 harg2 arg3 harg3 arg22 x0 x1))) =
      pbV (k0_pay5 x0) x1 xs1 := by
  unfold kernelRun0_B.sl.HS1_1
  rw [rw1, xb_B, View.readAt_eq_ld]
  simp (disch := decide) only [Memref.IsWhole.read_unread, View.ld_unit_lit']
  rfl

/-- A branch's scratch. -/
theorem cbx_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg22 : Memref Cert.KernelIdeal.sig .tc .vmem S256x1024 .bf16) (arg24 : Memref Cert.KernelIdeal.sig .tc .vmem S264x4096 .f32) (harg24 : arg24.IsWhole) (x0 : Vec F S1x256x1024 .f32) (x3 : Vec F S1024x4096 .bf16) (xs2 : Vec F S264x4096 .f32) :
    (arg24.view.read (Elt F) (arg24.view.writes (Elt F) (harg24.unread xs2) (kernelRun0_B.sl.HS2_1 c arg2 harg2 arg5 harg5 arg22 x0 x3))) =
      cbV (k0_pay5 x0) x3 xs2 := by
  unfold kernelRun0_B.sl.HS2_1
  rw [rw1, xb_B, View.readAt_eq_ld]
  simp (disch := decide) only [Memref.IsWhole.read_unread, View.ld_unit_lit']
  rfl

/-- The states the chunk before left. -/
theorem stx_B (arg28 : Memref Cert.KernelIdeal.sig .tc .vmem S8x128x256 .f32) (harg28 : arg28.IsWhole) (xs6 : Vec F S8x128x256 .f32) :
    (arg28.view.read (Elt F) (harg28.unread xs6)) =
      xs6 := Memref.IsWhole.read_unread _ _

/-- The step sizes. -/
theorem dtv_B (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg22 : Memref Cert.KernelIdeal.sig .tc .vmem S256x1024 .bf16) (x0 : Vec F S1x256x1024 .f32) (x4 : Vec F S1024x128 .bf16) (x12 : Vec F S1x128 .f32) :
    (kernelRun0_B.sl.r_14 c arg2 harg2 arg6 harg6 arg14 harg14 arg22 x0 x4 x12) =
      (k0_pay31 (k0_pay5 x0) x4 x12) := by
  rw [dt_B, xb_B]
  simp (disch := decide) only [Memref.IsWhole.read_unread, View.ld_unit_lit']

/-- The running sums. -/
theorem csv_B (c : Dev nD) (arg2 : Memref Cert.KernelIdeal.sig .tc .vmem S1x256x1024 .f32) (harg2 : arg2.IsWhole) (arg6 : Memref Cert.KernelIdeal.sig .tc .vmem S1024x128 .bf16) (harg6 : arg6.IsWhole) (arg14 : Memref Cert.KernelIdeal.sig .tc .vmem S1x128 .f32) (harg14 : arg14.IsWhole) (arg15 : Memref Cert.KernelIdeal.sig .tc .vmem S1x128 .f32) (harg15 : arg15.IsWhole) (arg22 : Memref Cert.KernelIdeal.sig .tc .vmem S256x1024 .bf16) (x0 : Vec F S1x256x1024 .f32) (x4 : Vec F S1024x128 .bf16) (x12 : Vec F S1x128 .f32) (x13 : Vec F S1x128 .f32) :
    (kernelRun0_B.sl.r_16 c arg2 harg2 arg6 harg6 arg14 harg14 arg15 harg15 arg22 x0 x4 x12 x13) =
      (csV (k0_pay5 x0) x4 x12 x13) := by
  rw [cs_B, xb_B]
  simp (disch := decide) only [Memref.IsWhole.read_unread, View.ld_unit_lit']

/-- The activated channels. -/
theorem actv_B (c : Dev nD) (arg2 : Memref Cert.KernelIdeal.sig .tc .vmem S1x256x1024 .f32) (harg2 : arg2.IsWhole) (arg5 : Memref Cert.KernelIdeal.sig .tc .vmem S1024x4096 .bf16) (harg5 : arg5.IsWhole) (arg12 : Memref Cert.KernelIdeal.sig .tc .vmem S4x4096 .f32) (harg12 : arg12.IsWhole) (arg13 : Memref Cert.KernelIdeal.sig .tc .vmem S1x4096 .f32) (harg13 : arg13.IsWhole) (arg22 : Memref Cert.KernelIdeal.sig .tc .vmem S256x1024 .bf16) (arg24 : Memref Cert.KernelIdeal.sig .tc .vmem S264x4096 .f32) (harg24 : arg24.IsWhole) (arg25 : Memref Cert.KernelIdeal.sig .tc .vmem S256x4096 .f32) (x0 : Vec F S1x256x1024 .f32) (x3 : Vec F S1024x4096 .bf16) (x10 : Vec F S4x4096 .f32) (x11 : Vec F S1x4096 .f32) (xs2 : Vec F S264x4096 .f32) :
    (arg25.view.read (Elt F) (arg25.view.writes (Elt F) arg25.view.junk (kernelRun0_B.sl.HS3_8 c arg2 harg2 arg5 harg5 arg12 harg12 arg13 harg13 arg22 arg24 harg24 x0 x3 x10 x11 xs2))) =
      (View.canon (actP (cbV (k0_pay5 x0) x3 xs2) x10 x11)) := by
  rw [View.read_writes_junk_eq_canon, act_B, cbx_B]
  simp (disch := decide) only [Memref.IsWhole.read_unread, View.ld_unit_lit']

/-- The normalised groups. -/
theorem ynv_B (c : Dev nD) (arg2 : Memref Cert.KernelIdeal.sig .tc .vmem S1x256x1024 .f32) (harg2 : arg2.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg22 : Memref Cert.KernelIdeal.sig .tc .vmem S256x1024 .bf16) (arg24 : Memref Cert.KernelIdeal.sig .tc .vmem S264x4096 .f32) (harg24 : arg24.IsWhole) (arg25 : Memref Cert.KernelIdeal.sig .tc .vmem S256x4096 .f32) (arg27 : Memref Cert.KernelIdeal.sig .tc .vmem S256x2048 .bf16) (arg28 : Memref Cert.KernelIdeal.sig .tc .vmem S8x128x256 .f32) (harg28 : arg28.IsWhole) (x0 : Vec F S1x256x1024 .f32) (x2 : Vec F S1024x2048 .bf16) (x3 : Vec F S1024x4096 .bf16) (x4 : Vec F S1024x128 .bf16) (x10 : Vec F S4x4096 .f32) (x11 : Vec F S1x4096 .f32) (x12 : Vec F S1x128 .f32) (x13 : Vec F S1x128 .f32) (x14 : Vec F S1x2048 .f32) (x15 : Vec F S1x2048 .f32) (xs2 : Vec F S264x4096 .f32) (xs6 : Vec F S8x128x256 .f32) :
    (kernelRun0_B.sl.v2193 c arg2 harg2 arg4 harg4 arg5 harg5 arg6 harg6 arg12 harg12 arg13 harg13 arg14 harg14 arg15 harg15 arg16 harg16 arg17 harg17 arg22 arg24 harg24 arg25 arg27 arg28 harg28 x0 x2 x3 x4 x10 x11 x12 x13 x14 x15 xs2 xs6) =
      View.canon (ynP (k0_pay5 x0) (k0_pay31 (k0_pay5 x0) x4 x12) (csV (k0_pay5 x0) x4 x12 x13) (View.canon (actP (cbV (k0_pay5 x0) x3 xs2) x10 x11)) xs6 x14 x15 x2) := by
  unfold kernelRun0_B.sl.v2193
  rw [rc, yn_B, xb_B, dtv_B, csv_B, actv_B, stx_B]
  simp (disch := decide) only [Memref.IsWhole.read_unread, View.ld_unit_lit']

/-- The pooled channels. -/
theorem poolv_B (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg8 : Memref Cert.KernelIdeal.sig .tc .vmem S4x256x256 .bf16) (harg8 : arg8.IsWhole) (arg18 : Memref Cert.KernelIdeal.sig .tc .vmem S1x1024 .f32) (harg18 : arg18.IsWhole) (arg22 : Memref Cert.KernelIdeal.sig .tc .vmem S256x1024 .bf16) (arg23 : Memref Cert.KernelIdeal.sig .tc .vmem S272x1024 .f32) (harg23 : arg23.IsWhole) (arg26 : Memref Cert.KernelIdeal.sig .tc .vmem S256x1024 .f32) (x0 : Vec F S1x256x1024 .f32) (x1 : Vec F S1024x1024 .bf16) (x6 : Vec F S4x256x256 .bf16) (x16 : Vec F S1x1024 .f32) (xs1 : Vec F S272x1024 .f32) :
    (kernelRun0_B.sl.v2212 c i arg2 harg2 arg3 harg3 arg8 harg8 arg18 harg18 arg22 arg23 harg23 arg26 x0 x1 x6 x16 xs1) =
      View.canon (poolP i (pbV (k0_pay5 x0) x1 xs1) x6 x16) := by
  unfold kernelRun0_B.sl.v2212
  rw [rc, pool_B, pbx_B]
  simp (disch := decide) only [Memref.IsWhole.read_unread, View.ld_unit_lit']

/-- The point's result. -/
theorem out_B (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : ¬cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) (xs1 : Vec F S272x1024 .f32) (xs2 : Vec F S264x4096 .f32) (xs6 : Vec F S8x128x256 .f32) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 xs1 xs2 xs6 =
      outV (k0_pay5 x0) x0 (View.canon (ynP (k0_pay5 x0) (k0_pay31 (k0_pay5 x0) x4 x12) (csV (k0_pay5 x0) x4 x12 x13) (View.canon (actP (cbV (k0_pay5 x0) x3 xs2) x10 x11)) xs6 x14 x15 x2)) (View.canon (poolP i (pbV (k0_pay5 x0) x1 xs1) x6 x16)) x5 x7 x8 x9 x17 x18 := by
  unfold out0_B_19
  rw [View.read_writes_junk_eq_canon]
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 xs1 xs2 xs6).1 = [⟨Rect.unit (s := S1x256x1024) ![0, 0, 0] S1x256x1024.size inb_S1x256x1024_S1x256x1024_0_0_0,
      outV (kernelRun0_B.sl.v9 c arg2 harg2 arg22 x0) (View.ld (arg2.view.read (Elt F) (harg2.unread x0)) (Rect.unit (s := S1x256x1024) ![0, 0, 0] S1x256x1024.size inb_S1x256x1024_S1x256x1024_0_0_0)) (kernelRun0_B.sl.v2193 c arg2 harg2 arg4 harg4 arg5 harg5 arg6 harg6 arg12 harg12 arg13 harg13 arg14 harg14 arg15 harg15 arg16 harg16 arg17 harg17 arg22 arg24 harg24 arg25 arg27 arg28 harg28 x0 x2 x3 x4 x10 x11 x12 x13 x14 x15 xs2 xs6) (kernelRun0_B.sl.v2212 c i arg2 harg2 arg3 harg3 arg8 harg8 arg18 harg18 arg22 arg23 harg23 arg26 x0 x1 x6 x16 xs1) (arg7.view.read (Elt F) (harg7.unread x5)) (View.ld (arg9.view.read (Elt F) (harg9.unread x7)) (Rect.unit (s := S2048x1024) ![0, 0] S2048x1024.size inb_S2048x1024_S2048x1024_0_0)) (View.ld (arg10.view.read (Elt F) (harg10.unread x8)) (Rect.unit (s := S1024x1024) ![0, 0] S1024x1024.size inb_S1024x1024_S1024x1024_0_0)) (arg11.view.read (Elt F) (harg11.unread x9)) (View.ld (arg19.view.read (Elt F) (harg19.unread x17)) (Rect.unit (s := S1x1024) ![0, 0] S1x1024.size inb_S1x1024_S1x1024_0_0)) (View.ld (arg20.view.read (Elt F) (harg20.unread x18)) (Rect.unit (s := S1x1024) ![0, 0] S1x1024.size inb_S1x1024_S1x1024_0_0))⟩] := rfl
  rw [e, View.canon_cons_unit_lit' _ _ _ (by decide), ynv_B, poolv_B, xb_B]
  simp (disch := decide) only [Memref.IsWhole.read_unread, View.ld_unit_lit']

/-- What the chunk leaves for the next. -/
theorem s1_B (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : ¬cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) (xs1 : Vec F S272x1024 .f32) (xs2 : Vec F S264x4096 .f32) (xs6 : Vec F S8x128x256 .f32) :
    ∃ L, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 xs1 xs2 xs6 =
      View.canon (⟨(Rect.unit (s := S272x1024) ![0, 0] S16x1024.size inb_S272x1024_S16x1024_0_0), k0_pay15 (View.ld (pbV (k0_pay5 x0) x1 xs1) (Rect.unit (s := S272x1024) ![256, 0] S16x1024.size inb_S272x1024_S16x1024_256_0))⟩ :: L) := by
  have h : (kernelRun0_B.sl.v142 c arg2 harg2 arg3 harg3 arg22 arg23 x0 x1) = View.ld (pbV (k0_pay5 x0) x1 xs1) (Rect.unit (s := S272x1024) ![256, 0] S16x1024.size inb_S272x1024_S16x1024_256_0) := by rw [cv_v142_B c arg2 harg2 arg3 harg3 arg22 arg23 harg23 x0 x1 xs1, pbx_B]
  refine ⟨(kernelRun0_B.sl.HS1_1 c arg2 harg2 arg3 harg3 arg22 x0 x1), ?_⟩
  unfold sout0_B_1
  rw [View.read_writes_junk_eq_canon, ← h]
  rfl

/-- What the chunk leaves for the next. -/
theorem s2_B (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : ¬cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) (xs1 : Vec F S272x1024 .f32) (xs2 : Vec F S264x4096 .f32) (xs6 : Vec F S8x128x256 .f32) :
    ∃ L, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 xs1 xs2 xs6 =
      View.canon (⟨(Rect.unit (s := S264x4096) ![0, 0] S8x4096.size inb_S264x4096_S8x4096_0_0), k0_pay30 (View.ld (cbV (k0_pay5 x0) x3 xs2) (Rect.unit (s := S264x4096) ![256, 0] S8x4096.size inb_S264x4096_S8x4096_256_0))⟩ :: L) := by
  have h : (kernelRun0_B.sl.v457 c arg2 harg2 arg5 harg5 arg22 arg24 x0 x3) = View.ld (cbV (k0_pay5 x0) x3 xs2) (Rect.unit (s := S264x4096) ![256, 0] S8x4096.size inb_S264x4096_S8x4096_256_0) := by rw [cv_v457_B c arg2 harg2 arg5 harg5 arg22 arg24 harg24 x0 x3 xs2, cbx_B]
  refine ⟨(kernelRun0_B.sl.HS2_1 c arg2 harg2 arg5 harg5 arg22 x0 x3), ?_⟩
  unfold sout0_B_2
  rw [View.read_writes_junk_eq_canon, ← h]
  rfl

/-- The states the chunk leaves. -/
theorem s6_B (c : Dev nD) (i : grid0.Coords) (arg2 : Memref Cert.KernelIdeal.sig .tc .vmem S1x256x1024 .f32) (harg2 : arg2.IsWhole) (arg3 : Memref Cert.KernelIdeal.sig .tc .vmem S1024x1024 .bf16) (harg3 : arg3.IsWhole) (arg4 : Memref Cert.KernelIdeal.sig .tc .vmem S1024x2048 .bf16) (harg4 : arg4.IsWhole) (arg5 : Memref Cert.KernelIdeal.sig .tc .vmem S1024x4096 .bf16) (harg5 : arg5.IsWhole) (arg6 : Memref Cert.KernelIdeal.sig .tc .vmem S1024x128 .bf16) (harg6 : arg6.IsWhole) (arg7 : Memref Cert.KernelIdeal.sig .tc .vmem S1024x2048 .bf16) (harg7 : arg7.IsWhole) (arg8 : Memref Cert.KernelIdeal.sig .tc .vmem S4x256x256 .bf16) (harg8 : arg8.IsWhole) (arg9 : Memref Cert.KernelIdeal.sig .tc .vmem S2048x1024 .bf16) (harg9 : arg9.IsWhole) (arg10 : Memref Cert.KernelIdeal.sig .tc .vmem S1024x1024 .bf16) (harg10 : arg10.IsWhole) (arg11 : Memref Cert.KernelIdeal.sig .tc .vmem S1x2048 .f32) (harg11 : arg11.IsWhole) (arg12 : Memref Cert.KernelIdeal.sig .tc .vmem S4x4096 .f32) (harg12 : arg12.IsWhole) (arg13 : Memref Cert.KernelIdeal.sig .tc .vmem S1x4096 .f32) (harg13 : arg13.IsWhole) (arg14 : Memref Cert.KernelIdeal.sig .tc .vmem S1x128 .f32) (harg14 : arg14.IsWhole) (arg15 : Memref Cert.KernelIdeal.sig .tc .vmem S1x128 .f32) (harg15 : arg15.IsWhole) (arg16 : Memref Cert.KernelIdeal.sig .tc .vmem S1x2048 .f32) (harg16 : arg16.IsWhole) (arg17 : Memref Cert.KernelIdeal.sig .tc .vmem S1x2048 .f32) (harg17 : arg17.IsWhole) (arg18 : Memref Cert.KernelIdeal.sig .tc .vmem S1x1024 .f32) (harg18 : arg18.IsWhole) (arg19 : Memref Cert.KernelIdeal.sig .tc .vmem S1x1024 .f32) (harg19 : arg19.IsWhole) (arg20 : Memref Cert.KernelIdeal.sig .tc .vmem S1x1024 .f32) (harg20 : arg20.IsWhole) (arg21 : Memref Cert.KernelIdeal.sig .tc .vmem S1x256x1024 .f32) (harg21 : arg21.IsWhole) (arg22 : Memref Cert.KernelIdeal.sig .tc .vmem S256x1024 .bf16) (harg22 : arg22.IsWhole) (arg23 : Memref Cert.KernelIdeal.sig .tc .vmem S272x1024 .f32) (harg23 : arg23.IsWhole) (arg24 : Memref Cert.KernelIdeal.sig .tc .vmem S264x4096 .f32) (harg24 : arg24.IsWhole) (arg25 : Memref Cert.KernelIdeal.sig .tc .vmem S256x4096 .f32) (harg25 : arg25.IsWhole) (arg26 : Memref Cert.KernelIdeal.sig .tc .vmem S256x1024 .f32) (harg26 : arg26.IsWhole) (arg27 : Memref Cert.KernelIdeal.sig .tc .vmem S256x2048 .bf16) (harg27 : arg27.IsWhole) (arg28 : Memref Cert.KernelIdeal.sig .tc .vmem S8x128x256 .f32) (harg28 : arg28.IsWhole) (hc0 : ¬cond0_0 i) (x0 : Vec F S1x256x1024 .f32) (x1 : Vec F S1024x1024 .bf16) (x2 : Vec F S1024x2048 .bf16) (x3 : Vec F S1024x4096 .bf16) (x4 : Vec F S1024x128 .bf16) (x5 : Vec F S1024x2048 .bf16) (x6 : Vec F S4x256x256 .bf16) (x7 : Vec F S2048x1024 .bf16) (x8 : Vec F S1024x1024 .bf16) (x9 : Vec F S1x2048 .f32) (x10 : Vec F S4x4096 .f32) (x11 : Vec F S1x4096 .f32) (x12 : Vec F S1x128 .f32) (x13 : Vec F S1x128 .f32) (x14 : Vec F S1x2048 .f32) (x15 : Vec F S1x2048 .f32) (x16 : Vec F S1x1024 .f32) (x17 : Vec F S1x1024 .f32) (x18 : Vec F S1x1024 .f32) (xs1 : Vec F S272x1024 .f32) (xs2 : Vec F S264x4096 .f32) (xs6 : Vec F S8x128x256 .f32) :
    ∃ L, sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 xs1 xs2 xs6 =
      View.canon (stP (k0_pay31 (k0_pay5 x0) x4 x12) (csV (k0_pay5 x0) x4 x12 x13) (View.canon (actP (cbV (k0_pay5 x0) x3 xs2) x10 x11)) xs6 ++ L) := by
  have e2 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 x16 x17 x18 xs1 xs2 xs6).2.2.2.1 = stP (kernelRun0_B.sl.r_14 c arg2 harg2 arg6 harg6 arg14 harg14 arg22 x0 x4 x12) (kernelRun0_B.sl.r_16 c arg2 harg2 arg6 harg6 arg14 harg14 arg15 harg15 arg22 x0 x4 x12 x13) (arg25.view.read (Elt F) (arg25.view.writes (Elt F) arg25.view.junk (kernelRun0_B.sl.HS3_8 c arg2 harg2 arg5 harg5 arg12 harg12 arg13 harg13 arg22 arg24 harg24 x0 x3 x10 x11 xs2))) (arg28.view.read (Elt F) (harg28.unread xs6)) ++ [] := rfl
  refine ⟨[], ?_⟩
  unfold sout0_B_6
  rw [View.read_writes_junk_eq_canon, e2, dtv_B, csv_B, actv_B, stx_B]

end Cert.Mix
-- ==== Proof.MixInv.lean ====
/- The mixing kernel's points in order: every point's output and what it leaves, hence the result array. -/
module

public import proofs.«01_k».proof.Proof.MixHost
public import proofs.«01_k».proof.Proof.MixA
public import proofs.«01_k».proof.Proof.MixB

@[expose] public section

set_option maxRecDepth 16384

noncomputable section

open Idealize.ShloMosaic Idealize.ShloMosaic.TcCoe Idealize.SL.Sem
open Idealize.ShloMosaic.Pipeline (Dat)

namespace Cert.Mix

open Cert.KernelIdeal Cert.KernelIdeal.Gen

variable (m : (ℓ : Loc nD τ Cert.KernelIdeal.sig) → Buf (Elt Ideal) ℓ)

/-- A point's chunk number. -/
theorem chunk : ∀ t : Fin cfg0.N, (grid0.coords t 1).val = t.val % 8 := (by decide +kernel : ∀ t : Fin grid0.N, _)

/-- Before the first chunk nothing is carried. -/
theorem carry_zero (p : Par) (X : ℕ → Fin 1024 → EReal) (z : ℕ) (hz : z = 0) :
    Carry p X z (View.canon [⟨Rect.unit (s := S272x1024) ![0, 0] S16x1024.size inb_S272x1024_S16x1024_0_0, k0_pay2 (F := Ideal)⟩])
      (View.canon [⟨Rect.unit (s := S264x4096) ![0, 0] S8x4096.size inb_S264x4096_S8x4096_0_0, k0_pay3 (F := Ideal)⟩]) (k0_pay4 (F := Ideal)) where
  pb i j h := by
    have e : (ix2 i j : S272x1024.Idx) = (Rect.unit (s := S272x1024) ![0, 0] S16x1024.size inb_S272x1024_S16x1024_0_0).emb (ix2 (⟨i.val, h⟩ : Fin 16) j) := by blk_ext
    rw [e]
    refine (View.canon_cons_emb _ _ [] _).trans ?_
    subst hz
    unfold delay
    rw [if_neg (by omega)]
    pointwise [k0_pay2]
  cb i j h := by
    have e : (ix2 i j : S264x4096.Idx) = (Rect.unit (s := S264x4096) ![0, 0] S8x4096.size inb_S264x4096_S8x4096_0_0).emb (ix2 (⟨i.val, h⟩ : Fin 8) j) := by blk_ext
    rw [e]
    refine (View.canon_cons_emb _ _ [] _).trans ?_
    subst hz
    unfold delay
    rw [if_neg (by omega)]
    pointwise [k0_pay3]
  st g n q := by
    subst hz
    unfold stS
    pointwise [k0_pay4]

/-- Every point's output is the layer's, and what it leaves is the next chunk's start. -/
theorem inv (c : Dev nD) : ∀ (n : ℕ) (hn : n < cfg0.N) (h : n / 8 < 32),
    (∀ l j, (outsAt0 m c n hn).1 (ix3 0 l j) = outS (parM m c) (rowM m c ⟨n / 8, h⟩) (n % 8) l j)
      ∧ Carry (parM m c) (rowM m c ⟨n / 8, h⟩) (n % 8 + 1) (outsAt0 m c n hn).2.1 (outsAt0 m c n hn).2.2.1 (outsAt0 m c n hn).2.2.2 := by
  intro n
  induction n using Nat.strong_induction_on with
  | _ n ih =>
  intro hn h
  have hN : n < 256 := lt_of_lt_of_eq hn N_0
  have hW := win_at m c ⟨n, hn⟩ hN
  dsimp only at hW
  have hi := chunk ⟨n, hn⟩
  dsimp only at hi
  by_cases h0 : n % 8 = 0
  · have hC := carry_zero (parM m c) (rowM m c ⟨n / 8, h⟩) (n % 8) h0
    have e := outsAt0_A m c ⟨n, hn⟩ h0
    dsimp only at e
    rw [e]
    dsimp only
    refine ⟨fun l j => ?_, ⟨fun i j hij => ?_, fun i j hij => ?_, fun g a q => ?_⟩⟩
    · rw [out_A]
      exact out_step hW hC _ hi l j
    · obtain ⟨L, hL⟩ := s1_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) (ms0_17 ⟨n, hn⟩) (hs0_17 ⟨n, hn⟩) (ms0_18 ⟨n, hn⟩) (hs0_18 ⟨n, hn⟩) (ms0_19 ⟨n, hn⟩) (hs0_19 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩)
      rw [hL]
      exact pb_step hW hC L i j hij
    · obtain ⟨L, hL⟩ := s2_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) (ms0_17 ⟨n, hn⟩) (hs0_17 ⟨n, hn⟩) (ms0_18 ⟨n, hn⟩) (hs0_18 ⟨n, hn⟩) (ms0_19 ⟨n, hn⟩) (hs0_19 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩)
      rw [hL]
      exact cb_step hW hC L i j hij
    · obtain ⟨L, hL⟩ := s6_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) (ms0_17 ⟨n, hn⟩) (hs0_17 ⟨n, hn⟩) (ms0_18 ⟨n, hn⟩) (hs0_18 ⟨n, hn⟩) (ms0_19 ⟨n, hn⟩) (hs0_19 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩)
      rw [hL]
      exact st_step hW hC L g a q
  · have hp8 : (n - 1) / 8 = n / 8 := by omega
    have hc8 : (n - 1) % 8 + 1 = n % 8 := by omega
    have hC := (ih (n - 1) (by omega) (by omega) (by omega)).2
    have hb : (⟨(n - 1) / 8, by omega⟩ : Fin 32) = ⟨n / 8, h⟩ := Fin.ext hp8
    rw [hb, hc8] at hC
    have e := outsAt0_B m c ⟨n, hn⟩ h0
    dsimp only at e
    rw [e]
    dsimp only
    refine ⟨fun l j => ?_, ⟨fun i j hij => ?_, fun i j hij => ?_, fun g a q => ?_⟩⟩
    · rw [out_B]
      exact out_step hW hC _ hi l j
    · obtain ⟨L, hL⟩ := s1_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) (ms0_17 ⟨n, hn⟩) (hs0_17 ⟨n, hn⟩) (ms0_18 ⟨n, hn⟩) (hs0_18 ⟨n, hn⟩) (ms0_19 ⟨n, hn⟩) (hs0_19 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩) (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2
      rw [hL]
      exact pb_step hW hC L i j hij
    · obtain ⟨L, hL⟩ := s2_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) (ms0_17 ⟨n, hn⟩) (hs0_17 ⟨n, hn⟩) (ms0_18 ⟨n, hn⟩) (hs0_18 ⟨n, hn⟩) (ms0_19 ⟨n, hn⟩) (hs0_19 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩) (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2
      rw [hL]
      exact cb_step hW hC L i j hij
    · obtain ⟨L, hL⟩ := s6_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) (ms0_17 ⟨n, hn⟩) (hs0_17 ⟨n, hn⟩) (ms0_18 ⟨n, hn⟩) (hs0_18 ⟨n, hn⟩) (ms0_19 ⟨n, hn⟩) (hs0_19 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩) (iblk m c 15 ⟨n, hn⟩) (iblk m c 16 ⟨n, hn⟩) (iblk m c 17 ⟨n, hn⟩) (iblk m c 18 ⟨n, hn⟩) (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2
      rw [hL]
      exact st_step hW hC L g a q

/-- The layer's result array over this program's arguments. -/
def resultM (c : Dev nD) : FVec Ideal S32x2048x1024 .f32 := fun y =>
  outS (parM m c) (rowM m c (y 0)) ((y 1).val / 256) ⟨(y 1).val % 256, by omega⟩ (y 2)

/-- The place of an entry of the output window's block. -/
theorem place (t : Fin cfg0.N) (ht : t.val < 256) (l : Fin 256) (j : Fin 1024) :
    (win0_19.blk t).view.emb (ix3 0 l j : S1x256x1024.Idx)
      = (ix3 (⟨t.val / 8, by omega⟩ : Fin 32) (⟨256 * (t.val % 8) + l.val, by omega⟩ : Fin 2048) j : S32x2048x1024.Idx) := by
  blk_ext [idx t]

/-- The result array after the run. -/
theorem final (c : Dev nD) : (dats m 0 c).arrAt 19 (cfgs 0).N = resultM m c := by
  refine (dats m 0 c).arrAt_eq_of_covers 19 _ (by decide +kernel) fun t _ y => ?_
  blk_simp
  rw [after0_19]
  have ht : t.val < 256 := lt_of_lt_of_eq t.isLt N_0
  have hy : y = (ix3 0 (y 1) (y 2) : S1x256x1024.Idx) := by
    refine (eq_ix3 y).trans ?_
    exact congrArg (fun a => (ix3 a (y 1) (y 2) : S1x256x1024.Idx)) (Subsingleton.elim (α := Fin 1) _ _)
  rw [hy]
  refine ((inv m c t.val t.isLt (by omega)).1 (y 1) (y 2)).trans ?_
  refine Eq.trans ?_ (congrArg (resultM m c) (place t ht (y 1) (y 2))).symm
  unfold resultM
  have e1 : (256 * (t.val % 8) + (y 1).val) / 256 = t.val % 8 := by have h1 : (y 1).val < 256 := (y 1).isLt; omega
  have e2 : (256 * (t.val % 8) + (y 1).val) % 256 = (y 1).val := by have h1 : (y 1).val < 256 := (y 1).isLt; omega
  have e3 : (⟨(256 * (t.val % 8) + (y 1).val) % 256, by omega⟩ : Fin 256) = (y 1) := Fin.ext e2
  show _ = outS (parM m c) (rowM m c ⟨t.val / 8, by omega⟩) ((256 * (t.val % 8) + (y 1).val) / 256) ⟨(256 * (t.val % 8) + (y 1).val) % 256, by omega⟩ (y 2)
  rw [e3, e1]

end Cert.Mix
end
-- ==== Proof.RefSum.lean ====
/- The host's windowed sum over a whole axis, padded low by one less, as a running sum. -/
module

public import Idealize.ShloMosaic.PureOps.Ideal
public import Idealize.ShloMosaic.Lib.ValueIdx

@[expose] public section

noncomputable section

namespace Cert.Mix

open Idealize Idealize.ShloMosaic

/-- A fold of additions over a list is the start plus the list's sum. -/
theorem foldl_add_sum {ι : Type} (g : ι → EReal) : ∀ (L : List ι) (z : EReal), L.foldl (fun r n => r + g n) z = z + (L.map g).sum
  | [], z => by simp
  | a :: L, z => by
    rw [List.foldl_cons, foldl_add_sum g L, List.map_cons, List.sum_cons, add_assoc]

/-- A windowed sum from zero at an entry: over the window's positions, the operand where the position is inside it. -/
theorem windowSum {s t : Shape} (window strides lo hi : Fin s.rank → Nat) (h : s.ReduceWindows window strides lo hi t) (x : s.Idx → EReal) (j : t.Idx) :
    Ideal.hostReduceWindowAdd window strides lo hi h x 0 j
      = ∑ w : (⟨s.rank, window⟩ : Shape).Idx, (let p : Fin s.rank → Nat := fun a => (j (a.cast h.1.symm)).val * strides a + (w a).val
        if hin : ∀ a, lo a ≤ p a ∧ p a - lo a < s.size a then x (fun a => ⟨p a - lo a, (hin a).2⟩) else 0) := by
  unfold Ideal.hostReduceWindowAdd Host.reduceWindow
  refine (foldl_add_sum _ _ _).trans ?_
  rw [zero_add, ← List.ofFn_eq_map, List.sum_ofFn]
  exact Equiv.sum_comp (⟨s.rank, window⟩ : Shape).rowMajor.symm (fun w => (let p : Fin s.rank → Nat := fun a => (j (a.cast h.1.symm)).val * strides a + (w a).val
        if hin : ∀ a, lo a ≤ p a ∧ p a - lo a < s.size a then x (fun a => ⟨p a - lo a, (hin a).2⟩) else 0))

/-- A windowed sum of the program from a zero initial value, at an entry. -/
theorem reduceWindowAdd_at {s t u : Shape} (window strides lo hi : Fin s.rank → Nat) (x : FVec Ideal s .f32) (init : u.Idx → Ideal .f32)
    (h : s.ReduceWindows window strides lo hi t) (hu : 0 < u.numel) (hz : init (Shape.Idx.first hu) = (0 : EReal)) (j : t.Idx) :
    (Host.reduceWindowAdd window strides lo hi x init h hu j : EReal)
      = ∑ w : (⟨s.rank, window⟩ : Shape).Idx, (let p : Fin s.rank → Nat := fun a => (j (a.cast h.1.symm)).val * strides a + (w a).val
        if hin : ∀ a, lo a ≤ p a ∧ p a - lo a < s.size a then x (fun a => ⟨p a - lo a, (hin a).2⟩) else 0) := by
  unfold Host.reduceWindowAdd
  rw [hz]
  exact windowSum window strides lo hi h x j

end Cert.Mix
end
-- ==== Proof.RefA.lean ====
/- The plain reference read at an index: the projections, the convolution, the steps and their running sums. -/
module

public import proofs.«01_k».proof.Proof.Gen.ReferenceIdeal.Read
public import proofs.«01_k».proof.Proof.MixSpec
public import proofs.«01_k».proof.Proof.RefSum
public import Idealize.ShloMosaic.Lib.ValueIdxRank6
public import Idealize.ShloMosaic.Lib.Pipeline.ValueKit

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

/-- What the argument arrays hold, for one sequence `b` of the batch. -/
structure Args (p : Par) (X : ℕ → Fin 1024 → EReal) (b : Fin 32) (x0 : FVec Ideal S32x2048x1024 .f32) (x1 : FVec Ideal S1x1024x9248 .f32)
    (x2 : FVec Ideal S1x2048 .f32) (x3 : FVec Ideal S1x4x4096 .f32) (x4 : FVec Ideal S1x4096 .f32) (x5 x6 x7 : FVec Ideal S1x32 .f32)
    (x8 : FVec Ideal S1x2048 .f32) (x9 : FVec Ideal S1x2048x1024 .f32) (x10 : FVec Ideal S1x4x256x256 .f32) (x11 : FVec Ideal S1x1024 .f32)
    (x12 : FVec Ideal S1x1024x1024 .f32) (x13 x14 : FVec Ideal S1x1024 .f32) : Prop where
  /-- The tokens. -/
  x : ∀ (n : Fin 2048) k, x0 (ix3 b n k) = X n.val k
  /-- The input projection. -/
  wi : ∀ k j, x1 (ix3 0 k j) = p.wi k j
  /-- The merge gates' offsets. -/
  bg : ∀ j, x2 (ix2 0 j) = p.bg j
  /-- The taps. -/
  cw : ∀ k j, x3 (ix3 0 k j) = p.cw k j
  /-- The convolution's offsets. -/
  cb : ∀ j, x4 (ix2 0 j) = p.cb j
  /-- The steps' offsets. -/
  dtb : ∀ h, x5 (ix2 0 h) = p.dtb h
  /-- The rates. -/
  al : ∀ h, x6 (ix2 0 h) = p.al h
  /-- The skips. -/
  dk : ∀ h, x7 (ix2 0 h) = p.dk h
  /-- The inner gain. -/
  nw : ∀ j, x8 (ix2 0 j) = p.nw j
  /-- The state branch's projection. -/
  ws : ∀ i j, x9 (ix3 0 i j) = p.ws i j
  /-- The pooled branch's projections. -/
  wp : ∀ g k q, x10 (ix4 0 g k q) = p.wp g k q
  /-- The pooled branch's scale. -/
  ps : ∀ j, x11 (ix2 0 j) = p.ps j
  /-- The output projection. -/
  wo : ∀ i j, x12 (ix3 0 i j) = p.wo i j
  /-- The gain. -/
  g : ∀ j, x13 (ix2 0 j) = p.g j
  /-- The offset. -/
  b : ∀ j, x14 (ix2 0 j) = p.b j

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- The input projection. -/
theorem r14 (h : Args p X b x0 x1 x2 x3 x4 x5 x6 x7 x8 x9 x10 x11 x12 x13 x14) (n : Fin 2048) (j : Fin 9248) :
    val_main_v14 (F := Ideal) x0 x1 (ix3 b n j) = pr p X n.val j := by
  unfold pr
  simp only [← h.x, ← h.wi]
  pointwise [val_main_v14, val_main_v0]

/-- The pooled branch's channels. -/
theorem r30 (h : Args p X b x0 x1 x2 x3 x4 x5 x6 x7 x8 x9 x10 x11 x12 x13 x14) (n : Fin 2048) (g : Fin 4) (q : Fin 256) :
    val_main_v30 (F := Ideal) x0 x1 (ix4 b n g q) = prU p X n.val ⟨256 * g.val + q.val, by omega⟩ := by
  unfold prU
  rw [← r14 h]
  pointwise [val_main_v30, val_main_v15]
  blk_ext

/-- The convolution's channels. -/
theorem r17 (h : Args p X b x0 x1 x2 x3 x4 x5 x6 x7 x8 x9 x10 x11 x12 x13 x14) (n : Fin 2048) (j : Fin 4096) :
    val_main_v17 (F := Ideal) x0 x1 (ix3 b n j) = prC p X n.val j := by
  unfold prC
  rw [← r14 h]
  pointwise [val_main_v17]

/-- The convolution's channels after the shift. -/
theorem r87 (h : Args p X b x0 x1 x2 x3 x4 x5 x6 x7 x8 x9 x10 x11 x12 x13 x14) (n : Fin 2051) (j : Fin 4096) :
    val_main_v87 (F := Ideal) x0 x1 (ix3 b n j) = delay 3 (fun m => prC p X m j) n.val := by
  unfold delay
  pointwise [val_main_v87, val_main_call5_v0, val_main_c_9]
  by_cases h3 : 3 ≤ n.val
  · rw [dif_pos ⟨h3, by omega⟩, if_pos h3, r17 h]
  · rw [dif_neg (fun hc => h3 hc.1), if_neg h3]
    simp [FloatOps.sitofp]

/-- A shifted sequence read some tokens on. -/
theorem delay_add (k d : ℕ) (f : ℕ → EReal) (n : ℕ) : delay (k + d) f (n + d) = delay k f n := by
  unfold delay
  by_cases h : k ≤ n
  · rw [if_pos h, if_pos (by omega)]; congr 1; omega
  · rw [if_neg h, if_neg (by omega)]

/-- The convolved and activated channels. -/
theorem r118 (h : Args p X b x0 x1 x2 x3 x4 x5 x6 x7 x8 x9 x10 x11 x12 x13 x14) (n : Fin 2048) (j : Fin 4096) :
    val_main_v118 (F := Ideal) x0 x1 x3 x4 (ix3 b n j) = actS p X n.val j := by
  unfold actS silu sig conv4
  have e0 := r87 h ⟨n.val, by omega⟩ j
  have e1 := r87 h ⟨n.val + 1, by omega⟩ j
  have e2 := r87 h ⟨n.val + 2, by omega⟩ j
  have e3 := r87 h ⟨n.val + 3, by omega⟩ j
  have d1 := delay_add 2 1 (fun m => prC p X m j) n.val
  have d2 := delay_add 1 2 (fun m => prC p X m j) n.val
  have d3 := delay_add 0 3 (fun m => prC p X m j) n.val
  have d0 : delay 0 (fun m => prC p X m j) n.val = prC p X n.val j := by simp [delay]
  rw [d0] at d3
  rw [← d1, ← d2, ← d3, ← h.cw, ← h.cw, ← h.cw, ← h.cw, ← h.cb, ← e0]
  dsimp only at e1 e2 e3
  rw [← e1, ← e2, ← e3]
  pointwise [val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v2, val_main_v3,
    val_main_call6_v0, val_main_call6_v1, val_main_call6_v2, val_main_call6_v3, val_main_call6_v4, val_main_call6_v5, val_main_call6_cst, val_main_call6_cst_0]
  rw [zero_sub]
  simp only [Nat.add_comm 1 n.val, Nat.add_comm 2 n.val, Nat.add_comm 3 n.val]

/-- The gates. -/
theorem r29 (h : Args p X b x0 x1 x2 x3 x4 x5 x6 x7 x8 x9 x10 x11 x12 x13 x14) (n : Fin 2048) (i : Fin 2) (j : Fin 1024) :
    val_main_v29 (F := Ideal) x0 x1 x2 (ix4 b n i j) = sig (pr p X n.val ⟨7200 + (i.val * 1024 + j.val), by omega⟩ + p.bg ⟨i.val * 1024 + j.val, by omega⟩) := by
  unfold sig
  rw [← r14 h, ← h.bg]
  pointwise [val_main_v29, val_main_v28, val_main_v27, val_main_v26, val_main_v25, val_main_v24, val_main_v23, val_main_v22, val_main_v21, val_main_v20, val_main_v19, val_main_v1, val_main_cst, val_main_cst_0]
  rw [zero_sub]

/-- The steps. -/
theorem r128 (h : Args p X b x0 x1 x2 x3 x4 x5 x6 x7 x8 x9 x10 x11 x12 x13 x14) (n : Fin 2048) (i : Fin 32) :
    val_main_v128 (F := Ideal) x0 x1 x5 (ix3 b n i) = dtS p X n.val i := by
  unfold dtS sp
  rw [← r14 h, ← h.dtb]
  pointwise [val_main_v128, val_main_v127, val_main_v126, val_main_v125, val_main_v18, val_main_v4, val_main_call7_v0, val_main_call7_v1, val_main_call7_v2, val_main_call7_v3,
    val_main_call7_v4, val_main_call7_v5, val_main_call7_v6, val_main_call7_v7, val_main_call7_v8, val_main_call7_v9, val_main_call7_v10, val_main_call7_v11, val_main_call7_cst]
  rw [if_neg (fun hc => hc rfl), zero_sub]
  rfl

end Cert.Mix
end
-- ==== Proof.RefGrp.lean ====
/- The plain reference read at an index: the chunked arrays, their running sums and the scores. -/
module

public import proofs.«01_k».proof.Proof.RefA

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- The state branch's inputs, by group, head and channel. -/
theorem r122 (h : Args p X b x0 x1 x2 x3 x4 x5 x6 x7 x8 x9 x10 x11 x12 x13 x14) (n : Fin 2048) (g : Fin 8) (r : Fin 4) (i : Fin 64) :
    val_main_v122 (F := Ideal) x0 x1 x3 x4 (ix5 b n g r i) = actS p X n.val ⟨256 * g.val + (64 * r.val + i.val), by omega⟩ := by
  rw [← r118 h]
  pointwise [val_main_v122, val_main_v119]
  blk_ext

/-- The steps, by group and head. -/
theorem r129 (h : Args p X b x0 x1 x2 x3 x4 x5 x6 x7 x8 x9 x10 x11 x12 x13 x14) (n : Fin 2048) (g : Fin 8) (r : Fin 4) :
    val_main_v129 (F := Ideal) x0 x1 x5 (ix4 b n g r) = dtS p X n.val ⟨4 * g.val + r.val, by omega⟩ := by
  rw [← r128 h]
  pointwise [val_main_v129]
  blk_ext

end Cert.Mix
end
-- ==== Proof.RefB.lean ====
/- The plain reference read at an index: the chunked arrays, their running sums and the scores. -/
module

public import proofs.«01_k».proof.Proof.RefGrp

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- The inputs times the steps. -/
theorem r136 (h : Args p X b x0 x1 x2 x3 x4 x5 x6 x7 x8 x9 x10 x11 x12 x13 x14) (n : Fin 2048) (g : Fin 8) (r : Fin 4) (i : Fin 64) :
    val_main_v136 (F := Ideal) x0 x1 x3 x4 x5 (ix5 b n g r i) = actS p X n.val ⟨256 * g.val + (64 * r.val + i.val), by omega⟩ * dtS p X n.val ⟨4 * g.val + r.val, by omega⟩ := by
  rw [← r122 h, ← r129 h]
  rw [val_main_v136_apply, val_main_v135_apply, val_main_v134_apply]
  refine congrArg (fun v => FloatOps.mulf (F := Ideal) (φ := .f32) _ (val_main_v129 (F := Ideal) x0 x1 x5 v)) ?_
  funext a
  match a with
  | ⟨0, _⟩ => rfl
  | ⟨1, _⟩ => rfl
  | ⟨2, _⟩ => rfl
  | ⟨3, _⟩ => rfl

/-- Padding by nothing. -/
theorem r140 (h : Args p X b x0 x1 x2 x3 x4 x5 x6 x7 x8 x9 x10 x11 x12 x13 x14) (n : Fin 2048) (g : Fin 8) (r : Fin 4) (i : Fin 64) :
    val_main_v140 (F := Ideal) x0 x1 x3 x4 x5 (ix5 b n g r i) = actS p X n.val ⟨256 * g.val + (64 * r.val + i.val), by omega⟩ * dtS p X n.val ⟨4 * g.val + r.val, by omega⟩ := by
  rw [← r136 h]
  generalize hv : val_main_v136 (F := Ideal) x0 x1 x3 x4 x5 = v
  pointwise [val_main_v140]
  rw [hv]

/-- The inputs times the steps, by chunk. -/
theorem r141 (h : Args p X b x0 x1 x2 x3 x4 x5 x6 x7 x8 x9 x10 x11 x12 x13 x14) (c : Fin 8) (l : Fin 256) (g : Fin 8) (r : Fin 4) (i : Fin 64) :
    val_main_v141 (F := Ideal) x0 x1 x3 x4 x5 (ix6 b c l g r i) = actS p X (256 * c.val + l.val) ⟨256 * g.val + (64 * r.val + i.val), by omega⟩ * dtS p X (256 * c.val + l.val) ⟨4 * g.val + r.val, by omega⟩ := by
  have e := r140 h ⟨256 * c.val + l.val, by omega⟩ g r i
  dsimp only at e
  rw [← e]
  generalize hv : val_main_v140 (F := Ideal) x0 x1 x3 x4 x5 = v
  pointwise [val_main_v141]
  rw [hv]
  blk_ext

/-- The rates times the steps, by chunk. -/
theorem r143 (h : Args p X b x0 x1 x2 x3 x4 x5 x6 x7 x8 x9 x10 x11 x12 x13 x14) (c : Fin 8) (l : Fin 256) (g : Fin 8) (r : Fin 4) :
    val_main_v143 (F := Ideal) x0 x1 x5 x6 (ix5 b c l g r) = dtS p X (256 * c.val + l.val) ⟨4 * g.val + r.val, by omega⟩ * (0 - Ideal.exp (p.al ⟨4 * g.val + r.val, by omega⟩)) := by
  have e2 := r129 h ⟨256 * c.val + l.val, by omega⟩ g r
  dsimp only at e2
  rw [← e2, ← h.al]
  pointwise [val_main_v143, val_main_v142, val_main_v139, val_main_v138, val_main_v137, val_main_v132, val_main_v131, val_main_v130, val_main_v5]
  rw [dif_pos (show c.val * 256 + l.val < 2048 by omega), zero_sub]
  refine congrArg₂ (fun u v : EReal => u * -Ideal.exp v) ?_ ?_
  · blk_ext
  · blk_ext

/-- The input directions, by chunk. -/
theorem r145 (h : Args p X b x0 x1 x2 x3 x4 x5 x6 x7 x8 x9 x10 x11 x12 x13 x14) (c : Fin 8) (l : Fin 256) (g : Fin 8) (n : Fin 128) :
    val_main_v145 (F := Ideal) x0 x1 x3 x4 (ix5 b c l g n) = actS p X (256 * c.val + l.val) (bcol g n) := by
  have e1 := r118 h ⟨256 * c.val + l.val, by omega⟩ (bcol g n)
  dsimp only at e1
  rw [← e1]
  pointwise [val_main_v145, val_main_v144, val_main_v123, val_main_v120]
  rw [dif_pos (show c.val * 256 + l.val < 2048 by omega)]
  blk_ext

/-- The output directions, by chunk. -/
theorem r147 (h : Args p X b x0 x1 x2 x3 x4 x5 x6 x7 x8 x9 x10 x11 x12 x13 x14) (c : Fin 8) (l : Fin 256) (g : Fin 8) (n : Fin 128) :
    val_main_v147 (F := Ideal) x0 x1 x3 x4 (ix5 b c l g n) = actS p X (256 * c.val + l.val) (ccol g n) := by
  have e1 := r118 h ⟨256 * c.val + l.val, by omega⟩ (ccol g n)
  dsimp only at e1
  rw [← e1]
  pointwise [val_main_v147, val_main_v146, val_main_v124, val_main_v121]
  rw [dif_pos (show c.val * 256 + l.val < 2048 by omega)]
  blk_ext

end Cert.Mix
end
-- ==== Proof.RefWin.lean ====
/- The plain reference read at an index: the pooled branch's four windows. -/
module

public import proofs.«01_k».proof.Proof.RefA

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- A sequence of 2048 entries delayed by `w`, zero before its start. -/
def lag (w : ℕ) (f : Fin 2048 → EReal) (n : Fin 2048) : EReal := if h : w ≤ n.val ∧ n.val - w < 2048 then f ⟨n.val - w, h.2⟩ else 0

/-- A count below a word's range, as a real. -/
theorem count (n : Fin 2048) : (1 : EReal) + FloatOps.sitofp (F := Ideal) .f32 (BitVec.ofNat 32 n.val) = (((n.val + 1 : ℕ) : ℝ) : EReal) := by
  have e : (BitVec.ofNat 32 n.val).toInt = (n.val : ℤ) := by
    rw [BitVec.toInt_eq_toNat_of_lt (by rw [BitVec.toNat_ofNat]; have := n.isLt; omega), BitVec.toNat_ofNat]
    have := n.isLt
    omega
  show (1 : EReal) + (((BitVec.ofNat 32 n.val).toInt : ℝ) : EReal) = _
  rw [e, show ((1 : EReal)) = ((1 : ℝ) : EReal) from rfl, ← EReal.coe_add]
  congr 1
  push_cast
  ring

/-- The mean over the window of group 0. -/
theorem r44 (n : Fin 2048) (q : Fin 256) :
    val_main_v44 (F := Ideal) x0 x1 (ix3 b n q) = Ideal.div (val_main_v31 (F := Ideal) x0 x1 (ix4 b n 0 q) - lag 2 (fun n => val_main_v31 (F := Ideal) x0 x1 (ix4 b n 0 q)) n) (min (((n.val + 1 : ℕ) : ℝ) : EReal) (wword 0)) := by
  rw [← count]
  unfold lag
  pointwise [val_main_v44, val_main_v43, val_main_v42, val_main_v41, val_main_v40, val_main_v39, val_main_v38, val_main_v37, val_main_v36, val_main_v35, val_main_v34, val_main_v33, val_main_v32, val_main_cst_1, val_main_cst_2, val_main_c, val_main_call1_v0]
  have hz : FloatOps.sitofp (F := Ideal) .f32 0#32 = (0 : EReal) := by simp [FloatOps.sitofp]
  rw [hz]
  rfl

/-- The mean over the window of group 1. -/
theorem r54 (n : Fin 2048) (q : Fin 256) :
    val_main_v54 (F := Ideal) x0 x1 (ix3 b n q) = Ideal.div (val_main_v31 (F := Ideal) x0 x1 (ix4 b n 1 q) - lag 4 (fun n => val_main_v31 (F := Ideal) x0 x1 (ix4 b n 1 q)) n) (min (((n.val + 1 : ℕ) : ℝ) : EReal) (wword 1)) := by
  rw [← count]
  unfold lag
  pointwise [val_main_v54, val_main_v53, val_main_v52, val_main_v51, val_main_v50, val_main_v49, val_main_v48, val_main_v47, val_main_v46, val_main_v45, val_main_v34, val_main_v33, val_main_v32, val_main_cst_1, val_main_cst_4, val_main_c_3, val_main_call2_v0]
  have hz : FloatOps.sitofp (F := Ideal) .f32 0#32 = (0 : EReal) := by simp [FloatOps.sitofp]
  rw [hz]
  rfl

/-- The mean over the window of group 2. -/
theorem r64 (n : Fin 2048) (q : Fin 256) :
    val_main_v64 (F := Ideal) x0 x1 (ix3 b n q) = Ideal.div (val_main_v31 (F := Ideal) x0 x1 (ix4 b n 2 q) - lag 8 (fun n => val_main_v31 (F := Ideal) x0 x1 (ix4 b n 2 q)) n) (min (((n.val + 1 : ℕ) : ℝ) : EReal) (wword 2)) := by
  rw [← count]
  unfold lag
  pointwise [val_main_v64, val_main_v63, val_main_v62, val_main_v61, val_main_v60, val_main_v59, val_main_v58, val_main_v57, val_main_v56, val_main_v55, val_main_v34, val_main_v33, val_main_v32, val_main_cst_1, val_main_cst_6, val_main_c_5, val_main_call3_v0]
  have hz : FloatOps.sitofp (F := Ideal) .f32 0#32 = (0 : EReal) := by simp [FloatOps.sitofp]
  rw [hz]
  rfl

/-- The mean over the window of group 3. -/
theorem r74 (n : Fin 2048) (q : Fin 256) :
    val_main_v74 (F := Ideal) x0 x1 (ix3 b n q) = Ideal.div (val_main_v31 (F := Ideal) x0 x1 (ix4 b n 3 q) - lag 16 (fun n => val_main_v31 (F := Ideal) x0 x1 (ix4 b n 3 q)) n) (min (((n.val + 1 : ℕ) : ℝ) : EReal) (wword 3)) := by
  rw [← count]
  unfold lag
  pointwise [val_main_v74, val_main_v73, val_main_v72, val_main_v71, val_main_v70, val_main_v69, val_main_v68, val_main_v67, val_main_v66, val_main_v65, val_main_v34, val_main_v33, val_main_v32, val_main_cst_1, val_main_cst_8, val_main_c_7, val_main_call4_v0]
  have hz : FloatOps.sitofp (F := Ideal) .f32 0#32 = (0 : EReal) := by simp [FloatOps.sitofp]
  rw [hz]
  rfl

end Cert.Mix
end
-- ==== Proof.RefPool.lean ====
/- The plain reference read at an index: the pooled branch, as trailing windows' sums. -/
module

public import proofs.«01_k».proof.Proof.RefWin

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- A window that ends at token `n` sums the tokens up to it. -/
theorem window_range (N n : ℕ) (hn : n < N) (f : ℕ → EReal) :
    ∑ w : Fin N, (if N - 1 ≤ n + w.val then f (n + w.val - (N - 1)) else 0) = ∑ i ∈ Finset.range (n + 1), f i := by
  rw [Finset.sum_range (fun w => if N - 1 ≤ n + w then f (n + w - (N - 1)) else 0) |>.symm,
    show N = (N - 1 - n) + (n + 1) from by omega, Finset.sum_range_add]
  rw [Finset.sum_eq_zero, zero_add]
  · refine Finset.sum_congr rfl fun i hi => ?_
    rw [if_pos (by omega)]
    congr 1; omega
  · intro i hi
    have := Finset.mem_range.1 hi
    rw [if_neg (by omega)]

/-- A sum of reals among the extended reals. -/
theorem coe_sum {ι : Type} (s : Finset ι) (q : ι → ℝ) : ∑ i ∈ s, (q i : EReal) = ((∑ i ∈ s, q i : ℝ) : EReal) := by
  classical
  induction s using Finset.induction_on with
  | empty => simp
  | insert a s ha ih => rw [Finset.sum_insert ha, Finset.sum_insert ha, ih, EReal.coe_add]

/-- The sum over the last `w` tokens is the difference of two sums from the start, when every entry is a real. -/
theorem delay_sum (f : ℕ → EReal) (hf : ∀ n, ∃ r : ℝ, f n = r) (w n : ℕ) :
    (∑ i ∈ Finset.range (n + 1), f i) - (∑ i ∈ Finset.range (n + 1 - w), f i) = ∑ k ∈ Finset.range w, delay k f n := by
  choose r hr using hf
  obtain rfl : f = fun n => (r n : EReal) := funext hr
  have hd : ∀ k, delay k (fun n => (r n : EReal)) n = ((if k ≤ n then r (n - k) else 0 : ℝ) : EReal) := by
    intro k; unfold delay; split <;> simp
  simp only [hd]
  have hs : ∀ (s : Finset ℕ) (q : ℕ → ℝ), ∑ i ∈ s, (q i : EReal) = ((∑ i ∈ s, q i : ℝ) : EReal) := coe_sum
  rw [hs, hs, hs, ← EReal.coe_sub]
  congr 1
  induction w with
  | zero => simp
  | succ w ih =>
    rw [Finset.sum_range_succ (fun i => if i ≤ n then r (n - i) else 0) w, ← ih]
    by_cases h : w ≤ n
    · have e1 : n + 1 - w = (n - w) + 1 := by omega
      have e2 : n + 1 - (w + 1) = n - w := by omega
      rw [if_pos h, e1, e2, Finset.sum_range_succ (fun x => r x) (n - w)]
      ring
    · rw [if_neg h, show n + 1 - (w + 1) = 0 from by omega, show n + 1 - w = 0 from by omega]; simp

/-- Sums of products of reals are reals. -/
theorem pr_real (hX : ∀ n k, ∃ r : ℝ, X n k = r) (hw : ∀ k j, ∃ r : ℝ, p.wi k j = r) (n : ℕ) (j : Fin 9248) : ∃ r : ℝ, pr p X n j = r := by
  choose a ha using hX
  choose w hw using hw
  refine ⟨∑ k, a n k * w k j, ?_⟩
  unfold pr
  simp only [ha, hw, ← EReal.coe_mul]
  exact coe_sum _ _

/-- The running sums of the pooled branch's channels. -/
theorem r31 (h : Args p X b x0 x1 x2 x3 x4 x5 x6 x7 x8 x9 x10 x11 x12 x13 x14) (n : Fin 2048) (g : Fin 4) (q : Fin 256) :
    val_main_v31 (F := Ideal) x0 x1 (ix4 b n g q) = ∑ i ∈ Finset.range (n.val + 1), prU p X i ⟨256 * g.val + q.val, by omega⟩ := by
  have hz : val_main_call0_call0_v0 (F := Ideal) (Shape.Idx.first h_S_) = 0 := by
    pointwise [val_main_call0_call0_v0, val_main_call0_call0_cst]
  rw [← window_range 2048 n.val n.isLt]
  unfold val_main_v31
  refine (reduceWindowAdd_at _ _ _ _ _ _ _ _ hz _).trans ?_
  refine (Fintype.sum_equiv (⟨fun w => ix4 0 w 0 0, fun i => i 1, fun w => rfl, fun i => ?_⟩ : Fin 2048 ≃ (⟨4, ![1, 2048, 1, 1]⟩ : Shape).Idx) _ _ fun w => ?_).symm
  · refine (funext fun a => ?_)
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  · by_cases hw : 2048 - 1 ≤ n.val + w.val
    · have hall : ∀ a : Fin 4, (![0, 2047, 0, 0] : Fin 4 → ℕ) a ≤ (ix4 b n g q a).val * (![1, 1, 1, 1] : Fin 4 → ℕ) a + (ix4 (0 : Fin 1) w (0 : Fin 1) (0 : Fin 1) a).val
          ∧ (ix4 b n g q a).val * (![1, 1, 1, 1] : Fin 4 → ℕ) a + (ix4 (0 : Fin 1) w (0 : Fin 1) (0 : Fin 1) a).val - (![0, 2047, 0, 0] : Fin 4 → ℕ) a < S32x2048x4x256.size a := by
        intro a
        match a with
        | ⟨0, _⟩ => exact ⟨Nat.zero_le _, show b.val * 1 + 0 - 0 < 32 by omega⟩
        | ⟨1, _⟩ => exact ⟨show 2047 ≤ n.val * 1 + w.val by omega, show n.val * 1 + w.val - 2047 < 2048 by omega⟩
        | ⟨2, _⟩ => exact ⟨Nat.zero_le _, show g.val * 1 + 0 - 0 < 4 by omega⟩
        | ⟨3, _⟩ => exact ⟨Nat.zero_le _, show q.val * 1 + 0 - 0 < 256 by omega⟩
      rw [if_pos hw]
      refine Eq.trans ?_ (dif_pos hall).symm
      refine (r30 h ⟨n.val + w.val - (2048 - 1), by omega⟩ g q).symm.trans (congrArg _ (funext fun a => ?_))
      match a with
      | ⟨0, _⟩ => exact Fin.ext (show b.val = b.val * 1 + 0 - 0 by omega)
      | ⟨1, _⟩ => exact Fin.ext (show n.val + w.val - (2048 - 1) = n.val * 1 + w.val - 2047 by omega)
      | ⟨2, _⟩ => exact Fin.ext (show g.val = g.val * 1 + 0 - 0 by omega)
      | ⟨3, _⟩ => exact Fin.ext (show q.val = q.val * 1 + 0 - 0 by omega)
    · rw [if_neg hw]
      have hall : ¬ (∀ a : Fin 4, (![0, 2047, 0, 0] : Fin 4 → ℕ) a ≤ (ix4 b n g q a).val * (![1, 1, 1, 1] : Fin 4 → ℕ) a + (ix4 (0 : Fin 1) w (0 : Fin 1) (0 : Fin 1) a).val
          ∧ (ix4 b n g q a).val * (![1, 1, 1, 1] : Fin 4 → ℕ) a + (ix4 (0 : Fin 1) w (0 : Fin 1) (0 : Fin 1) a).val - (![0, 2047, 0, 0] : Fin 4 → ℕ) a < S32x2048x4x256.size a) := by
        intro hc
        have h2 : 2047 ≤ n.val * 1 + w.val := (hc 1).1
        omega
      refine Eq.trans ?_ (dif_neg hall).symm
      rfl

/-- The pooled branch before its projection. -/
theorem r80 (h : Args p X b x0 x1 x2 x3 x4 x5 x6 x7 x8 x9 x10 x11 x12 x13 x14) (hr : ∀ n j, ∃ r : ℝ, prU p X n j = r) (n : Fin 2048) (g : Fin 4) (q : Fin 256) :
    val_main_v80 (F := Ideal) x0 x1 (ix4 b n g q) = pooled p X g n.val ⟨256 * g.val + q.val, by omega⟩ := by
  have key : ∀ w, val_main_v31 (F := Ideal) x0 x1 (ix4 b n g q) - lag w (fun n => val_main_v31 (F := Ideal) x0 x1 (ix4 b n g q)) n
      = ∑ k ∈ Finset.range w, delay k (fun m => prU p X m ⟨256 * g.val + q.val, by omega⟩) n.val := by
    intro w
    rw [← delay_sum _ (fun m => hr m _), r31 h]
    congr 1
    unfold lag
    by_cases hw : w ≤ n.val
    · rw [dif_pos ⟨hw, by omega⟩]
      dsimp only
      rw [r31 h, show n.val + 1 - w = n.val - w + 1 from by omega]
    · rw [dif_neg (fun hc => hw hc.1), show n.val + 1 - w = 0 from by omega, Finset.sum_range_zero]
  have e : val_main_v79 (F := Ideal) x0 x1 (ix4 b n g q) = Ideal.div (∑ k ∈ Finset.range (wlen g), delay k (fun m => prU p X m ⟨256 * g.val + q.val, by omega⟩) n.val) (min (((n.val + 1 : ℕ) : ℝ) : EReal) (wword g)) := by
    rw [← key]
    match g with
    | ⟨0, _⟩ => exact (show _ = val_main_v44 (F := Ideal) x0 x1 (ix3 b n q) by pointwise [val_main_v79, val_main_v75]).trans (r44 n q)
    | ⟨1, _⟩ => exact (show _ = val_main_v54 (F := Ideal) x0 x1 (ix3 b n q) by pointwise [val_main_v79, val_main_v76]).trans (r54 n q)
    | ⟨2, _⟩ => exact (show _ = val_main_v64 (F := Ideal) x0 x1 (ix3 b n q) by pointwise [val_main_v79, val_main_v77]).trans (r64 n q)
    | ⟨3, _⟩ => exact (show _ = val_main_v74 (F := Ideal) x0 x1 (ix3 b n q) by pointwise [val_main_v79, val_main_v78]).trans (r74 n q)
  unfold pooled
  rw [← e, ← r30 h]
  rfl

/-- The pooled branch over its differences. -/
theorem r86 (h : Args p X b x0 x1 x2 x3 x4 x5 x6 x7 x8 x9 x10 x11 x12 x13 x14) (hr : ∀ n j, ∃ r : ℝ, prU p X n j = r) (n : Fin 2048) (j : Fin 1024) :
    val_main_v86 (F := Ideal) x0 x1 x10 x11 (ix3 b n j) = yPool p X n.val j := by
  unfold yPool
  simp only [← h.wp, ← h.ps]
  pointwise [val_main_v86, val_main_v85, val_main_v84, val_main_v83, val_main_v82, val_main_v81, val_main_v10, val_main_v9]
  congr 1
  refine Finset.sum_congr rfl fun q _ => ?_
  rw [mul_comm]
  exact congrArg (· * _) (r80 h hr n _ q)

end Cert.Mix
end
-- ==== Proof.RefCum.lean ====
/- The plain reference read at an index: the running sums within a chunk. -/
module

public import proofs.«01_k».proof.Proof.RefB
public import proofs.«01_k».proof.Proof.RefPool

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- The running sums, token by token. -/
theorem r148 (h : Args p X b x0 x1 x2 x3 x4 x5 x6 x7 x8 x9 x10 x11 x12 x13 x14) (c : Fin 8) (l : Fin 256) (g : Fin 8) (r : Fin 4) :
    val_main_v148 (F := Ideal) x0 x1 x5 x6 (ix5 b c l g r) = csS p X c.val l.val ⟨4 * g.val + r.val, by omega⟩ := by
  have hz : val_main_call12_call0_v0 (F := Ideal) (Shape.Idx.first h_S_) = 0 := by
    pointwise [val_main_call12_call0_v0, val_main_call12_call0_cst]
  unfold csS
  rw [← window_range 256 l.val l.isLt (fun i => dtS p X (256 * c.val + i) ⟨4 * g.val + r.val, by omega⟩ * (0 - Ideal.exp (p.al ⟨4 * g.val + r.val, by omega⟩)))]
  unfold val_main_v148
  refine (reduceWindowAdd_at _ _ _ _ _ _ _ _ hz _).trans ?_
  refine (Fintype.sum_equiv (⟨fun w => ix5 0 0 w 0 0, fun i => i 2, fun w => rfl, fun i => ?_⟩ : Fin 256 ≃ (⟨5, ![1, 1, 256, 1, 1]⟩ : Shape).Idx) _ _ fun w => ?_).symm
  · refine (funext fun a => ?_)
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  · by_cases hw : 256 - 1 ≤ l.val + w.val
    · have hall : ∀ a : Fin 5, (![0, 0, 255, 0, 0] : Fin 5 → ℕ) a ≤ (ix5 b c l g r a).val * (![1, 1, 1, 1, 1] : Fin 5 → ℕ) a + (ix5 (0 : Fin 1) (0 : Fin 1) w (0 : Fin 1) (0 : Fin 1) a).val
          ∧ (ix5 b c l g r a).val * (![1, 1, 1, 1, 1] : Fin 5 → ℕ) a + (ix5 (0 : Fin 1) (0 : Fin 1) w (0 : Fin 1) (0 : Fin 1) a).val - (![0, 0, 255, 0, 0] : Fin 5 → ℕ) a < S32x8x256x8x4.size a := by
        intro a
        match a with
        | ⟨0, _⟩ => exact ⟨Nat.zero_le _, show b.val * 1 + 0 - 0 < 32 by omega⟩
        | ⟨1, _⟩ => exact ⟨Nat.zero_le _, show c.val * 1 + 0 - 0 < 8 by omega⟩
        | ⟨2, _⟩ => exact ⟨show 255 ≤ l.val * 1 + w.val by omega, show l.val * 1 + w.val - 255 < 256 by omega⟩
        | ⟨3, _⟩ => exact ⟨Nat.zero_le _, show g.val * 1 + 0 - 0 < 8 by omega⟩
        | ⟨4, _⟩ => exact ⟨Nat.zero_le _, show r.val * 1 + 0 - 0 < 4 by omega⟩
      rw [if_pos hw]
      refine Eq.trans ?_ (dif_pos hall).symm
      refine (r143 h c ⟨l.val + w.val - (256 - 1), by omega⟩ g r).symm.trans (congrArg _ (funext fun a => ?_))
      match a with
      | ⟨0, _⟩ => exact Fin.ext (show b.val = b.val * 1 + 0 - 0 by omega)
      | ⟨1, _⟩ => exact Fin.ext (show c.val = c.val * 1 + 0 - 0 by omega)
      | ⟨2, _⟩ => exact Fin.ext (show l.val + w.val - (256 - 1) = l.val * 1 + w.val - 255 by omega)
      | ⟨3, _⟩ => exact Fin.ext (show g.val = g.val * 1 + 0 - 0 by omega)
      | ⟨4, _⟩ => exact Fin.ext (show r.val = r.val * 1 + 0 - 0 by omega)
    · rw [if_neg hw]
      have hall : ¬ (∀ a : Fin 5, (![0, 0, 255, 0, 0] : Fin 5 → ℕ) a ≤ (ix5 b c l g r a).val * (![1, 1, 1, 1, 1] : Fin 5 → ℕ) a + (ix5 (0 : Fin 1) (0 : Fin 1) w (0 : Fin 1) (0 : Fin 1) a).val
          ∧ (ix5 b c l g r a).val * (![1, 1, 1, 1, 1] : Fin 5 → ℕ) a + (ix5 (0 : Fin 1) (0 : Fin 1) w (0 : Fin 1) (0 : Fin 1) a).val - (![0, 0, 255, 0, 0] : Fin 5 → ℕ) a < S32x8x256x8x4.size a) := by
        intro hc
        have h2 : 255 ≤ l.val * 1 + w.val := (hc 2).1
        omega
      refine Eq.trans ?_ (dif_neg hall).symm
      rfl

/-- The rates times the steps, heads before tokens. -/
theorem r149 (h : Args p X b x0 x1 x2 x3 x4 x5 x6 x7 x8 x9 x10 x11 x12 x13 x14) (c : Fin 8) (g : Fin 8) (r : Fin 4) (l : Fin 256) :
    val_main_v149 (F := Ideal) x0 x1 x5 x6 (ix5 b c g r l) = dtS p X (256 * c.val + l.val) ⟨4 * g.val + r.val, by omega⟩ * (0 - Ideal.exp (p.al ⟨4 * g.val + r.val, by omega⟩)) := by
  rw [← r143 h]
  pointwise [val_main_v149]

/-- The running sums, heads before tokens. -/
theorem r150 (h : Args p X b x0 x1 x2 x3 x4 x5 x6 x7 x8 x9 x10 x11 x12 x13 x14) (c : Fin 8) (g : Fin 8) (r : Fin 4) (l : Fin 256) :
    val_main_v150 (F := Ideal) x0 x1 x5 x6 (ix5 b c g r l) = csS p X c.val l.val ⟨4 * g.val + r.val, by omega⟩ := by
  have hz : val_main_call13_call0_v0 (F := Ideal) (Shape.Idx.first h_S_) = 0 := by
    pointwise [val_main_call13_call0_v0, val_main_call13_call0_cst]
  unfold csS
  rw [← window_range 256 l.val l.isLt (fun i => dtS p X (256 * c.val + i) ⟨4 * g.val + r.val, by omega⟩ * (0 - Ideal.exp (p.al ⟨4 * g.val + r.val, by omega⟩)))]
  unfold val_main_v150
  refine (reduceWindowAdd_at _ _ _ _ _ _ _ _ hz _).trans ?_
  refine (Fintype.sum_equiv (⟨fun w => ix5 0 0 0 0 w, fun i => i 4, fun w => rfl, fun i => ?_⟩ : Fin 256 ≃ (⟨5, ![1, 1, 1, 1, 256]⟩ : Shape).Idx) _ _ fun w => ?_).symm
  · refine (funext fun a => ?_)
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl
  · by_cases hw : 256 - 1 ≤ l.val + w.val
    · have hall : ∀ a : Fin 5, (![0, 0, 0, 0, 255] : Fin 5 → ℕ) a ≤ (ix5 b c g r l a).val * (![1, 1, 1, 1, 1] : Fin 5 → ℕ) a + (ix5 (0 : Fin 1) (0 : Fin 1) (0 : Fin 1) (0 : Fin 1) w a).val
          ∧ (ix5 b c g r l a).val * (![1, 1, 1, 1, 1] : Fin 5 → ℕ) a + (ix5 (0 : Fin 1) (0 : Fin 1) (0 : Fin 1) (0 : Fin 1) w a).val - (![0, 0, 0, 0, 255] : Fin 5 → ℕ) a < S32x8x8x4x256.size a := by
        intro a
        match a with
        | ⟨0, _⟩ => exact ⟨Nat.zero_le _, show b.val * 1 + 0 - 0 < 32 by omega⟩
        | ⟨1, _⟩ => exact ⟨Nat.zero_le _, show c.val * 1 + 0 - 0 < 8 by omega⟩
        | ⟨2, _⟩ => exact ⟨Nat.zero_le _, show g.val * 1 + 0 - 0 < 8 by omega⟩
        | ⟨3, _⟩ => exact ⟨Nat.zero_le _, show r.val * 1 + 0 - 0 < 4 by omega⟩
        | ⟨4, _⟩ => exact ⟨show 255 ≤ l.val * 1 + w.val by omega, show l.val * 1 + w.val - 255 < 256 by omega⟩
      rw [if_pos hw]
      refine Eq.trans ?_ (dif_pos hall).symm
      refine (r149 h c g r ⟨l.val + w.val - (256 - 1), by omega⟩).symm.trans (congrArg _ (funext fun a => ?_))
      match a with
      | ⟨0, _⟩ => exact Fin.ext (show b.val = b.val * 1 + 0 - 0 by omega)
      | ⟨1, _⟩ => exact Fin.ext (show c.val = c.val * 1 + 0 - 0 by omega)
      | ⟨2, _⟩ => exact Fin.ext (show g.val = g.val * 1 + 0 - 0 by omega)
      | ⟨3, _⟩ => exact Fin.ext (show r.val = r.val * 1 + 0 - 0 by omega)
      | ⟨4, _⟩ => exact Fin.ext (show l.val + w.val - (256 - 1) = l.val * 1 + w.val - 255 by omega)
    · rw [if_neg hw]
      have hall : ¬ (∀ a : Fin 5, (![0, 0, 0, 0, 255] : Fin 5 → ℕ) a ≤ (ix5 b c g r l a).val * (![1, 1, 1, 1, 1] : Fin 5 → ℕ) a + (ix5 (0 : Fin 1) (0 : Fin 1) (0 : Fin 1) (0 : Fin 1) w a).val
          ∧ (ix5 b c g r l a).val * (![1, 1, 1, 1, 1] : Fin 5 → ℕ) a + (ix5 (0 : Fin 1) (0 : Fin 1) (0 : Fin 1) (0 : Fin 1) w a).val - (![0, 0, 0, 0, 255] : Fin 5 → ℕ) a < S32x8x8x4x256.size a) := by
        intro hc
        have h2 : 255 ≤ l.val * 1 + w.val := (hc 4).1
        omega
      refine Eq.trans ?_ (dif_neg hall).symm
      rfl

end Cert.Mix
end
-- ==== Proof.RefState.lean ====
/- The plain reference read at an index: the scores, the states and the state branch. -/
module

public import proofs.«01_k».proof.Proof.RefCum

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- To prove an equation, the right side may be held as a name. -/
theorem held {a b : EReal} (h : ∀ R : EReal, b = R → a = R) : a = b := h b rfl

/-- Choosing by the order of two tokens, as the reference computes it. -/
theorem sel_le (l s : Fin 256) (A B : Ideal .f32) :
    Scalar.select (Scalar.select (IntOp.cmpi CmpIPredicate.sge (IntOp.addi (BitVec.ofNat 32 l.val) 0#32) (BitVec.ofNat 32 s.val)) (1#1 : BitVec 1) 0#1) A B
      = if s.val ≤ l.val then A else B := by
  rw [show IntOp.addi (BitVec.ofNat 32 l.val) 0#32 = BitVec.ofNat 32 l.val from BitVec.add_zero _, le_word]
  by_cases hh : s.val ≤ l.val
  · rw [if_pos hh, if_pos hh]; rfl
  · rw [if_neg hh, if_neg hh]; rfl

/-- The head of a column. -/
theorem hcol_eq (g : Fin 8) (r : Fin 4) (i : Fin 64) : hcol g ⟨64 * r.val + i.val, by omega⟩ = (⟨4 * g.val + r.val, by omega⟩ : Fin 32) :=
  Fin.ext (by show 4 * g.val + (64 * r.val + i.val) / 64 = 4 * g.val + r.val; omega)

/-- The decays between two tokens. -/
theorem r159 (h : Args p X b x0 x1 x2 x3 x4 x5 x6 x7 x8 x9 x10 x11 x12 x13 x14) (c g : Fin 8) (r : Fin 4) (l s : Fin 256) :
    val_main_v159 (F := Ideal) x0 x1 x5 x6 (ix6 b c g r l s) = Ideal.exp (seg (csS p X c.val l.val ⟨4 * g.val + r.val, by omega⟩) (csS p X c.val s.val ⟨4 * g.val + r.val, by omega⟩) l s) := by
  have e1 := r150 h c g r l
  have e2 := r150 h c g r s
  unfold seg
  rw [← e1, ← e2]
  pointwise [val_main_v159, val_main_v158, val_main_v157, val_main_v156, val_main_v155, val_main_v154, val_main_v153, val_main_v152, val_main_v151, val_main_call15_v0, val_main_call15_v1, val_main_call15_v2,
    val_main_call14_v0, val_main_call14_v1, val_main_call14_v2, val_main_call14_v3, val_main_call14_v4, val_main_call14_v5, val_main_call14_c, val_main_call14_c_0, val_main_c_14, val_main_cst_15]
  refine congrArg Ideal.exp ((sel_le l s _ _).trans ?_)
  refine congrArg (fun v : EReal => if s.val ≤ l.val then val_main_v150 (F := Ideal) x0 x1 x5 x6 (ix5 b c g r l) - val_main_v150 (F := Ideal) x0 x1 x5 x6 (ix5 b c g r s) else v) ?_
  rfl

/-- The scores with their decays. -/
theorem r163 (h : Args p X b x0 x1 x2 x3 x4 x5 x6 x7 x8 x9 x10 x11 x12 x13 x14) (c g : Fin 8) (r : Fin 4) (l s : Fin 256) :
    val_main_v163 (F := Ideal) x0 x1 x3 x4 x5 x6 (ix6 b c g r l s) = (∑ n : Fin 128, actS p X (256 * c.val + l.val) (ccol g n) * actS p X (256 * c.val + s.val) (bcol g n))
      * Ideal.exp (seg (csS p X c.val l.val ⟨4 * g.val + r.val, by omega⟩) (csS p X c.val s.val ⟨4 * g.val + r.val, by omega⟩) l s) := by
  have ed : val_main_v160 (F := Ideal) x0 x1 x3 x4 (ix5 b c g l s) = ∑ n : Fin 128, val_main_v147 (F := Ideal) x0 x1 x3 x4 (ix5 b c l g n) * val_main_v145 (F := Ideal) x0 x1 x3 x4 (ix5 b c s g n) := by
    refine held fun R hR => ?_
    pointwise [val_main_v160]
    refine Eq.trans ?_ hR
    with_reducible rfl
  have ei : idx_main_v161 (idx_main_v162 (ix6 b c g r l s)) = ix5 b c g l s := by
    funext a
    match a with
    | ⟨0, _⟩ => rfl
    | ⟨1, _⟩ => rfl
    | ⟨2, _⟩ => rfl
    | ⟨3, _⟩ => rfl
    | ⟨4, _⟩ => rfl
  rw [val_main_v163_apply, val_main_v162_apply, val_main_v161_apply, ei, ed, r159 h]
  simp only [r147 h, r145 h]
  rfl

/-- What a chunk's tokens give one another. -/
theorem r165 (h : Args p X b x0 x1 x2 x3 x4 x5 x6 x7 x8 x9 x10 x11 x12 x13 x14) (c : Fin 8) (l : Fin 256) (g : Fin 8) (r : Fin 4) (i : Fin 64) :
    val_main_v165 (F := Ideal) x0 x1 x3 x4 x5 x6 (ix6 b c l g r i) = ∑ s : Fin 256, (actS p X (256 * c.val + s.val) ⟨256 * g.val + (64 * r.val + i.val), by omega⟩ * dtS p X (256 * c.val + s.val) ⟨4 * g.val + r.val, by omega⟩)
      * ((∑ n : Fin 128, actS p X (256 * c.val + l.val) (ccol g n) * actS p X (256 * c.val + s.val) (bcol g n)) * Ideal.exp (seg (csS p X c.val l.val ⟨4 * g.val + r.val, by omega⟩) (csS p X c.val s.val ⟨4 * g.val + r.val, by omega⟩) l s)) := by
  simp only [← r163 h, ← r141 h]
  refine held fun R hR => ?_
  pointwise [val_main_v165, val_main_v164]
  refine Eq.trans ?_ hR
  with_reducible rfl

/-- What a token adds to its chunk's state, without its row. -/
theorem r172 (h : Args p X b x0 x1 x2 x3 x4 x5 x6 x7 x8 x9 x10 x11 x12 x13 x14) (c g : Fin 8) (r : Fin 4) (i : Fin 64) (l : Fin 256) :
    val_main_v172 (F := Ideal) x0 x1 x3 x4 x5 x6 (ix6 b c l g r i) = Ideal.exp (csS p X c.val (255 : Fin 256).val ⟨4 * g.val + r.val, by omega⟩ - csS p X c.val l.val ⟨4 * g.val + r.val, by omega⟩)
      * (actS p X (256 * c.val + l.val) ⟨256 * g.val + (64 * r.val + i.val), by omega⟩ * dtS p X (256 * c.val + l.val) ⟨4 * g.val + r.val, by omega⟩) := by
  have e1 : idx_main_v170 (idx_main_v171 (ix6 b c l g r i)) = ix5 b c l g r := by
    funext a
    match a with
    | ⟨0, _⟩ => rfl
    | ⟨1, _⟩ => rfl
    | ⟨2, _⟩ => rfl
    | ⟨3, _⟩ => rfl
    | ⟨4, _⟩ => rfl
  have e2 : idx_main_v166 (idx_main_v167 (ix5 b c l g r)) = ix5 b c 255 g r := by
    funext a
    match a with
    | ⟨0, _⟩ => rfl
    | ⟨1, _⟩ => rfl
    | ⟨2, _⟩ => rfl
    | ⟨3, _⟩ => rfl
    | ⟨4, _⟩ => rfl
  rw [val_main_v172_apply, val_main_v171_apply, val_main_v170_apply, e1, val_main_v169_apply, val_main_v168_apply, val_main_v167_apply, val_main_v166_apply, e2, r148 h, r148 h, r141 h]
  rfl

/-- What a chunk's tokens add to the state. -/
theorem r173 (h : Args p X b x0 x1 x2 x3 x4 x5 x6 x7 x8 x9 x10 x11 x12 x13 x14) (c g : Fin 8) (r : Fin 4) (i : Fin 64) (n : Fin 128) :
    val_main_v173 (F := Ideal) x0 x1 x3 x4 x5 x6 (ix6 b c g r i n) = ∑ l : Fin 256, (Ideal.exp (csS p X c.val 255 ⟨4 * g.val + r.val, by omega⟩ - csS p X c.val l.val ⟨4 * g.val + r.val, by omega⟩)
      * (actS p X (256 * c.val + l.val) ⟨256 * g.val + (64 * r.val + i.val), by omega⟩ * dtS p X (256 * c.val + l.val) ⟨4 * g.val + r.val, by omega⟩)) * actS p X (256 * c.val + l.val) (bcol g n) := by
  have ed : val_main_v173 (F := Ideal) x0 x1 x3 x4 x5 x6 (ix6 b c g r i n) = ∑ l : Fin 256, val_main_v172 (F := Ideal) x0 x1 x3 x4 x5 x6 (ix6 b c l g r i) * val_main_v145 (F := Ideal) x0 x1 x3 x4 (ix5 b c l g n) := by
    refine held fun R hR => ?_
    pointwise [val_main_v173]
    refine Eq.trans ?_ hR
    with_reducible rfl
  rw [ed]
  simp only [r172 h, r145 h, show ((255 : Fin 256) : ℕ) = 255 from rfl]

/-- The decay over a whole chunk. -/
theorem r176 (h : Args p X b x0 x1 x2 x3 x4 x5 x6 x7 x8 x9 x10 x11 x12 x13 x14) (c g : Fin 8) (r : Fin 4) :
    val_main_v176 (F := Ideal) x0 x1 x5 x6 (ix4 b c g r) = Ideal.exp (csS p X c.val 255 ⟨4 * g.val + r.val, by omega⟩) := by
  have e1 : val_main_v175 (F := Ideal) x0 x1 x5 x6 (ix4 b c g r) = val_main_v174 (F := Ideal) x0 x1 x5 x6 (ix5 b c 0 g r) := by
    unfold val_main_v175
    generalize val_main_v174 (F := Ideal) x0 x1 x5 x6 = u
    refine held fun R hR => ?_
    pointwise
    refine Eq.trans ?_ hR
    blk_ext
  have e2 : idx_main_v174 (ix5 b c (0 : Fin 1) g r) = ix5 b c 255 g r := by
    funext a
    match a with
    | ⟨0, _⟩ => rfl
    | ⟨1, _⟩ => rfl
    | ⟨2, _⟩ => rfl
    | ⟨3, _⟩ => rfl
    | ⟨4, _⟩ => rfl
  rw [val_main_v176_apply, e1, val_main_v174_apply, e2, r148 h]
  rfl

/-- One step of the state. -/
theorem st_succ (c g : Fin 8) (r : Fin 4) (i : Fin 64) (n : Fin 128) :
    Ideal.exp (csS p X c.val 255 ⟨4 * g.val + r.val, by omega⟩) * stS p X c.val g n ⟨64 * r.val + i.val, by omega⟩ + ∑ l : Fin 256, (Ideal.exp (csS p X c.val 255 ⟨4 * g.val + r.val, by omega⟩ - csS p X c.val l.val ⟨4 * g.val + r.val, by omega⟩)
      * (actS p X (256 * c.val + l.val) ⟨256 * g.val + (64 * r.val + i.val), by omega⟩ * dtS p X (256 * c.val + l.val) ⟨4 * g.val + r.val, by omega⟩)) * actS p X (256 * c.val + l.val) (bcol g n)
      = stS p X (c.val + 1) g n ⟨64 * r.val + i.val, by omega⟩ := by
  show _ = stC _ _ _ (stS p X c.val) g n _
  unfold stC
  rw [hcol_eq]
  dsimp only [xcol]
  rw [show ((255 : Fin 256) : ℕ) = 255 from rfl]
  refine congrArg₂ (· + ·) (mul_comm _ _) (Finset.sum_congr rfl fun s _ => ?_)
  rw [mul_comm _ (actS p X (256 * c.val + s.val) (bcol g n)), mul_comm (dtS p X (256 * c.val + s.val) ⟨4 * g.val + r.val, by omega⟩) (Ideal.exp _), ← mul_assoc, ← mul_assoc]
  rw [← mul_assoc, mul_assoc _ (actS p X (256 * c.val + s.val) ⟨256 * g.val + (64 * r.val + i.val), by omega⟩), mul_comm (actS p X (256 * c.val + s.val) ⟨256 * g.val + (64 * r.val + i.val), by omega⟩), ← mul_assoc]

/-- The state entering the first chunk. -/
theorem st0 (g : Fin 8) (r : Fin 4) (i : Fin 64) (n : Fin 128) :
    val_main_v179 (F := Ideal) (ix5 b g r i n) = stS p X 0 g n ⟨64 * r.val + i.val, by omega⟩ := by
  unfold stS
  pointwise [val_main_v179, val_main_cst_16]

/-- The state entering chunk 1. -/
theorem st1 (h : Args p X b x0 x1 x2 x3 x4 x5 x6 x7 x8 x9 x10 x11 x12 x13 x14) (g : Fin 8) (r : Fin 4) (i : Fin 64) (n : Fin 128) :
    val_main_v187 (F := Ideal) x0 x1 x3 x4 x5 x6 (ix5 b g r i n) = stS p X 1 g n ⟨64 * r.val + i.val, by omega⟩ := by
  have e : val_main_v176 (F := Ideal) x0 x1 x5 x6 (ix4 b 0 g r) * stS p X 0 g n ⟨64 * r.val + i.val, by omega⟩ + val_main_v173 (F := Ideal) x0 x1 x3 x4 x5 x6 (ix6 b 0 g r i n) = stS p X 1 g n ⟨64 * r.val + i.val, by omega⟩ := by
    rw [r173 h 0 g r i n, r176 h 0 g r]
    exact st_succ (p := p) (X := X) 0 g r i n
  have ea : val_main_v183 (F := Ideal) x0 x1 x5 x6 (ix5 b g r i n) = val_main_v176 (F := Ideal) x0 x1 x5 x6 (ix4 b 0 g r) := by
    unfold val_main_v183 val_main_v182 val_main_v181 val_main_v180
    generalize val_main_v176 (F := Ideal) x0 x1 x5 x6 = u
    refine held fun R hR => ?_
    pointwise
    refine Eq.trans ?_ hR
    with_reducible rfl
  have eb : val_main_v186 (F := Ideal) x0 x1 x3 x4 x5 x6 (ix5 b g r i n) = val_main_v173 (F := Ideal) x0 x1 x3 x4 x5 x6 (ix6 b 0 g r i n) := by
    unfold val_main_v186 val_main_v185
    generalize val_main_v173 (F := Ideal) x0 x1 x3 x4 x5 x6 = u
    refine held fun R hR => ?_
    pointwise
    refine Eq.trans ?_ hR
    with_reducible rfl
  rw [val_main_v187_apply, val_main_v184_apply, ea, eb, st0 (p := p) (X := X)]
  exact e

/-- The state entering chunk 2. -/
theorem st2 (h : Args p X b x0 x1 x2 x3 x4 x5 x6 x7 x8 x9 x10 x11 x12 x13 x14) (g : Fin 8) (r : Fin 4) (i : Fin 64) (n : Fin 128) :
    val_main_v195 (F := Ideal) x0 x1 x3 x4 x5 x6 (ix5 b g r i n) = stS p X 2 g n ⟨64 * r.val + i.val, by omega⟩ := by
  have e : val_main_v176 (F := Ideal) x0 x1 x5 x6 (ix4 b 1 g r) * stS p X 1 g n ⟨64 * r.val + i.val, by omega⟩ + val_main_v173 (F := Ideal) x0 x1 x3 x4 x5 x6 (ix6 b 1 g r i n) = stS p X 2 g n ⟨64 * r.val + i.val, by omega⟩ := by
    rw [r173 h 1 g r i n, r176 h 1 g r]
    exact st_succ (p := p) (X := X) 1 g r i n
  have ea : val_main_v191 (F := Ideal) x0 x1 x5 x6 (ix5 b g r i n) = val_main_v176 (F := Ideal) x0 x1 x5 x6 (ix4 b 1 g r) := by
    unfold val_main_v191 val_main_v190 val_main_v189 val_main_v188
    generalize val_main_v176 (F := Ideal) x0 x1 x5 x6 = u
    refine held fun R hR => ?_
    pointwise
    refine Eq.trans ?_ hR
    with_reducible rfl
  have eb : val_main_v194 (F := Ideal) x0 x1 x3 x4 x5 x6 (ix5 b g r i n) = val_main_v173 (F := Ideal) x0 x1 x3 x4 x5 x6 (ix6 b 1 g r i n) := by
    unfold val_main_v194 val_main_v193
    generalize val_main_v173 (F := Ideal) x0 x1 x3 x4 x5 x6 = u
    refine held fun R hR => ?_
    pointwise
    refine Eq.trans ?_ hR
    with_reducible rfl
  rw [val_main_v195_apply, val_main_v192_apply, ea, eb, st1 h]
  exact e

/-- The state entering chunk 3. -/
theorem st3 (h : Args p X b x0 x1 x2 x3 x4 x5 x6 x7 x8 x9 x10 x11 x12 x13 x14) (g : Fin 8) (r : Fin 4) (i : Fin 64) (n : Fin 128) :
    val_main_v203 (F := Ideal) x0 x1 x3 x4 x5 x6 (ix5 b g r i n) = stS p X 3 g n ⟨64 * r.val + i.val, by omega⟩ := by
  have e : val_main_v176 (F := Ideal) x0 x1 x5 x6 (ix4 b 2 g r) * stS p X 2 g n ⟨64 * r.val + i.val, by omega⟩ + val_main_v173 (F := Ideal) x0 x1 x3 x4 x5 x6 (ix6 b 2 g r i n) = stS p X 3 g n ⟨64 * r.val + i.val, by omega⟩ := by
    rw [r173 h 2 g r i n, r176 h 2 g r]
    exact st_succ (p := p) (X := X) 2 g r i n
  have ea : val_main_v199 (F := Ideal) x0 x1 x5 x6 (ix5 b g r i n) = val_main_v176 (F := Ideal) x0 x1 x5 x6 (ix4 b 2 g r) := by
    unfold val_main_v199 val_main_v198 val_main_v197 val_main_v196
    generalize val_main_v176 (F := Ideal) x0 x1 x5 x6 = u
    refine held fun R hR => ?_
    pointwise
    refine Eq.trans ?_ hR
    with_reducible rfl
  have eb : val_main_v202 (F := Ideal) x0 x1 x3 x4 x5 x6 (ix5 b g r i n) = val_main_v173 (F := Ideal) x0 x1 x3 x4 x5 x6 (ix6 b 2 g r i n) := by
    unfold val_main_v202 val_main_v201
    generalize val_main_v173 (F := Ideal) x0 x1 x3 x4 x5 x6 = u
    refine held fun R hR => ?_
    pointwise
    refine Eq.trans ?_ hR
    with_reducible rfl
  rw [val_main_v203_apply, val_main_v200_apply, ea, eb, st2 h]
  exact e

/-- The state entering chunk 4. -/
theorem st4 (h : Args p X b x0 x1 x2 x3 x4 x5 x6 x7 x8 x9 x10 x11 x12 x13 x14) (g : Fin 8) (r : Fin 4) (i : Fin 64) (n : Fin 128) :
    val_main_v211 (F := Ideal) x0 x1 x3 x4 x5 x6 (ix5 b g r i n) = stS p X 4 g n ⟨64 * r.val + i.val, by omega⟩ := by
  have e : val_main_v176 (F := Ideal) x0 x1 x5 x6 (ix4 b 3 g r) * stS p X 3 g n ⟨64 * r.val + i.val, by omega⟩ + val_main_v173 (F := Ideal) x0 x1 x3 x4 x5 x6 (ix6 b 3 g r i n) = stS p X 4 g n ⟨64 * r.val + i.val, by omega⟩ := by
    rw [r173 h 3 g r i n, r176 h 3 g r]
    exact st_succ (p := p) (X := X) 3 g r i n
  have ea : val_main_v207 (F := Ideal) x0 x1 x5 x6 (ix5 b g r i n) = val_main_v176 (F := Ideal) x0 x1 x5 x6 (ix4 b 3 g r) := by
    unfold val_main_v207 val_main_v206 val_main_v205 val_main_v204
    generalize val_main_v176 (F := Ideal) x0 x1 x5 x6 = u
    refine held fun R hR => ?_
    pointwise
    refine Eq.trans ?_ hR
    with_reducible rfl
  have eb : val_main_v210 (F := Ideal) x0 x1 x3 x4 x5 x6 (ix5 b g r i n) = val_main_v173 (F := Ideal) x0 x1 x3 x4 x5 x6 (ix6 b 3 g r i n) := by
    unfold val_main_v210 val_main_v209
    generalize val_main_v173 (F := Ideal) x0 x1 x3 x4 x5 x6 = u
    refine held fun R hR => ?_
    pointwise
    refine Eq.trans ?_ hR
    with_reducible rfl
  rw [val_main_v211_apply, val_main_v208_apply, ea, eb, st3 h]
  exact e

/-- The state entering chunk 5. -/
theorem st5 (h : Args p X b x0 x1 x2 x3 x4 x5 x6 x7 x8 x9 x10 x11 x12 x13 x14) (g : Fin 8) (r : Fin 4) (i : Fin 64) (n : Fin 128) :
    val_main_v219 (F := Ideal) x0 x1 x3 x4 x5 x6 (ix5 b g r i n) = stS p X 5 g n ⟨64 * r.val + i.val, by omega⟩ := by
  have e : val_main_v176 (F := Ideal) x0 x1 x5 x6 (ix4 b 4 g r) * stS p X 4 g n ⟨64 * r.val + i.val, by omega⟩ + val_main_v173 (F := Ideal) x0 x1 x3 x4 x5 x6 (ix6 b 4 g r i n) = stS p X 5 g n ⟨64 * r.val + i.val, by omega⟩ := by
    rw [r173 h 4 g r i n, r176 h 4 g r]
    exact st_succ (p := p) (X := X) 4 g r i n
  have ea : val_main_v215 (F := Ideal) x0 x1 x5 x6 (ix5 b g r i n) = val_main_v176 (F := Ideal) x0 x1 x5 x6 (ix4 b 4 g r) := by
    unfold val_main_v215 val_main_v214 val_main_v213 val_main_v212
    generalize val_main_v176 (F := Ideal) x0 x1 x5 x6 = u
    refine held fun R hR => ?_
    pointwise
    refine Eq.trans ?_ hR
    with_reducible rfl
  have eb : val_main_v218 (F := Ideal) x0 x1 x3 x4 x5 x6 (ix5 b g r i n) = val_main_v173 (F := Ideal) x0 x1 x3 x4 x5 x6 (ix6 b 4 g r i n) := by
    unfold val_main_v218 val_main_v217
    generalize val_main_v173 (F := Ideal) x0 x1 x3 x4 x5 x6 = u
    refine held fun R hR => ?_
    pointwise
    refine Eq.trans ?_ hR
    with_reducible rfl
  rw [val_main_v219_apply, val_main_v216_apply, ea, eb, st4 h]
  exact e

/-- The state entering chunk 6. -/
theorem st6 (h : Args p X b x0 x1 x2 x3 x4 x5 x6 x7 x8 x9 x10 x11 x12 x13 x14) (g : Fin 8) (r : Fin 4) (i : Fin 64) (n : Fin 128) :
    val_main_v227 (F := Ideal) x0 x1 x3 x4 x5 x6 (ix5 b g r i n) = stS p X 6 g n ⟨64 * r.val + i.val, by omega⟩ := by
  have e : val_main_v176 (F := Ideal) x0 x1 x5 x6 (ix4 b 5 g r) * stS p X 5 g n ⟨64 * r.val + i.val, by omega⟩ + val_main_v173 (F := Ideal) x0 x1 x3 x4 x5 x6 (ix6 b 5 g r i n) = stS p X 6 g n ⟨64 * r.val + i.val, by omega⟩ := by
    rw [r173 h 5 g r i n, r176 h 5 g r]
    exact st_succ (p := p) (X := X) 5 g r i n
  have ea : val_main_v223 (F := Ideal) x0 x1 x5 x6 (ix5 b g r i n) = val_main_v176 (F := Ideal) x0 x1 x5 x6 (ix4 b 5 g r) := by
    unfold val_main_v223 val_main_v222 val_main_v221 val_main_v220
    generalize val_main_v176 (F := Ideal) x0 x1 x5 x6 = u
    refine held fun R hR => ?_
    pointwise
    refine Eq.trans ?_ hR
    with_reducible rfl
  have eb : val_main_v226 (F := Ideal) x0 x1 x3 x4 x5 x6 (ix5 b g r i n) = val_main_v173 (F := Ideal) x0 x1 x3 x4 x5 x6 (ix6 b 5 g r i n) := by
    unfold val_main_v226 val_main_v225
    generalize val_main_v173 (F := Ideal) x0 x1 x3 x4 x5 x6 = u
    refine held fun R hR => ?_
    pointwise
    refine Eq.trans ?_ hR
    with_reducible rfl
  rw [val_main_v227_apply, val_main_v224_apply, ea, eb, st5 h]
  exact e

/-- The state entering chunk 7. -/
theorem st7 (h : Args p X b x0 x1 x2 x3 x4 x5 x6 x7 x8 x9 x10 x11 x12 x13 x14) (g : Fin 8) (r : Fin 4) (i : Fin 64) (n : Fin 128) :
    val_main_v235 (F := Ideal) x0 x1 x3 x4 x5 x6 (ix5 b g r i n) = stS p X 7 g n ⟨64 * r.val + i.val, by omega⟩ := by
  have e : val_main_v176 (F := Ideal) x0 x1 x5 x6 (ix4 b 6 g r) * stS p X 6 g n ⟨64 * r.val + i.val, by omega⟩ + val_main_v173 (F := Ideal) x0 x1 x3 x4 x5 x6 (ix6 b 6 g r i n) = stS p X 7 g n ⟨64 * r.val + i.val, by omega⟩ := by
    rw [r173 h 6 g r i n, r176 h 6 g r]
    exact st_succ (p := p) (X := X) 6 g r i n
  have ea : val_main_v231 (F := Ideal) x0 x1 x5 x6 (ix5 b g r i n) = val_main_v176 (F := Ideal) x0 x1 x5 x6 (ix4 b 6 g r) := by
    unfold val_main_v231 val_main_v230 val_main_v229 val_main_v228
    generalize val_main_v176 (F := Ideal) x0 x1 x5 x6 = u
    refine held fun R hR => ?_
    pointwise
    refine Eq.trans ?_ hR
    with_reducible rfl
  have eb : val_main_v234 (F := Ideal) x0 x1 x3 x4 x5 x6 (ix5 b g r i n) = val_main_v173 (F := Ideal) x0 x1 x3 x4 x5 x6 (ix6 b 6 g r i n) := by
    unfold val_main_v234 val_main_v233
    generalize val_main_v173 (F := Ideal) x0 x1 x3 x4 x5 x6 = u
    refine held fun R hR => ?_
    pointwise
    refine Eq.trans ?_ hR
    with_reducible rfl
  rw [val_main_v235_apply, val_main_v232_apply, ea, eb, st6 h]
  exact e

/-- The states entering the chunks. -/
theorem r252 (h : Args p X b x0 x1 x2 x3 x4 x5 x6 x7 x8 x9 x10 x11 x12 x13 x14) (c g : Fin 8) (r : Fin 4) (i : Fin 64) (n : Fin 128) :
    val_main_v252 (F := Ideal) x0 x1 x3 x4 x5 x6 (ix6 b c g r i n) = stS p X c.val g n ⟨64 * r.val + i.val, by omega⟩ := by
  match c with
  | ⟨0, _⟩ => exact (show _ = val_main_v179 (F := Ideal) (ix5 b g r i n) by pointwise [val_main_v252, val_main_v244]).trans (st0 g r i n)
  | ⟨1, _⟩ => exact (show _ = val_main_v187 (F := Ideal) x0 x1 x3 x4 x5 x6 (ix5 b g r i n) by pointwise [val_main_v252, val_main_v245]).trans (st1 h g r i n)
  | ⟨2, _⟩ => exact (show _ = val_main_v195 (F := Ideal) x0 x1 x3 x4 x5 x6 (ix5 b g r i n) by pointwise [val_main_v252, val_main_v246]).trans (st2 h g r i n)
  | ⟨3, _⟩ => exact (show _ = val_main_v203 (F := Ideal) x0 x1 x3 x4 x5 x6 (ix5 b g r i n) by pointwise [val_main_v252, val_main_v247]).trans (st3 h g r i n)
  | ⟨4, _⟩ => exact (show _ = val_main_v211 (F := Ideal) x0 x1 x3 x4 x5 x6 (ix5 b g r i n) by pointwise [val_main_v252, val_main_v248]).trans (st4 h g r i n)
  | ⟨5, _⟩ => exact (show _ = val_main_v219 (F := Ideal) x0 x1 x3 x4 x5 x6 (ix5 b g r i n) by pointwise [val_main_v252, val_main_v249]).trans (st5 h g r i n)
  | ⟨6, _⟩ => exact (show _ = val_main_v227 (F := Ideal) x0 x1 x3 x4 x5 x6 (ix5 b g r i n) by pointwise [val_main_v252, val_main_v250]).trans (st6 h g r i n)
  | ⟨7, _⟩ => exact (show _ = val_main_v235 (F := Ideal) x0 x1 x3 x4 x5 x6 (ix5 b g r i n) by pointwise [val_main_v252, val_main_v251]).trans (st7 h g r i n)

/-- The state branch before the skip, by chunk. -/
theorem r259 (h : Args p X b x0 x1 x2 x3 x4 x5 x6 x7 x8 x9 x10 x11 x12 x13 x14) (c : Fin 8) (l : Fin 256) (g : Fin 8) (r : Fin 4) (i : Fin 64) :
    val_main_v259 (F := Ideal) x0 x1 x3 x4 x5 x6 (ix6 b c l g r i) = val_main_v165 (F := Ideal) x0 x1 x3 x4 x5 x6 (ix6 b c l g r i)
      + (∑ n : Fin 128, stS p X c.val g n ⟨64 * r.val + i.val, by omega⟩ * actS p X (256 * c.val + l.val) (ccol g n)) * Ideal.exp (csS p X c.val l.val ⟨4 * g.val + r.val, by omega⟩) := by
  have ed : val_main_v253 (F := Ideal) x0 x1 x3 x4 x5 x6 (ix6 b c g r i l) = ∑ n : Fin 128, val_main_v252 (F := Ideal) x0 x1 x3 x4 x5 x6 (ix6 b c g r i n) * val_main_v147 (F := Ideal) x0 x1 x3 x4 (ix5 b c l g n) := by
    refine held fun R hR => ?_
    pointwise [val_main_v253]
    refine Eq.trans ?_ hR
    with_reducible rfl
  have et : val_main_v254 (F := Ideal) x0 x1 x3 x4 x5 x6 (ix6 b c l g r i) = val_main_v253 (F := Ideal) x0 x1 x3 x4 x5 x6 (ix6 b c g r i l) := by
    unfold val_main_v254
    generalize val_main_v253 (F := Ideal) x0 x1 x3 x4 x5 x6 = u
    refine held fun R hR => ?_
    pointwise
    refine Eq.trans ?_ hR
    with_reducible rfl
  have ei : idx_main_v256 (idx_main_v257 (ix6 b c l g r i)) = ix5 b c l g r := by
    funext a
    match a with
    | ⟨0, _⟩ => rfl
    | ⟨1, _⟩ => rfl
    | ⟨2, _⟩ => rfl
    | ⟨3, _⟩ => rfl
    | ⟨4, _⟩ => rfl
  rw [val_main_v259_apply, val_main_v258_apply, val_main_v257_apply, val_main_v256_apply, val_main_v255_apply, ei, et, ed]
  simp only [r252 h, r147 h, r148 h]
  rfl

/-- The state branch before the gate. -/
theorem r265 (h : Args p X b x0 x1 x2 x3 x4 x5 x6 x7 x8 x9 x10 x11 x12 x13 x14) (c : Fin 8) (l : Fin 256) (g : Fin 8) (r : Fin 4) (i : Fin 64) :
    val_main_v265 (F := Ideal) x0 x1 x3 x4 x5 x6 x7 (ix5 b (⟨256 * c.val + l.val, by omega⟩ : Fin 2048) g r i) = preS p X c.val g l ⟨64 * r.val + i.val, by omega⟩ := by
  have e1 := r122 h (⟨256 * c.val + l.val, by omega⟩ : Fin 2048) g r i
  have e2 := h.dk ⟨4 * g.val + r.val, by omega⟩
  have e : val_main_v265 (F := Ideal) x0 x1 x3 x4 x5 x6 x7 (ix5 b (⟨256 * c.val + l.val, by omega⟩ : Fin 2048) g r i)
      = val_main_v259 (F := Ideal) x0 x1 x3 x4 x5 x6 (ix6 b c l g r i) + x7 (ix2 0 ⟨4 * g.val + r.val, by omega⟩) * val_main_v122 (F := Ideal) x0 x1 x3 x4 (ix5 b (⟨256 * c.val + l.val, by omega⟩ : Fin 2048) g r i) := by
    have ea : val_main_v260 (F := Ideal) x0 x1 x3 x4 x5 x6 (ix5 b (⟨256 * c.val + l.val, by omega⟩ : Fin 2048) g r i) = val_main_v259 (F := Ideal) x0 x1 x3 x4 x5 x6 (ix6 b c l g r i) := by
      unfold val_main_v260
      generalize val_main_v259 (F := Ideal) x0 x1 x3 x4 x5 x6 = u
      refine held fun R hR => ?_
      pointwise
      refine Eq.trans ?_ hR
      blk_ext
    have ei : idx_main_v261 (idx_main_v262 (idx_main_v263 (ix5 b (⟨256 * c.val + l.val, by omega⟩ : Fin 2048) g r i))) = ix2 g r := by
      funext a
      match a with
      | ⟨0, _⟩ => rfl
      | ⟨1, _⟩ => rfl
    have ex : val_main_v133 (F := Ideal) x7 (ix2 g r) = x7 (ix2 0 ⟨4 * g.val + r.val, by omega⟩) := by
      refine held fun R hR => ?_
      pointwise [val_main_v133, val_main_v6]
      refine Eq.trans ?_ hR
      blk_ext
    rw [val_main_v265_apply, val_main_v264_apply, val_main_v263_apply, val_main_v262_apply, val_main_v261_apply, ei, ea, ex]
    rfl
  rw [e, e1, e2, r259 h, r165 h]
  unfold preS preC
  rw [hcol_eq]
  dsimp only [xcol]
  have ed : (⟨(256 * g.val + (64 * r.val + i.val)) / 64, by omega⟩ : Fin 32) = ⟨4 * g.val + r.val, by omega⟩ := Fin.ext (by show (256 * g.val + (64 * r.val + i.val)) / 64 = 4 * g.val + r.val; omega)
  rw [ed]
  refine congrArg₂ (· + ·) (congrArg₂ (· + ·) (Finset.sum_congr rfl fun s _ => ?_) ?_) rfl
  · ac_rfl
  · exact congrArg (· * _) (Finset.sum_congr rfl fun n _ => mul_comm _ _)

end Cert.Mix
end
-- ==== Proof.RefOut.lean ====
/- The plain reference read at an index: the gate, the projections and the layer's output. -/
module

public import proofs.«01_k».proof.Proof.RefState

@[expose] public section

set_option maxRecDepth 16384

noncomputable section

namespace Cert.Mix

open Idealize Idealize.ShloMosaic Idealize.ShloMosaic.TcCoe Idealize.ShloMosaic.Tactic
open Cert.ReferenceIdeal Cert.ReferenceIdeal.Gen Cert.ReferenceIdeal.Read

variable {p : Par} {X : ℕ → Fin 1024 → EReal} {b : Fin 32} {x0 : FVec Ideal S32x2048x1024 .f32} {x1 : FVec Ideal S1x1024x9248 .f32}
    {x2 : FVec Ideal S1x2048 .f32} {x3 : FVec Ideal S1x4x4096 .f32} {x4 : FVec Ideal S1x4096 .f32} {x5 x6 x7 : FVec Ideal S1x32 .f32}
    {x8 : FVec Ideal S1x2048 .f32} {x9 : FVec Ideal S1x2048x1024 .f32} {x10 : FVec Ideal S1x4x256x256 .f32} {x11 : FVec Ideal S1x1024 .f32}
    {x12 : FVec Ideal S1x1024x1024 .f32} {x13 x14 : FVec Ideal S1x1024 .f32}

/-- The gated state branch. -/
theorem r269 (h : Args p X b x0 x1 x2 x3 x4 x5 x6 x7 x8 x9 x10 x11 x12 x13 x14) (c : Fin 8) (l : Fin 256) (g : Fin 8) (q : Fin 256) :
    val_main_v269 (F := Ideal) x0 x1 x3 x4 x5 x6 x7 (ix4 b (⟨256 * c.val + l.val, by omega⟩ : Fin 2048) g q) = preS p X c.val g l q
      * (pr p X (256 * c.val + l.val) ⟨1024 + 256 * g.val + q.val, by omega⟩ * sig (pr p X (256 * c.val + l.val) ⟨1024 + 256 * g.val + q.val, by omega⟩)) := by
  have e1 := r265 h c l g ⟨(g.val * 256 + q.val) / 64 % 4, by omega⟩ ⟨(g.val * 256 + q.val) % 64, by omega⟩
  have eq : (⟨64 * ((g.val * 256 + q.val) / 64 % 4) + (g.val * 256 + q.val) % 64, by omega⟩ : Fin 256) = q :=
    Fin.ext (by show 64 * ((g.val * 256 + q.val) / 64 % 4) + (g.val * 256 + q.val) % 64 = q.val; omega)
  dsimp only at e1
  rw [eq] at e1
  have en : (⟨1024 + 256 * g.val + q.val, by omega⟩ : Fin 9248) = ⟨1024 + (g.val * 256 + q.val), by omega⟩ :=
    Fin.ext (by show 1024 + 256 * g.val + q.val = 1024 + (g.val * 256 + q.val); omega)
  rw [en]
  have e2 := r14 h (⟨256 * c.val + l.val, by omega⟩ : Fin 2048) ⟨1024 + (g.val * 256 + q.val), by omega⟩
  dsimp only at e2
  have ea : val_main_v269 (F := Ideal) x0 x1 x3 x4 x5 x6 x7 (ix4 b (⟨256 * c.val + l.val, by omega⟩ : Fin 2048) g q) = val_main_v268 (F := Ideal) x0 x1 x3 x4 x5 x6 x7 (ix3 b (⟨256 * c.val + l.val, by omega⟩ : Fin 2048) ⟨g.val * 256 + q.val, by omega⟩) := by
    unfold val_main_v269
    generalize val_main_v268 (F := Ideal) x0 x1 x3 x4 x5 x6 x7 = u
    refine held fun R hR => ?_
    pointwise
    refine Eq.trans ?_ hR
    with_reducible rfl
  have eb : val_main_v266 (F := Ideal) x0 x1 x3 x4 x5 x6 x7 (ix3 b (⟨256 * c.val + l.val, by omega⟩ : Fin 2048) ⟨g.val * 256 + q.val, by omega⟩)
      = val_main_v265 (F := Ideal) x0 x1 x3 x4 x5 x6 x7 (ix5 b (⟨256 * c.val + l.val, by omega⟩ : Fin 2048) g ⟨(g.val * 256 + q.val) / 64 % 4, by omega⟩ ⟨(g.val * 256 + q.val) % 64, by omega⟩) := by
    unfold val_main_v266
    generalize val_main_v265 (F := Ideal) x0 x1 x3 x4 x5 x6 x7 = u
    refine held fun R hR => ?_
    pointwise
    refine Eq.trans ?_ hR
    blk_ext
  have ec : val_main_v16 (F := Ideal) x0 x1 (ix3 b (⟨256 * c.val + l.val, by omega⟩ : Fin 2048) ⟨g.val * 256 + q.val, by omega⟩) = val_main_v14 (F := Ideal) x0 x1 (ix3 b (⟨256 * c.val + l.val, by omega⟩ : Fin 2048) ⟨1024 + (g.val * 256 + q.val), by omega⟩) := by
    unfold val_main_v16
    generalize val_main_v14 (F := Ideal) x0 x1 = u
    refine held fun R hR => ?_
    pointwise
    refine Eq.trans ?_ hR
    with_reducible rfl
  have es : val_main_call16_v5 (F := Ideal) x0 x1 (ix3 b (⟨256 * c.val + l.val, by omega⟩ : Fin 2048) ⟨g.val * 256 + q.val, by omega⟩) = sig (val_main_v16 (F := Ideal) x0 x1 (ix3 b (⟨256 * c.val + l.val, by omega⟩ : Fin 2048) ⟨g.val * 256 + q.val, by omega⟩)) := by
    have one : Ideal.ofBits .f32 0x3F800000#32 = 1 := by
      simp [Ideal.ofBits, Ideal.ieee]
      rw [← EReal.coe_mul, ← EReal.coe_one]
      exact congrArg _ (by norm_num)
    unfold sig
    rw [zero_sub, one]
    unfold val_main_call16_v5 val_main_call16_v4 val_main_call16_v3 val_main_call16_v2 val_main_call16_v1 val_main_call16_v0
    generalize val_main_v16 (F := Ideal) x0 x1 = u
    refine held fun R hR => ?_
    pointwise [val_main_call16_cst, val_main_call16_cst_0]
    refine Eq.trans ?_ hR
    with_reducible rfl
  rw [ea, val_main_v268_apply, val_main_v267_apply, eb, es, ec, e1, e2]
  rfl

/-- The sums of squares of the gated state branch. -/
theorem r271 (n : Fin 2048) (g : Fin 8) : val_main_v271 (F := Ideal) x0 x1 x3 x4 x5 x6 x7 (ix3 b n g)
    = ∑ q : Fin 256, val_main_v269 (F := Ideal) x0 x1 x3 x4 x5 x6 x7 (ix4 b n g q) * val_main_v269 (F := Ideal) x0 x1 x3 x4 x5 x6 x7 (ix4 b n g q) := by
  unfold val_main_v271
  generalize hv : val_main_v270 (F := Ideal) x0 x1 x3 x4 x5 x6 x7 = v
  refine Eq.trans (b := ∑ q : Fin 256, v (ix4 b n g q)) ?_ ?_
  · refine held fun R hR => ?_
    pointwise [val_main_cst_17]
    refine Eq.trans ?_ hR
    with_reducible rfl
  · subst hv
    exact Finset.sum_congr rfl fun q _ => val_main_v270_apply _ _ _ _ _ _ _ _

/-- One over the root of their mean. -/
theorem r277 (n : Fin 2048) (g : Fin 8) : val_main_v277 (F := Ideal) x0 x1 x3 x4 x5 x6 x7 (ix4 b n g 0)
    = Ideal.rsqrt (Ideal.div (∑ q : Fin 256, val_main_v269 (F := Ideal) x0 x1 x3 x4 x5 x6 x7 (ix4 b n g q) * val_main_v269 (F := Ideal) x0 x1 x3 x4 x5 x6 x7 (ix4 b n g q)) (Ideal.ofBits .f32 0x43800000#32) + Ideal.ofBits .f32 0x3727C5AC#32) := by
  rw [← r271]
  unfold val_main_v277 val_main_v276 val_main_v275 val_main_v274 val_main_v273 val_main_v272
  generalize val_main_v271 (F := Ideal) x0 x1 x3 x4 x5 x6 x7 = u
  refine held fun R hR => ?_
  pointwise [val_main_cst_18, val_main_cst_19]
  refine Eq.trans ?_ hR
  with_reducible rfl

/-- The normalised branch, by group. -/
theorem r279 (n : Fin 2048) (g : Fin 8) (q : Fin 256) : val_main_v279 (F := Ideal) x0 x1 x3 x4 x5 x6 x7 (ix4 b n g q)
    = val_main_v269 (F := Ideal) x0 x1 x3 x4 x5 x6 x7 (ix4 b n g q) * val_main_v277 (F := Ideal) x0 x1 x3 x4 x5 x6 x7 (ix4 b n g 0) := by
  rw [val_main_v279_apply, val_main_v278_apply]
  refine congrArg (fun v => FloatOps.mulf (F := Ideal) (φ := .f32) _ (val_main_v277 (F := Ideal) x0 x1 x3 x4 x5 x6 x7 v)) ?_
  funext a
  match a with
  | ⟨0, _⟩ => rfl
  | ⟨1, _⟩ => rfl
  | ⟨2, _⟩ => rfl
  | ⟨3, _⟩ => rfl

/-- The normalised branch, flat. -/
theorem r280 (n j : Fin 2048) : val_main_v280 (F := Ideal) x0 x1 x3 x4 x5 x6 x7 (ix3 b n j)
    = val_main_v279 (F := Ideal) x0 x1 x3 x4 x5 x6 x7 (ix4 b n ⟨j.val / 256, by omega⟩ ⟨j.val % 256, by omega⟩) := by
  unfold val_main_v280
  generalize val_main_v279 (F := Ideal) x0 x1 x3 x4 x5 x6 x7 = u
  refine held fun R hR => ?_
  pointwise
  refine Eq.trans ?_ hR
  with_reducible rfl

/-- The state branch, gated and normalised. -/
theorem r283 (h : Args p X b x0 x1 x2 x3 x4 x5 x6 x7 x8 x9 x10 x11 x12 x13 x14) (c : Fin 8) (l : Fin 256) (j : Fin 2048) :
    val_main_v283 (F := Ideal) x0 x1 x3 x4 x5 x6 x7 x8 (ix3 b (⟨256 * c.val + l.val, by omega⟩ : Fin 2048) j) = ynS p X c.val l j := by
  have e := r269 h c l ⟨j.val / 256, by omega⟩
  dsimp only at e
  have en : (⟨256 * (j.val / 256) + j.val % 256, by omega⟩ : Fin 2048) = j := Fin.ext (by show 256 * (j.val / 256) + j.val % 256 = j.val; omega)
  have ew : val_main_v7 (F := Ideal) x8 (idx_main_v281 (idx_main_v282 (ix3 b (⟨256 * c.val + l.val, by omega⟩ : Fin 2048) j))) = x8 (ix2 0 j) := by
    refine held fun R hR => ?_
    pointwise [val_main_v7, idx_main_v281, idx_main_v282]
    refine Eq.trans ?_ hR
    blk_ext
  unfold ynS normRow
  dsimp only
  simp only [← e]
  rw [en, ← h.nw, val_main_v283_apply, val_main_v282_apply, val_main_v281_apply, ew, r280, r279, r277]
  rfl

/-- The residual sum. -/
theorem r295 (h : Args p X b x0 x1 x2 x3 x4 x5 x6 x7 x8 x9 x10 x11 x12 x13 x14) (hr : ∀ n j, ∃ r : ℝ, prU p X n j = r) (c : Fin 8) (l : Fin 256) (j : Fin 1024) :
    val_main_v295 (F := Ideal) x0 x1 x2 x3 x4 x5 x6 x7 x8 x9 x10 x11 x12 (ix3 b (⟨256 * c.val + l.val, by omega⟩ : Fin 2048) j)
      = Ideal.ofBits .f32 0x3F9837F0#32 * X (256 * c.val + l.val) j + ∑ k : Fin 1024,
        (sig (pr p X (256 * c.val + l.val) ⟨7200 + k.val, by omega⟩ + p.bg ⟨k.val, by omega⟩) * yPool p X (256 * c.val + l.val) k
          + sig (pr p X (256 * c.val + l.val) ⟨8224 + k.val, by omega⟩ + p.bg ⟨1024 + k.val, by omega⟩) * ∑ i : Fin 2048, ynS p X c.val l i * p.ws i k) * p.wo k j := by
  have eg : ∀ k : Fin 1024, sig (pr p X (256 * c.val + l.val) ⟨7200 + k.val, by omega⟩ + p.bg ⟨k.val, by omega⟩) = val_main_v29 (F := Ideal) x0 x1 x2 (ix4 b (⟨256 * c.val + l.val, by omega⟩ : Fin 2048) 0 k) := by
    intro k
    rw [r29 h (⟨256 * c.val + l.val, by omega⟩ : Fin 2048) 0 k]
    simp only [Fin.val_zero, Nat.zero_mul, Nat.zero_add]
  have ef : ∀ k : Fin 1024, sig (pr p X (256 * c.val + l.val) ⟨8224 + k.val, by omega⟩ + p.bg ⟨1024 + k.val, by omega⟩) = val_main_v29 (F := Ideal) x0 x1 x2 (ix4 b (⟨256 * c.val + l.val, by omega⟩ : Fin 2048) 1 k) := by
    intro k
    rw [r29 h (⟨256 * c.val + l.val, by omega⟩ : Fin 2048) 1 k]
    simp only [Fin.val_one, Nat.one_mul, ← Nat.add_assoc, Nat.reduceAdd]
  have ex := h.x (⟨256 * c.val + l.val, by omega⟩ : Fin 2048) j
  have ep := r86 h hr (⟨256 * c.val + l.val, by omega⟩ : Fin 2048)
  dsimp only at ex ep
  simp only [eg, ef, ← ex, ← ep, ← r283 h, ← h.ws, ← h.wo]
  pointwise [val_main_v295, val_main_v294, val_main_v293, val_main_v292, val_main_v291, val_main_v290, val_main_v289, val_main_v288, val_main_v287, val_main_v286, val_main_v285, val_main_v284, val_main_v8, val_main_v11, val_main_cst_20]

/-- The layer's output. -/
theorem r319 (h : Args p X b x0 x1 x2 x3 x4 x5 x6 x7 x8 x9 x10 x11 x12 x13 x14) (hr : ∀ n j, ∃ r : ℝ, prU p X n j = r) (c : Fin 8) (l : Fin 256) (j : Fin 1024) :
    val_main_v319 (F := Ideal) x0 x1 x2 x3 x4 x5 x6 x7 x8 x9 x10 x11 x12 x13 x14 (ix3 b (⟨256 * c.val + l.val, by omega⟩ : Fin 2048) j) = outS p X c.val l j := by
  unfold outS outRow lnRow mean
  simp only [← r295 h hr, ← h.g, ← h.b]
  pointwise [val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v12, val_main_v13, val_main_cst_21, val_main_cst_22, val_main_cst_23, val_main_cst_24, val_main_cst_25]

end Cert.Mix
end
-- ==== Proof.MixClaim.lean ====
/- The token mixer's claims: the frames and the algebraic claim against the plain reference. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.PreFin
public import proofs.«01_k».proof.Proof.MixInv
public import proofs.«01_k».proof.Proof.RefOut

@[expose] public section

set_option maxRecDepth 16384

noncomputable section

namespace Cert.MixClaim

open Idealize.ShloMosaic Idealize.SL.Sem Idealize.ShloMosaic.TcCoe

/-- The token mixer over bit-exact floats leaves its arguments unchanged and every counter at zero. -/
theorem frame_kernel : Cert.quiescent_Kernel := fun m g _ => Cert.Kernel.Gen.frame m g

/-- The token mixer over the reals leaves its arguments unchanged and every counter at zero. -/
theorem frame_ideal : Cert.quiescent_KernelIdeal := fun m g _ => Cert.KernelIdeal.Gen.frame m g

/-- The same under the precondition. -/
theorem frame_ideal_pre : Cert.quiescent_KernelIdeal_pre_finite_inputs := fun m g _ => Cert.KernelIdeal.Gen.frame m g

/-- The reference leaves its arguments unchanged; it has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition. -/
theorem frame_reference_pre : Cert.quiescent_ReferenceIdeal_pre_finite_inputs := fun m g _ => frame_reference m g trivial

section
open Cert.ReferenceIdeal Cert.ReferenceIdeal.Read Cert.Mix

variable (x0 : FVec Ideal S32x2048x1024 .f32) (x1 : FVec Ideal S1x1024x9248 .f32)
    (x2 : FVec Ideal S1x2048 .f32) (x3 : FVec Ideal S1x4x4096 .f32) (x4 : FVec Ideal S1x4096 .f32) (x5 x6 x7 : FVec Ideal S1x32 .f32)
    (x8 : FVec Ideal S1x2048 .f32) (x9 : FVec Ideal S1x2048x1024 .f32) (x10 : FVec Ideal S1x4x256x256 .f32) (x11 : FVec Ideal S1x1024 .f32)
    (x12 : FVec Ideal S1x1024x1024 .f32) (x13 x14 : FVec Ideal S1x1024 .f32)

/-- The reference's arrays hold the tokens and the weights the layer's formula is stated of. -/
theorem args (b : Fin 32) : Args (parOf x1 x2 x3 x4 x5 x6 x7 x8 x9 x10 x11 x12 x13 x14) (rowOf x0 b) b x0 x1 x2 x3 x4 x5 x6 x7 x8 x9 x10 x11 x12 x13 x14 where
  x n k := by
    unfold rowOf
    rw [dif_pos n.isLt]
  wi _ _ := rfl
  bg _ := rfl
  cw _ _ := rfl
  cb _ := rfl
  dtb _ := rfl
  al _ := rfl
  dk _ := rfl
  nw _ := rfl
  ws _ _ := rfl
  wp _ _ _ := rfl
  ps _ := rfl
  wo _ _ := rfl
  g _ := rfl
  b _ := rfl

/-- The reference's result is the layer's formula at every index, when the tokens and the input projection are real. -/
theorem reference_eq (h0 : ∀ i, ∃ r : ℝ, x0 i = (r : EReal)) (h1 : ∀ i, ∃ r : ℝ, x1 i = (r : EReal)) :
    val_main_v319 (F := Ideal) x0 x1 x2 x3 x4 x5 x6 x7 x8 x9 x10 x11 x12 x13 x14
      = fun y => outS (parOf x1 x2 x3 x4 x5 x6 x7 x8 x9 x10 x11 x12 x13 x14) (rowOf x0 (y 0)) ((y 1).val / 256) ⟨(y 1).val % 256, Nat.mod_lt _ (by decide)⟩ (y 2) := by
  funext y
  have hn : (y 1).val < 2048 := (y 1).isLt
  have hr : ∀ n j, ∃ r : ℝ, prU (parOf x1 x2 x3 x4 x5 x6 x7 x8 x9 x10 x11 x12 x13 x14) (rowOf x0 (y 0)) n j = r := by
    intro n j
    refine pr_real (fun n k => ?_) (fun k j => h1 _) n _
    unfold rowOf
    split
    · exact h0 _
    · exact ⟨0, rfl⟩
  have e := r319 (args x0 x1 x2 x3 x4 x5 x6 x7 x8 x9 x10 x11 x12 x13 x14 (y 0)) hr ⟨(y 1).val / 256, by omega⟩ ⟨(y 1).val % 256, Nat.mod_lt _ (by decide)⟩ (y 2)
  refine Eq.trans (congrArg _ ?_) e
  funext a
  match a with
  | ⟨0, _⟩ => rfl
  | ⟨1, _⟩ => exact Fin.ext (show (y 1).val = 256 * ((y 1).val / 256) + (y 1).val % 256 by omega)
  | ⟨2, _⟩ => rfl

end

/-- Over the reals the token mixer's result is the reference's. -/
theorem algebraic : Cert.algebraic_KernelIdeal_ReferenceIdeal_pre_finite_inputs := by
  pair_intro
  · run_from Cert.KernelIdeal.Value.run_blocks m g
  · run_from Cert.ReferenceIdeal.Value.run m' g'
    rw [Cert.Mix.final m c]
    obtain ⟨h0, h1, h2, h3, h4, h5, h6, h7, h8, h9, h10, h11, h12, h13, h14⟩ := hagree c
    rw [← h13, ← h14]
    refine Eq.trans (show _ = Cert.ReferenceIdeal.Read.val_main_v319 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      from Cert.ReferenceIdeal.Read.val_main_v319_eq (StableHlo.launchContents m' c)) ?_
    rw [h0, h1, h2, h3, h4, h5, h6, h7, h8, h9, h10, h11, h12, h13, h14]
    exact reference_eq _ _ _ _ _ _ _ _ _ _ _ _ _ _ _ (Cert.Mix.real_tokens (hpre c).1) (Cert.Mix.real_weights (hpre c).2)

end Cert.MixClaim

end
-- ==== Proof.lean ====
/- The proof of the claims about the mixer (Kernel, ReferenceIdeal) and the MLP (Kernel2, Reference2Ideal): for each, the
   frames of the three programs, that the idealization preserves the kernel, and that the kernel and the reference compute
   the same over the reals. The mixer's equality has the precondition `finite_inputs`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_inputs
public import proofs.«01_k».proof.Proof.MlpClaim
public import proofs.«01_k».proof.Proof.MixClaim
public import Idealize.ShloMosaic.Adequacy
public import Idealize.ShloMosaic.Init

@[expose] public section

noncomputable section

namespace Cert.Proof

open Idealize.ShloMosaic Idealize.SL.Sem

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite_inputs.Gen.facts,
  MixClaim.frame_kernel, MixClaim.frame_ideal, MixClaim.frame_ideal_pre, MixClaim.frame_reference, MixClaim.frame_reference_pre, MlpClaim.frame_kernel, MlpClaim.frame_ideal, MlpClaim.frame_reference,
  trivial, MixClaim.algebraic, trivial, MlpClaim.algebraic⟩

end Cert.Proof

end
